-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v28_3)) (v1 : (c : Dev Cert.Kernel3Ideal.nD) → Buf (Elt Ideal) ((c.tc : Thread Cert.Kernel3Ideal.nD Cert.Kernel3Ideal.τ).loc Cert.Kernel3Ideal.main_v28_5)) (v2 : (c : Dev Cert.Kernel3Ideal.nD) → Buf (Elt Ideal) ((c.tc : Thread Cert.Kernel3Ideal.nD Cert.Kernel3Ideal.τ).loc Cert.Kernel3Ideal.main_v28_6)) (v3 : (c : Dev Cert.Kernel3Ideal.nD) → Buf (Elt Ideal) ((c.tc : Thread Cert.Kernel3Ideal.nD Cert.Kernel3Ideal.τ).loc Cert.Kernel3Ideal.main_v28_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28_3) = v0 c
          ∧ r.2.mem ((c.tc : Thread Cert.Kernel3Ideal.nD Cert.Kernel3Ideal.τ).loc Cert.Kernel3Ideal.main_v28_5) = v1 c
          ∧ r.2.mem ((c.tc : Thread Cert.Kernel3Ideal.nD Cert.Kernel3Ideal.τ).loc Cert.Kernel3Ideal.main_v28_6) = v2 c
          ∧ r.2.mem ((c.tc : Thread Cert.Kernel3Ideal.nD Cert.Kernel3Ideal.τ).loc Cert.Kernel3Ideal.main_v28_7) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v103) = v0 c
          ∧ r.2.mem ((c.tc : Thread Cert.Reference3Ideal.nD Cert.Reference3Ideal.τ).loc Cert.Reference3Ideal.main_v104) = v1 c
          ∧ r.2.mem ((c.tc : Thread Cert.Reference3Ideal.nD Cert.Reference3Ideal.τ).loc Cert.Reference3Ideal.main_v105) = v2 c
          ∧ r.2.mem ((c.tc : Thread Cert.Reference3Ideal.nD Cert.Reference3Ideal.τ).loc Cert.Reference3Ideal.main_v106) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16x2048x512 : Shape := ⟨3, ![16, 2048, 512]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel

variable [Facts]

def fn {F : FTy → Type} [FloatOps F] (main_arg0 : FVec F S16x2048x512 .f32) (main_arg1 : FVec F S16x2048x512 .f32) (main_arg2 : FVec F S16x2048x512 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x512 .f32 := Host.absf main_arg1
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_c_1 : IVec S_ 1 := constantI S_ 1 1#1
  let main_v7 : IVec S_ 1 := (fun x v => Host.reduce IntOp.andi x v reducesTo_S16x2048x512_S_d0_1_2 h_S_) main_v6 main_c_1
  let main_v8 : IVec S_ 1 := andi main_v3 main_v7
  main_v8
-- ==== Kernel.lean ====
abbrev S16x2048x512 : Shape := ⟨3, ![16, 2048, 512]⟩
abbrev S_ : Shape := ⟨0, ![]⟩
abbrev S1x2048x512 : Shape := ⟨3, ![1, 2048, 512]⟩
abbrev S4x144x2048 : Shape := ⟨3, ![4, 144, 2048]⟩
abbrev S8x256 : Shape := ⟨2, ![8, 256]⟩
abbrev S256x256 : Shape := ⟨2, ![256, 256]⟩
abbrev S1x256x128 : Shape := ⟨3, ![1, 256, 128]⟩
abbrev S256x128 : Shape := ⟨2, ![256, 128]⟩
abbrev S128 : Shape := ⟨1, ![128]⟩
abbrev S1x128 : Shape := ⟨2, ![1, 128]⟩
abbrev S8x128 : Shape := ⟨2, ![8, 128]⟩
abbrev S128x256 : Shape := ⟨2, ![128, 256]⟩
abbrev S1x128x256 : Shape := ⟨3, ![1, 128, 256]⟩
abbrev S16x2048 : Shape := ⟨2, ![16, 2048]⟩
abbrev S1x16x2048 : Shape := ⟨3, ![1, 16, 2048]⟩
abbrev S256 : Shape := ⟨1, ![256]⟩
abbrev S1x256 : Shape := ⟨2, ![1, 256]⟩
abbrev S144x256 : Shape := ⟨2, ![144, 256]⟩
abbrev S1x144x256 : Shape := ⟨3, ![1, 144, 256]⟩

abbrev nBuf : Space → Nat
  | .hbm => 14
  | .vmem => 9
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16x2048x512, .f32⟩
  | .hbm, ⟨9, _⟩ => ⟨S16x2048x512, .f32⟩
  | .hbm, ⟨10, _⟩ => ⟨S16x2048x512, .bf16⟩
  | .hbm, ⟨11, _⟩ => ⟨S16x2048x512, .bf16⟩
  | .hbm, ⟨12, _⟩ => ⟨S16x2048x512, .bf16⟩
  | .hbm, ⟨13, _⟩ => ⟨S16x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S4x144x2048, .bf16⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x2048x512 : Shape := ⟨3, ![16, 2048, 512]⟩
abbrev S16x2048x4x128 : Shape := ⟨4, ![16, 2048, 4, 128]⟩
abbrev S16x4x2048x128 : Shape := ⟨4, ![16, 4, 2048, 128]⟩
abbrev S16x4x8x256x128 : Shape := ⟨5, ![16, 4, 8, 256, 128]⟩
abbrev S_ : Shape := ⟨0, ![]⟩
abbrev S16x4x8x128 : Shape := ⟨4, ![16, 4, 8, 128]⟩
abbrev S16x4x2048x8 : Shape := ⟨4, ![16, 4, 2048, 8]⟩
abbrev S2048 : Shape := ⟨1, ![2048]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S16x4x2048x3 : Shape := ⟨4, ![16, 4, 2048, 3]⟩
abbrev S1x1x2048x1 : Shape := ⟨4, ![1, 1, 2048, 1]⟩
abbrev S16 : Shape := ⟨1, ![16]⟩
abbrev S16x1x1x1 : Shape := ⟨4, ![16, 1, 1, 1]⟩
abbrev S4 : Shape := ⟨1, ![4]⟩
abbrev S1x4x1x1 : Shape := ⟨4, ![1, 4, 1, 1]⟩
abbrev S16x4x2048x3x1 : Shape := ⟨5, ![16, 4, 2048, 3, 1]⟩
abbrev S16x4x2048x3x3 : Shape := ⟨5, ![16, 4, 2048, 3, 3]⟩
abbrev S16x4x2048x3x256x128 : Shape := ⟨6, ![16, 4, 2048, 3, 256, 128]⟩
abbrev S16x4x2048x3x256 : Shape := ⟨5, ![16, 4, 2048, 3, 256]⟩
abbrev S16x4x2048x768 : Shape := ⟨4, ![16, 4, 2048, 768]⟩
abbrev S16x4x2048x256x128 : Shape := ⟨5, ![16, 4, 2048, 256, 128]⟩
abbrev S16x4x2048x256 : Shape := ⟨4, ![16, 4, 2048, 256]⟩
abbrev S256 : Shape := ⟨1, ![256]⟩
abbrev S1x256 : Shape := ⟨2, ![1, 256]⟩
abbrev S2048x256 : Shape := ⟨2, ![2048, 256]⟩
abbrev S16x4x2048x1024 : Shape := ⟨4, ![16, 4, 2048, 1024]⟩
abbrev S16x4x2048 : Shape := ⟨3, ![16, 4, 2048]⟩
abbrev S16x4x2048x1 : Shape := ⟨4, ![16, 4, 2048, 1]⟩

abbrev nBuf : Space → Nat
  | .hbm => 189
  | .vmem => 0
  | .smem => 0
  | _ => 0

abbrev hbmTy0_0 (i : Nat) : BufTy := match i % 128 with
  | 0 => ⟨S16x2048x512, .f32⟩
  | 1 => ⟨S16x2048x512, .f32⟩
  | 2 => ⟨S16x2048x512, .f32⟩
  | 3 => ⟨S16x2048x4x128, .f32⟩
  | 4 => ⟨S16x4x2048x128, .f32⟩
  | 5 => ⟨S16x2048x4x128, .f32⟩
  | 6 => ⟨S16x4x2048x128, .f32⟩
  | 7 => ⟨S16x2048x4x128, .f32⟩
  | 8 => ⟨S16x4x2048x128, .f32⟩
  | 9 => ⟨S16x4x8x256x128, .f32⟩
  | 10 => ⟨S16x4x8x256x128, .f32⟩
  | 11 => ⟨S_, .f32⟩
  | 12 => ⟨S16x4x8x128, .f32⟩
  | 13 => ⟨S_, .f32⟩
  | 14 => ⟨S16x4x8x128, .f32⟩
  | 15 => ⟨S16x4x8x128, .f32⟩
  | 16 => ⟨S16x4x2048x8, .f32⟩
  | 17 => ⟨S2048, .i32⟩
  | 18 => ⟨S_, .i32⟩
  | 19 => ⟨S_, .i32⟩
  | 20 => ⟨S2048, .i32⟩
  | 21 => ⟨S2048, .i32⟩
  | 22 => ⟨S2048, .i32⟩
  | 23 => ⟨S_, .i32⟩
  | 24 => ⟨S2048, .i32⟩
  | 25 => ⟨S2048, .i1⟩
  | 26 => ⟨S2048, .i32⟩
  | 27 => ⟨S2048, .i32⟩
  | 28 => ⟨S_, .i32⟩
  | 29 => ⟨S2048, .i32⟩
  | 30 => ⟨S2048, .i1⟩
  | 31 => ⟨S2048, .i1⟩
  | 32 => ⟨S_, .i32⟩
  | 33 => ⟨S2048, .i32⟩
  | 34 => ⟨S2048, .i32⟩
  | 35 => ⟨S2048, .i32⟩
  | 36 => ⟨S8, .i32⟩
  | 37 => ⟨S1x8, .i32⟩
  | 38 => ⟨S2048x1, .i32⟩
  | 39 => ⟨S2048x8, .i32⟩
  | 40 => ⟨S2048x8, .i32⟩
  | 41 => ⟨S2048x8, .i1⟩
  | 42 => ⟨S_, .f32⟩
  | 43 => ⟨S_, .f32⟩
  | 44 => ⟨S16x4x2048x8, .i1⟩
  | 45 => ⟨S16x4x2048x8, .f32⟩
  | 46 => ⟨S16x4x2048x8, .f32⟩
  | 47 => ⟨S16x4x2048x3, .f32⟩
  | 48 => ⟨S16x4x2048x3, .i32⟩
  | 49 => ⟨S1x1x2048x1, .i32⟩
  | 50 => ⟨S16x4x2048x3, .i32⟩
  | 51 => ⟨S16x4x2048x3, .i1⟩
  | 52 => ⟨S_, .f32⟩
  | 53 => ⟨S_, .f32⟩
  | 54 => ⟨S_, .f32⟩
  | 55 => ⟨S_, .f32⟩
  | 56 => ⟨S16, .i32⟩
  | 57 => ⟨S16x1x1x1, .i32⟩
  | 58 => ⟨S4, .i32⟩
  | 59 => ⟨S1x4x1x1, .i32⟩
  | 60 => ⟨S_, .i32⟩
  | 61 => ⟨S16x1x1x1, .i32⟩
  | 62 => ⟨S16x1x1x1, .i1⟩
  | 63 => ⟨S_, .i32⟩
  | 64 => ⟨S16x1x1x1, .i32⟩
  | 65 => ⟨S16x1x1x1, .i32⟩
  | 66 => ⟨S16x1x1x1, .i32⟩
  | 67 => ⟨S_, .i32⟩
  | 68 => ⟨S1x4x1x1, .i32⟩
  | 69 => ⟨S1x4x1x1, .i1⟩
  | 70 => ⟨S_, .i32⟩
  | 71 => ⟨S1x4x1x1, .i32⟩
  | 72 => ⟨S1x4x1x1, .i32⟩
  | 73 => ⟨S1x4x1x1, .i32⟩
  | 74 => ⟨S_, .i32⟩
  | 75 => ⟨S16x4x2048x3, .i32⟩
  | 76 => ⟨S16x4x2048x3, .i1⟩
  | 77 => ⟨S_, .i32⟩
  | 78 => ⟨S16x4x2048x3, .i32⟩
  | 79 => ⟨S16x4x2048x3, .i32⟩
  | 80 => ⟨S16x4x2048x3, .i32⟩
  | 81 => ⟨S16x4x2048x3, .i32⟩
  | 82 => ⟨S16x4x2048x3, .i32⟩
  | 83 => ⟨S16x4x2048x3x1, .i32⟩
  | 84 => ⟨S16x4x2048x3x1, .i32⟩
  | 85 => ⟨S16x4x2048x3x1, .i32⟩
  | 86 => ⟨S16x4x2048x3x3, .i32⟩
  | 87 => ⟨S16x4x2048x3x256x128, .f32⟩
  | 88 => ⟨S_, .i32⟩
  | 89 => ⟨S16x1x1x1, .i32⟩
  | 90 => ⟨S16x1x1x1, .i1⟩
  | 91 => ⟨S_, .i32⟩
  | 92 => ⟨S16x1x1x1, .i32⟩
  | 93 => ⟨S16x1x1x1, .i32⟩
  | 94 => ⟨S16x1x1x1, .i32⟩
  | 95 => ⟨S_, .i32⟩
  | 96 => ⟨S1x4x1x1, .i32⟩
  | 97 => ⟨S1x4x1x1, .i1⟩
  | 98 => ⟨S_, .i32⟩
  | 99 => ⟨S1x4x1x1, .i32⟩
  | 100 => ⟨S1x4x1x1, .i32⟩
  | 101 => ⟨S1x4x1x1, .i32⟩
  | 102 => ⟨S_, .i32⟩
  | 103 => ⟨S16x4x2048x3, .i32⟩
  | 104 => ⟨S16x4x2048x3, .i1⟩
  | 105 => ⟨S_, .i32⟩
  | 106 => ⟨S16x4x2048x3, .i32⟩
  | 107 => ⟨S16x4x2048x3, .i32⟩
  | 108 => ⟨S16x4x2048x3, .i32⟩
  | 109 => ⟨S16x4x2048x3, .i32⟩
  | 110 => ⟨S16x4x2048x3, .i32⟩
  | 111 => ⟨S16x4x2048x3x1, .i32⟩
  | 112 => ⟨S16x4x2048x3x1, .i32⟩
  | 113 => ⟨S16x4x2048x3x1, .i32⟩
  | 114 => ⟨S16x4x2048x3x3, .i32⟩
  | 115 => ⟨S16x4x2048x3x256x128, .f32⟩
  | 116 => ⟨S16x4x2048x3x256, .f32⟩
  | 117 => ⟨S16x4x2048x3x256, .f32⟩
  | 118 => ⟨S16x4x2048x3x256, .f32⟩
  | 119 => ⟨S16x4x2048x3x1, .i1⟩
  | 120 => ⟨S_, .f32⟩
  | 121 => ⟨S_, .f32⟩
  | 122 => ⟨S16x4x2048x3x256, .i1⟩
  | 123 => ⟨S16x4x2048x3x256, .f32⟩
  | 124 => ⟨S16x4x2048x3x256, .f32⟩
  | 125 => ⟨S16x4x2048x768, .f32⟩
  | 126 => ⟨S_, .i32⟩
  | 127 => ⟨S2048, .i32⟩
  | _ => ⟨S16x2048x512, .f32⟩

abbrev hbmTy0_1 (i : Nat) : BufTy := match i % 128 with
  | 0 => ⟨S2048, .i1⟩
  | 1 => ⟨S_, .i32⟩
  | 2 => ⟨S2048, .i32⟩
  | 3 => ⟨S2048, .i32⟩
  | 4 => ⟨S2048, .i32⟩
  | 5 => ⟨S2048x1, .i32⟩
  | 6 => ⟨S16x4x2048x256x128, .f32⟩
  | 7 => ⟨S_, .i32⟩
  | 8 => ⟨S2048, .i32⟩
  | 9 => ⟨S2048, .i1⟩
  | 10 => ⟨S_, .i32⟩
  | 11 => ⟨S2048, .i32⟩
  | 12 => ⟨S2048, .i32⟩
  | 13 => ⟨S2048, .i32⟩
  | 14 => ⟨S2048x1, .i32⟩
  | 15 => ⟨S16x4x2048x256x128, .f32⟩
  | 16 => ⟨S16x4x2048x256, .f32⟩
  | 17 => ⟨S16x4x2048x256, .f32⟩
  | 18 => ⟨S16x4x2048x256, .f32⟩
  | 19 => ⟨S2048x1, .i32⟩
  | 20 => ⟨S_, .i32⟩
  | 21 => ⟨S2048x1, .i32⟩
  | 22 => ⟨S2048x1, .i32⟩
  | 23 => ⟨S256, .i32⟩
  | 24 => ⟨S1x256, .i32⟩
  | 25 => ⟨S2048x256, .i32⟩
  | 26 => ⟨S2048x256, .i32⟩
  | 27 => ⟨S2048x256, .i32⟩
  | 28 => ⟨S2048, .i32⟩
  | 29 => ⟨S2048x1, .i32⟩
  | 30 => ⟨S2048x256, .i32⟩
  | 31 => ⟨S2048x256, .i1⟩
  | 32 => ⟨S_, .f32⟩
  | 33 => ⟨S_, .f32⟩
  | 34 => ⟨S16x4x2048x256, .i1⟩
  | 35 => ⟨S16x4x2048x256, .f32⟩
  | 36 => ⟨S16x4x2048x256, .f32⟩
  | 37 => ⟨S16x4x2048x1024, .f32⟩
  | 38 => ⟨S_, .f32⟩
  | 39 => ⟨S16x4x2048, .f32⟩
  | 40 => ⟨S_, .f32⟩
  | 41 => ⟨S16x4x2048, .f32⟩
  | 42 => ⟨S16x4x2048, .f32⟩
  | 43 => ⟨S16x4x2048x1, .f32⟩
  | 44 => ⟨S16x4x2048x1024, .f32⟩
  | 45 => ⟨S16x4x2048x1024, .f32⟩
  | 46 => ⟨S16x4x2048x1024, .f32⟩
  | 47 => ⟨S_, .f32⟩
  | 48 => ⟨S16x4x2048, .f32⟩
  | 49 => ⟨S16x4x2048x1, .f32⟩
  | 50 => ⟨S16x4x2048x1024, .f32⟩
  | 51 => ⟨S16x4x2048x1024, .f32⟩
  | 52 => ⟨S16x4x2048x768, .f32⟩
  | 53 => ⟨S16x4x2048x3x256, .f32⟩
  | 54 => ⟨S16x4x2048x256, .f32⟩
  | 55 => ⟨S16x4x2048x128, .f32⟩
  | 56 => ⟨S16x4x2048x128, .f32⟩
  | 57 => ⟨S16x4x2048x128, .f32⟩
  | 58 => ⟨S16x2048x4x128, .f32⟩
  | 59 => ⟨S16x2048x512, .f32⟩
  | 60 => ⟨S16x2048x512, .bf16⟩
  | _ => ⟨S16x2048x512, .f32⟩

abbrev hbmTy (i : Nat) : BufTy := match i / 128 with
  | 0 => hbmTy0_0 i
  | 1 => hbmTy0_1 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v20 : Ref sig .tc := ⟨.hbm, 46, rfl⟩
abbrev main_values : Ref sig .tc := ⟨.hbm, 47, rfl⟩
abbrev main_indices : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_2 : Ref sig .tc := ⟨.hbm, 52, rfl⟩
abbrev main_v24 : Ref sig .tc := ⟨.hbm, 53, rfl⟩
abbrev main_cst_3 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_4 : Ref sig .tc := ⟨.hbm, 60, rfl⟩
abbrev main_v30 : Ref sig .tc := ⟨.hbm, 61, rfl⟩
abbrev main_v31 : Ref sig .tc := ⟨.hbm, 62, rfl⟩
abbrev main_c_5 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c_6 : Ref sig .tc := ⟨.hbm, 67, rfl⟩
abbrev main_v35 : Ref sig .tc := ⟨.hbm, 68, rfl⟩
abbrev main_v36 : Ref sig .tc := ⟨.hbm, 69, rfl⟩
abbrev main_c_7 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_c_8 : Ref sig .tc := ⟨.hbm, 74, rfl⟩
abbrev main_v40 : Ref sig .tc := ⟨.hbm, 75, rfl⟩
abbrev main_v41 : Ref sig .tc := ⟨.hbm, 76, rfl⟩
abbrev main_c_9 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_c_10 : Ref sig .tc := ⟨.hbm, 88, rfl⟩
abbrev main_v52 : Ref sig .tc := ⟨.hbm, 89, rfl⟩
abbrev main_v53 : Ref sig .tc := ⟨.hbm, 90, rfl⟩
abbrev main_c_11 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_c_12 : Ref sig .tc := ⟨.hbm, 95, rfl⟩
abbrev main_v57 : Ref sig .tc := ⟨.hbm, 96, rfl⟩
abbrev main_v58 : Ref sig .tc := ⟨.hbm, 97, rfl⟩
abbrev main_c_13 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_c_14 : Ref sig .tc := ⟨.hbm, 102, rfl⟩
abbrev main_v62 : Ref sig .tc := ⟨.hbm, 103, rfl⟩
abbrev main_v63 : Ref sig .tc := ⟨.hbm, 104, rfl⟩
abbrev main_c_15 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_16 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_v78 : Ref sig .tc := ⟨.hbm, 124, rfl⟩
abbrev main_v79 : Ref sig .tc := ⟨.hbm, 125, rfl⟩
abbrev main_c_17 : Ref sig .tc := ⟨.hbm, 126, rfl⟩
abbrev main_v80 : Ref sig .tc := ⟨.hbm, 127, rfl⟩
abbrev main_v81 : Ref sig .tc := ⟨.hbm, 128, rfl⟩
abbrev main_c_18 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_c_19 : Ref sig .tc := ⟨.hbm, 135, rfl⟩
abbrev main_v87 : Ref sig .tc := ⟨.hbm, 136, rfl⟩
abbrev main_v88 : Ref sig .tc := ⟨.hbm, 137, rfl⟩
abbrev main_c_20 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_c_21 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_22 : Ref sig .tc := ⟨.hbm, 160, rfl⟩
abbrev main_call3_v0 : Ref sig .tc := ⟨.hbm, 161, rfl⟩
abbrev main_call3_v1 : Ref sig .tc := ⟨.hbm, 162, rfl⟩
abbrev main_call3_v2 : Ref sig .tc := ⟨.hbm, 163, rfl⟩
abbrev main_v109 : Ref sig .tc := ⟨.hbm, 164, rfl⟩
abbrev main_v110 : Ref sig .tc := ⟨.hbm, 165, rfl⟩
abbrev main_cst_23 : Ref sig .tc := ⟨.hbm, 166, rfl⟩
abbrev main_v111 : Ref sig .tc := ⟨.hbm, 167, rfl⟩
abbrev main_cst_24 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_25 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩

abbrev nD : Nat := 1
abbrev τ : Topo := Topo.v7x

variable {F : FTy → Type} [FloatOps F]
-- ==== Kernel2.lean ====
abbrev S16x2048x512 : Shape := ⟨3, ![16, 2048, 512]⟩
abbrev S16x2048x1024 : Shape := ⟨3, ![16, 2048, 1024]⟩
abbrev S16x2048x256 : Shape := ⟨3, ![16, 2048, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1x1024 : Shape := ⟨2, ![1, 1024]⟩
abbrev S1x1024x512 : Shape := ⟨3, ![1, 1024, 512]⟩
abbrev S1x1024x1024 : Shape := ⟨3, ![1, 1024, 1024]⟩
abbrev S1x1024x256 : Shape := ⟨3, ![1, 1024, 256]⟩
abbrev S1x256x512 : Shape := ⟨3, ![1, 256, 512]⟩
abbrev S256x512 : Shape := ⟨2, ![256, 512]⟩
abbrev S512x1024 : Shape := ⟨2, ![512, 1024]⟩
abbrev S1x256x1024 : Shape := ⟨3, ![1, 256, 1024]⟩
abbrev S256 : Shape := ⟨1, ![256]⟩
abbrev S256x1 : Shape := ⟨2, ![256, 1]⟩
abbrev S1x256x256 : Shape := ⟨3, ![1, 256, 256]⟩
abbrev S256x256 : Shape := ⟨2, ![256, 256]⟩

abbrev nBuf : Space → Nat
  | .hbm => 23
  | .vmem => 18
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x1024, .f32⟩
  | .hbm, ⟨3, _⟩ => ⟨S16x2048x256, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S256x1024, .f32⟩
  | .hbm, ⟨11, _⟩ => ⟨S1024x1024, .f32⟩
  | .hbm, ⟨12, _⟩ => ⟨S16x2048x512, .bf16⟩
  | .hbm, ⟨13, _⟩ => ⟨S16x2048x512, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1024x4096, .bf16⟩
  | .hbm, ⟨18, _⟩ => ⟨S4096x1024, .bf16⟩
  | .hbm, ⟨19, _⟩ => ⟨S1x1024, .f32⟩
  | .hbm, ⟨20, _⟩ => ⟨S1024x1024, .bf16⟩
  | .hbm, ⟨21, _⟩ => ⟨S256x1024, .bf16⟩
  | .hbm, ⟨22, _⟩ => ⟨S16x2048x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x256, .f32⟩
  | .local _ .vmem, ⟨7, _⟩ => ⟨S1x1024x256, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S1024x1024, .bf16⟩
  | .local _ .vmem, ⟨15, _⟩ => ⟨S256x1024, .bf16⟩
  | .local _ .vmem, ⟨16, _⟩ => ⟨S1x1024x1024, .f32⟩
  | .local _ .vmem, ⟨17, _⟩ => ⟨S1x1024x1024, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S16x2048x512 : Shape := ⟨3, ![16, 2048, 512]⟩
abbrev S16x2048x1024 : Shape := ⟨3, ![16, 2048, 1024]⟩
abbrev S16x2048x256 : Shape := ⟨3, ![16, 2048, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩

abbrev nBuf : Space → Nat
  | .hbm => 82
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x1024, .f32⟩
  | .hbm, ⟨3, _⟩ => ⟨S16x2048x256, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S256x1024, .f32⟩
  | .hbm, ⟨11, _⟩ => ⟨S1024x1024, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S1x1x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S16x2048x1, .f32⟩
  | .hbm, ⟨42, _⟩ => ⟨S16x2048x1024, .f32⟩
  | .hbm, ⟨43, _⟩ => ⟨S16x2048x1024, .f32⟩
  | .hbm, ⟨44, _⟩ => ⟨S1x1x1024, .f32⟩
  | .hbm, ⟨45, _⟩ => ⟨S16x2048x1024, .f32⟩
  | .hbm, ⟨46, _⟩ => ⟨S16x2048x1024, .f32⟩
  | .hbm, ⟨47, _⟩ => ⟨S16x2048x4096, .f32⟩
  | .hbm, ⟨48, _⟩ => ⟨S_, .f32⟩
  | .hbm, ⟨49, _⟩ => ⟨S16x2048x4096, .f32⟩
  | .hbm, ⟨50, _⟩ => ⟨S16x2048x4096, .f32⟩
  | .hbm, ⟨51, _⟩ => ⟨S16x2048x4096, .f32⟩
  | .hbm, ⟨52, _⟩ => ⟨S16x2048x1024, .f32⟩
  | .hbm, ⟨53, _⟩ => ⟨S16x2048x1024, .f32⟩
  | .hbm, ⟨54, _⟩ => ⟨S_, .f32⟩
  | .hbm, ⟨55, _⟩ => ⟨S16x2048, .f32⟩
  | .hbm, ⟨56, _⟩ => ⟨S16x2048x1, .f32⟩
  | .hbm, ⟨57, _⟩ => ⟨S_, .f32⟩
  | .hbm, ⟨58, _⟩ => ⟨S16x2048x1, .f32⟩
  | .hbm, ⟨59, _⟩ => ⟨S16x2048x1, .f32⟩
  | .hbm, ⟨60, _⟩ => ⟨S_, .f32⟩
  | .hbm, ⟨61, _⟩ => ⟨S16x2048x1, .f32⟩
  | .hbm, ⟨62, _⟩ => ⟨S16x2048x1, .f32⟩
  | .hbm, ⟨63, _⟩ => ⟨S16x2048x1, .f32⟩
  | .hbm, ⟨64, _⟩ => ⟨S16x2048x1024, .f32⟩
  | .hbm, ⟨65, _⟩ => ⟨S16x2048x1024, .f32⟩
  | .hbm, ⟨66, _⟩ => ⟨S1x1x1024, .f32⟩
  | .hbm, ⟨67, _⟩ => ⟨S16x2048x1024, .f32⟩
  | .hbm, ⟨68, _⟩ => ⟨S16x2048x1024, .f32⟩
  | .hbm, ⟨69, _⟩ => ⟨S16x2048x1024, .f32⟩
  | .hbm, ⟨70, _⟩ => ⟨S16x2048x1024, .f32⟩
  | .hbm, ⟨71, _⟩ => ⟨S16x2048x1024, .f32⟩
  | .hbm, ⟨72, _⟩ => ⟨S16x2048x1024, .f32⟩
  | .hbm, ⟨73, _⟩ => ⟨S_, .f32⟩
  | .hbm, ⟨74, _⟩ => ⟨S16x2048x1024, .f32⟩
  | .hbm, ⟨75, _⟩ => ⟨S16x2048x1024, .f32⟩
  | .hbm, ⟨76, _⟩ => ⟨S_, .f32⟩
  | .hbm, ⟨77, _⟩ => ⟨S16x2048x1024, .f32⟩
  | .hbm, ⟨78, _⟩ => ⟨S16x2048x1024, .f32⟩
  | .hbm, ⟨79, _⟩ => ⟨S16x2048x1024, .f32⟩
  | .hbm, ⟨80, _⟩ => ⟨S16x2048x1024, .f32⟩
  | .hbm, ⟨81, _⟩ => ⟨S16x2048x1024, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call0_cst : Ref sig .tc := ⟨.hbm, 48, rfl⟩
abbrev main_call0_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]
-- ==== Kernel3.lean ====
abbrev S16x2048x1024 : Shape := ⟨3, ![16, 2048, 1024]⟩
abbrev S1x1024x3592 : Shape := ⟨3, ![1, 1024, 3592]⟩
abbrev S4x1536 : Shape := ⟨2, ![4, 1536]⟩
abbrev S4 : Shape := ⟨1, ![4]⟩
abbrev S1024 : Shape := ⟨1, ![1024]⟩
abbrev S1x4 : Shape := ⟨2, ![1, 4]⟩
abbrev S2x4 : Shape := ⟨2, ![2, 4]⟩
abbrev S_ : Shape := ⟨0, ![]⟩
abbrev S2x128 : Shape := ⟨2, ![2, 128]⟩
abbrev S1x1024 : Shape := ⟨2, ![1, 1024]⟩
abbrev S1x3592x1024 : Shape := ⟨3, ![1, 3592, 1024]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S16x2048x512 : Shape := ⟨3, ![16, 2048, 512]⟩
abbrev S16x2048x128 : Shape := ⟨3, ![16, 2048, 128]⟩
abbrev S1x1024x1024 : Shape := ⟨3, ![1, 1024, 1024]⟩
abbrev S1024x128 : Shape := ⟨2, ![1024, 128]⟩
abbrev S1x1024x512 : Shape := ⟨3, ![1, 1024, 512]⟩
abbrev S1x1024x128 : Shape := ⟨3, ![1, 1024, 128]⟩
abbrev S8x1536 : Shape := ⟨2, ![8, 1536]⟩
abbrev S1024x3712 : Shape := ⟨2, ![1024, 3712]⟩
abbrev S1x128x1024 : Shape := ⟨3, ![1, 128, 1024]⟩
abbrev S128x1024 : Shape := ⟨2, ![128, 1024]⟩
abbrev S1x8x1024 : Shape := ⟨3, ![1, 8, 1024]⟩
abbrev S8x1024 : Shape := ⟨2, ![8, 1024]⟩
abbrev S120x1024 : Shape := ⟨2, ![120, 1024]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩
abbrev S1x128 : Shape := ⟨2, ![1, 128]⟩
abbrev S128x128 : Shape := ⟨2, ![128, 128]⟩
abbrev S8x128 : Shape := ⟨2, ![8, 128]⟩
abbrev S136x128 : Shape := ⟨2, ![136, 128]⟩
abbrev S1x128x128 : Shape := ⟨3, ![1, 128, 128]⟩
abbrev S1x128x256 : Shape := ⟨3, ![1, 128, 256]⟩

abbrev nBuf : Space → Nat
  | .hbm => 49
  | .vmem => 30
  | .smem => 0
  | _ => 0

abbrev bufTy : (tb : Table) → Fin (tcTables nBuf tb) → BufTy
  | .hbm, ⟨0, _⟩ => ⟨S16x2048x1024, .f32⟩
  | .hbm, ⟨1, _⟩ => ⟨S1x1024x3592, .f32⟩
  | .hbm, ⟨2, _⟩ => ⟨S4x1536, .f32⟩
  | .hbm, ⟨3, _⟩ => ⟨S4, .f32⟩
  | .hbm, ⟨4, _⟩ => ⟨S4, .f32⟩
  | .hbm, ⟨5, _⟩ => ⟨S1024, .f32⟩
  | .hbm, ⟨6, _⟩ => ⟨S1x4, .f32⟩
  | .hbm, ⟨7, _⟩ => ⟨S1x4, .f32⟩
  | .hbm, ⟨8, _⟩ => ⟨S2x4, .f32⟩
  | .hbm, ⟨9, _⟩ => ⟨S_, .i32⟩
  | .hbm, ⟨10, _⟩ => ⟨S_, .f32⟩
  | .hbm, ⟨11, _⟩ => ⟨S2x128, .f32⟩
  | .hbm, ⟨12, _⟩ => ⟨S1x1024, .f32⟩
  | .hbm, ⟨13, _⟩ => ⟨S1x3592x1024, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S2048, .i32⟩
  | .hbm, ⟨23, _⟩ => ⟨S2048, .f32⟩
  | .hbm, ⟨24, _⟩ => ⟨S2048x1, .f32⟩
  | .hbm, ⟨25, _⟩ => ⟨S1x16, .f32⟩
  | .hbm, ⟨26, _⟩ => ⟨S2048x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S2048x16, .f32⟩
  | .hbm, ⟨31, _⟩ => ⟨S_, .f32⟩
  | .hbm, ⟨32, _⟩ => ⟨S2048x96, .f32⟩
  | .hbm, ⟨33, _⟩ => ⟨S_, .f32⟩
  | .hbm, ⟨34, _⟩ => ⟨S2048x16, .f32⟩
  | .hbm, ⟨35, _⟩ => ⟨S_, .f32⟩
  | .hbm, ⟨36, _⟩ => ⟨S2048x96, .f32⟩
  | .hbm, ⟨37, _⟩ => ⟨S2048x128, .f32⟩
  | .hbm, ⟨38, _⟩ => ⟨S2048x16, .f32⟩
  | .hbm, ⟨39, _⟩ => ⟨S2048x128, .f32⟩
  | .hbm, ⟨40, _⟩ => ⟨S2048x128, .f32⟩
  | .hbm, ⟨41, _⟩ => ⟨S16x2048x512, .bf16⟩
  | .hbm, ⟨42, _⟩ => ⟨S16x2048x512, .bf16⟩
  | .hbm, ⟨43, _⟩ => ⟨S16x2048x512, .bf16⟩
  | .hbm, ⟨44, _⟩ => ⟨S16x2048x512, .bf16⟩
  | .hbm, ⟨45, _⟩ => ⟨S16x2048x128, .f32⟩
  | .hbm, ⟨46, _⟩ => ⟨S16x2048x512, .bf16⟩
  | .hbm, ⟨47, _⟩ => ⟨S16x2048x512, .bf16⟩
  | .hbm, ⟨48, _⟩ => ⟨S16x2048x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x3592x1024, .f32⟩
  | .local _ .vmem, ⟨4, _⟩ => ⟨S4x1536, .f32⟩
  | .local _ .vmem, ⟨5, _⟩ => ⟨S2x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x1024x128, .f32⟩
  | .local _ .vmem, ⟨21, _⟩ => ⟨S1x1024x128, .f32⟩
  | .local _ .vmem, ⟨22, _⟩ => ⟨S1x1024x512, .bf16⟩
  | .local _ .vmem, ⟨23, _⟩ => ⟨S1x1024x512, .bf16⟩
  | .local _ .vmem, ⟨24, _⟩ => ⟨S1x1024x512, .bf16⟩
  | .local _ .vmem, ⟨25, _⟩ => ⟨S1x1024x512, .bf16⟩
  | .local _ .vmem, ⟨26, _⟩ => ⟨S1x1024x512, .bf16⟩
  | .local _ .vmem, ⟨27, _⟩ => ⟨S1x1024x512, .bf16⟩
  | .local _ .vmem, ⟨28, _⟩ => ⟨S8x1536, .f32⟩
  | .local _ .vmem, ⟨29, _⟩ => ⟨S1024x3712, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_v28_2 : Ref sig .tc := ⟨.hbm, 43, rfl⟩
abbrev main_v28_3 : Ref sig .tc := ⟨.hbm, 44, rfl⟩
abbrev main_v28_4 : Ref sig .tc := ⟨.hbm, 45, rfl⟩
abbrev main_v28_5 : Ref sig .tc := ⟨.hbm, 46, rfl⟩
abbrev main_v28_6 : Ref sig .tc := ⟨.hbm, 47, rfl⟩
abbrev main_v28_7 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3592x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S16x2048x1024 : Shape := ⟨3, ![16, 2048, 1024]⟩
abbrev S1x1024x3592 : Shape := ⟨3, ![1, 1024, 3592]⟩
abbrev S4x1536 : Shape := ⟨2, ![4, 1536]⟩
abbrev S4 : Shape := ⟨1, ![4]⟩
abbrev S1024 : Shape := ⟨1, ![1024]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x3592 : Shape := ⟨2, ![1024, 3592]⟩
abbrev S16x2048x3592 : Shape := ⟨3, ![16, 2048, 3592]⟩
abbrev S16x2048x512 : Shape := ⟨3, ![16, 2048, 512]⟩
abbrev S16x2048x4 : Shape := ⟨3, ![16, 2048, 4]⟩
abbrev S16x2048x4x128 : Shape := ⟨4, ![16, 2048, 4, 128]⟩
abbrev S16x4x2048x128 : Shape := ⟨4, ![16, 4, 2048, 128]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S16x4x2048x32 : Shape := ⟨4, ![16, 4, 2048, 32]⟩
abbrev S16x4x2048x16 : Shape := ⟨4, ![16, 4, 2048, 16]⟩
abbrev S1x1x2048x16 : Shape := ⟨4, ![1, 1, 2048, 16]⟩
abbrev S16x4x2048x96 : Shape := ⟨4, ![16, 4, 2048, 96]⟩

abbrev nBuf : Space → Nat
  | .hbm => 121
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024x3592, .f32⟩
  | .hbm, ⟨2, _⟩ => ⟨S4x1536, .f32⟩
  | .hbm, ⟨3, _⟩ => ⟨S4, .f32⟩
  | .hbm, ⟨4, _⟩ => ⟨S4, .f32⟩
  | .hbm, ⟨5, _⟩ => ⟨S1024, .f32⟩
  | .hbm, ⟨6, _⟩ => ⟨S2048, .i32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S1024x3592, .f32⟩
  | .hbm, ⟨24, _⟩ => ⟨S16x2048x3592, .f32⟩
  | .hbm, ⟨25, _⟩ => ⟨S16x2048x512, .f32⟩
  | .hbm, ⟨26, _⟩ => ⟨S16x2048x512, .f32⟩
  | .hbm, ⟨27, _⟩ => ⟨S16x2048x512, .f32⟩
  | .hbm, ⟨28, _⟩ => ⟨S16x2048x512, .f32⟩
  | .hbm, ⟨29, _⟩ => ⟨S16x2048x4, .f32⟩
  | .hbm, ⟨30, _⟩ => ⟨S16x2048x4, .f32⟩
  | .hbm, ⟨31, _⟩ => ⟨S16x2048x512, .f32⟩
  | .hbm, ⟨32, _⟩ => ⟨S16x2048x512, .f32⟩
  | .hbm, ⟨33, _⟩ => ⟨S16x2048x512, .f32⟩
  | .hbm, ⟨34, _⟩ => ⟨S16x2048x4x128, .f32⟩
  | .hbm, ⟨35, _⟩ => ⟨S16x4x2048x128, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S2048, .f32⟩
  | .hbm, ⟨45, _⟩ => ⟨S2048x1, .f32⟩
  | .hbm, ⟨46, _⟩ => ⟨S1x16, .f32⟩
  | .hbm, ⟨47, _⟩ => ⟨S2048x16, .f32⟩
  | .hbm, ⟨48, _⟩ => ⟨S2048x16, .f32⟩
  | .hbm, ⟨49, _⟩ => ⟨S2048x16, .f32⟩
  | .hbm, ⟨50, _⟩ => ⟨S2048x16, .f32⟩
  | .hbm, ⟨51, _⟩ => ⟨S2048x16, .f32⟩
  | .hbm, ⟨52, _⟩ => ⟨S16x4x2048x32, .f32⟩
  | .hbm, ⟨53, _⟩ => ⟨S16x4x2048x16, .f32⟩
  | .hbm, ⟨54, _⟩ => ⟨S16x4x2048x16, .f32⟩
  | .hbm, ⟨55, _⟩ => ⟨S1x1x2048x16, .f32⟩
  | .hbm, ⟨56, _⟩ => ⟨S16x4x2048x16, .f32⟩
  | .hbm, ⟨57, _⟩ => ⟨S16x4x2048x16, .f32⟩
  | .hbm, ⟨58, _⟩ => ⟨S1x1x2048x16, .f32⟩
  | .hbm, ⟨59, _⟩ => ⟨S16x4x2048x16, .f32⟩
  | .hbm, ⟨60, _⟩ => ⟨S16x4x2048x16, .f32⟩
  | .hbm, ⟨61, _⟩ => ⟨S16x4x2048x16, .f32⟩
  | .hbm, ⟨62, _⟩ => ⟨S1x1x2048x16, .f32⟩
  | .hbm, ⟨63, _⟩ => ⟨S16x4x2048x16, .f32⟩
  | .hbm, ⟨64, _⟩ => ⟨S16x4x2048x16, .f32⟩
  | .hbm, ⟨65, _⟩ => ⟨S1x1x2048x16, .f32⟩
  | .hbm, ⟨66, _⟩ => ⟨S16x4x2048x16, .f32⟩
  | .hbm, ⟨67, _⟩ => ⟨S16x4x2048x16, .f32⟩
  | .hbm, ⟨68, _⟩ => ⟨S16x4x2048x16, .f32⟩
  | .hbm, ⟨69, _⟩ => ⟨S16x4x2048x32, .f32⟩
  | .hbm, ⟨70, _⟩ => ⟨S16x4x2048x96, .f32⟩
  | .hbm, ⟨71, _⟩ => ⟨S16x4x2048x128, .f32⟩
  | .hbm, ⟨72, _⟩ => ⟨S16x2048x4x128, .f32⟩
  | .hbm, ⟨73, _⟩ => ⟨S16x2048x512, .f32⟩
  | .hbm, ⟨74, _⟩ => ⟨S_, .f32⟩
  | .hbm, ⟨75, _⟩ => ⟨S16x2048x512, .f32⟩
  | .hbm, ⟨76, _⟩ => ⟨S16x2048x512, .f32⟩
  | .hbm, ⟨77, _⟩ => ⟨S16x2048x4x128, .f32⟩
  | .hbm, ⟨78, _⟩ => ⟨S16x4x2048x128, .f32⟩
  | .hbm, ⟨79, _⟩ => ⟨S16, .f32⟩
  | .hbm, ⟨80, _⟩ => ⟨S16, .f32⟩
  | .hbm, ⟨81, _⟩ => ⟨S_, .f32⟩
  | .hbm, ⟨82, _⟩ => ⟨S16, .f32⟩
  | .hbm, ⟨83, _⟩ => ⟨S16, .f32⟩
  | .hbm, ⟨84, _⟩ => ⟨S_, .f32⟩
  | .hbm, ⟨85, _⟩ => ⟨S16, .f32⟩
  | .hbm, ⟨86, _⟩ => ⟨S16, .f32⟩
  | .hbm, ⟨87, _⟩ => ⟨S2048, .f32⟩
  | .hbm, ⟨88, _⟩ => ⟨S2048x1, .f32⟩
  | .hbm, ⟨89, _⟩ => ⟨S1x16, .f32⟩
  | .hbm, ⟨90, _⟩ => ⟨S2048x16, .f32⟩
  | .hbm, ⟨91, _⟩ => ⟨S2048x16, .f32⟩
  | .hbm, ⟨92, _⟩ => ⟨S2048x16, .f32⟩
  | .hbm, ⟨93, _⟩ => ⟨S2048x16, .f32⟩
  | .hbm, ⟨94, _⟩ => ⟨S2048x16, .f32⟩
  | .hbm, ⟨95, _⟩ => ⟨S16x4x2048x32, .f32⟩
  | .hbm, ⟨96, _⟩ => ⟨S16x4x2048x16, .f32⟩
  | .hbm, ⟨97, _⟩ => ⟨S16x4x2048x16, .f32⟩
  | .hbm, ⟨98, _⟩ => ⟨S1x1x2048x16, .f32⟩
  | .hbm, ⟨99, _⟩ => ⟨S16x4x2048x16, .f32⟩
  | .hbm, ⟨100, _⟩ => ⟨S16x4x2048x16, .f32⟩
  | .hbm, ⟨101, _⟩ => ⟨S1x1x2048x16, .f32⟩
  | .hbm, ⟨102, _⟩ => ⟨S16x4x2048x16, .f32⟩
  | .hbm, ⟨103, _⟩ => ⟨S16x4x2048x16, .f32⟩
  | .hbm, ⟨104, _⟩ => ⟨S16x4x2048x16, .f32⟩
  | .hbm, ⟨105, _⟩ => ⟨S1x1x2048x16, .f32⟩
  | .hbm, ⟨106, _⟩ => ⟨S16x4x2048x16, .f32⟩
  | .hbm, ⟨107, _⟩ => ⟨S16x4x2048x16, .f32⟩
  | .hbm, ⟨108, _⟩ => ⟨S1x1x2048x16, .f32⟩
  | .hbm, ⟨109, _⟩ => ⟨S16x4x2048x16, .f32⟩
  | .hbm, ⟨110, _⟩ => ⟨S16x4x2048x16, .f32⟩
  | .hbm, ⟨111, _⟩ => ⟨S16x4x2048x16, .f32⟩
  | .hbm, ⟨112, _⟩ => ⟨S16x4x2048x32, .f32⟩
  | .hbm, ⟨113, _⟩ => ⟨S16x4x2048x96, .f32⟩
  | .hbm, ⟨114, _⟩ => ⟨S16x4x2048x128, .f32⟩
  | .hbm, ⟨115, _⟩ => ⟨S16x2048x4x128, .f32⟩
  | .hbm, ⟨116, _⟩ => ⟨S16x2048x512, .f32⟩
  | .hbm, ⟨117, _⟩ => ⟨S16x2048x512, .bf16⟩
  | .hbm, ⟨118, _⟩ => ⟨S16x2048x512, .bf16⟩
  | .hbm, ⟨119, _⟩ => ⟨S16x2048x512, .bf16⟩
  | .hbm, ⟨120, _⟩ => ⟨S16x2048x512, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_4 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_5 : Ref sig .tc := ⟨.hbm, 81, rfl⟩
abbrev main_v69 : Ref sig .tc := ⟨.hbm, 82, rfl⟩
abbrev main_v70 : Ref sig .tc := ⟨.hbm, 83, rfl⟩
abbrev main_cst_6 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩

abbrev nD : Nat := 1
abbrev τ : Topo := Topo.v7x

variable {F : FTy → Type} [FloatOps F]
-- ==== Proof.Moba.Body.lean ====
/- One task of the attention kernel — one head, one block of 256 queries — as functions of the key, query and value
   blocks it loads, uniform in the block's number. -/
module

public import proofs.«01_k».proof.Proof.Gen.KernelIdeal.Value

@[expose] public section

noncomputable section

namespace Cert.KernelIdeal.Moba

open Cert.KernelIdeal Cert.KernelIdeal.Gen Idealize.ShloMosaic Idealize.ShloMosaic.TcCoe

variable {F : FTy → Type} [FloatOps F]

/-- The mean of a block of 256 keys, as a row. -/
def keyMean (k : Vec F S1x256x128 .bf16) : FVec F S1x128 .f32 :=
  divf (shapeCast S1x128 (multiReduction .add [0] S128
      (extf .f32 (shapeCast S256x128 k shapeCasts_S1x256x128_S256x128) bitsLt_bf16_f32 : FVec F S256x128 .f32)
      0x00000000#32 reduces_S256x128_S128 (.inl rfl) rfl) shapeCasts_S128_S1x128)
    (broadcast S1x128 (Scalar.ofBits .f32 0x43800000#32))

/-- The means of the eight key blocks of a head, one per row. -/
def keyMeans (k : ℕ → Vec F S1x256x128 .bf16) : FVec F S8x128 .f32 :=
  concatenate S8x128 0 [⟨S1x128, keyMean (k 0)⟩, ⟨S1x128, keyMean (k 1)⟩, ⟨S1x128, keyMean (k 2)⟩,
    ⟨S1x128, keyMean (k 3)⟩, ⟨S1x128, keyMean (k 4)⟩, ⟨S1x128, keyMean (k 5)⟩, ⟨S1x128, keyMean (k 6)⟩,
    ⟨S1x128, keyMean (k 7)⟩] concatenates_S1x128_S1x128_S1x128_S1x128_S1x128_S1x128_S1x128_S1x128_S8x128_d0

/-- The scores of a block of queries (columns) against a block of keys (rows). -/
def scoreBlk (k q : Vec F S1x256x128 .bf16) : FVec F S256x256 .f32 :=
  matmul dot_S256x128_S256x128_S256x256_1_1_0_0_n_n none (shapeCast S256x128 k shapeCasts_S1x256x128_S256x128)
    (shapeCast S256x128 q shapeCasts_S1x256x128_S256x128 : FVec F S256x128 .bf16) (constant S256x256 .f32 0x00000000#32)

/-- The scores against the queries' own block, `-∞` where the key comes after the query. -/
def ownBlk (k q : Vec F S1x256x128 .bf16) : FVec F S256x256 .f32 :=
  select (cmpi .sle (iota .tc S256x256 32 [0] iota_S256x256_d0_w32) (iota .tc S256x256 32 [1] iota_S256x256_d1_w32)) (scoreBlk k q)
    (broadcast S256x256 (Scalar.ofBits .f32 0xFF800000#32))

/-- The row number of the eight-row arrays of gates. -/
def blkNo : IVec S8x256 32 := iota .tc S8x256 32 [0] iota_S8x256_d0_w32

/-- The gate of every key block (rows) for the queries of block `i`: the block's mean key against the query, `-∞` for the
    blocks not wholly past. -/
def gateBlk (i : BitVec 32) (k : ℕ → Vec F S1x256x128 .bf16) (q : Vec F S1x256x128 .bf16) : FVec F S8x256 .f32 :=
  select (cmpi .slt blkNo (broadcast S8x256 i))
    (matmul dot_S8x128_S256x128_S8x256_1_1_0_0_n_n (some .fp32) (keyMeans k)
      (extf .f32 (shapeCast S256x128 q shapeCasts_S1x256x128_S256x128 : FVec F S256x128 .bf16) bitsLt_bf16_f32 : FVec F S256x128 .f32)
      (constant S8x256 .f32 0x00000000#32))
    (broadcast S8x256 (Scalar.ofBits .f32 0xFF800000#32))

/-- A row of an eight-row array can be sliced out. -/
theorem slices_row (j : ℕ) (h : j < 8) : S8x256.Slices ![j, 0] S1x256 := by
  rcases j with _ | _ | _ | _ | _ | _ | _ | _ | j <;> first | decide | omega

/-- Row `j` of an eight-row array. -/
def rowAt (g : FVec F S8x256 .f32) (j : ℕ) (h : j < 8) : FVec F S1x256 .f32 :=
  extractStridedSlice S1x256 ![j, 0] g (slices_row j h)

/-- One where block `j` comes before the row's block in the ranking: its gate is greater, or equal with a smaller number. -/
def beats (g : FVec F S8x256 .f32) (j : ℕ) (h : j < 8) : FVec F S8x256 .f32 :=
  select (ori (cmpf .ogt (broadcastTo S8x256 (rowAt g j h) broadcasts_S1x256_S8x256) g)
      (andi (cmpf .oeq (broadcastTo S8x256 (rowAt g j h) broadcasts_S1x256_S8x256) g)
        (cmpi .sgt blkNo (broadcast S8x256 (BitVec.ofNat 32 j)))))
    (broadcast S8x256 (Scalar.ofBits .f32 0x3F800000#32)) (broadcast S8x256 (Scalar.ofBits .f32 0x00000000#32))

/-- How many of the first `n` blocks come before the row's block. -/
def rank (g : FVec F S8x256 .f32) : (n : ℕ) → n ≤ 8 → FVec F S8x256 .f32
  | 0, _ => broadcast S8x256 (Scalar.ofBits .f32 0x00000000#32)
  | n + 1, h => addf (rank g n (by omega)) (beats g n (by omega))

/-- One where the row's block is attended to: past, and at most two past blocks come before it. -/
def chosen (i : ℕ) (hi : i ≤ 8) (g : FVec F S8x256 .f32) : FVec F S8x256 .f32 :=
  select (andi (cmpf .olt (rank g i hi) (broadcast S8x256 (Scalar.ofBits .f32 0x40400000#32)))
      (cmpi .slt blkNo (broadcast S8x256 (BitVec.ofNat 32 i))))
    (broadcast S8x256 (Scalar.ofBits .f32 0x3F800000#32)) (broadcast S8x256 (Scalar.ofBits .f32 0x00000000#32))

/-- The scores against a past block, `-∞` for the queries that do not attend to it. -/
def maskBlk (c : FVec F S8x256 .f32) (j : ℕ) (h : j < 8) (s : FVec F S256x256 .f32) : FVec F S256x256 .f32 :=
  select (broadcastTo S256x256 (shapeCast S1x256
      (cmpf .ogt (rowAt c j h) (broadcast S1x256 (Scalar.ofBits .f32 0x3F000000#32))) shapeCasts_S1x256_S1x256)
      broadcasts_S1x256_S256x256) s
    (broadcast S256x256 (Scalar.ofBits .f32 0xFF800000#32))

/-- The scores of the queries of block `i` against key block `j`: the own block's, every past block's while there are at
    most three, the chosen ones' after that. -/
def scoresAt (k : ℕ → Vec F S1x256x128 .bf16) (q : Vec F S1x256x128 .bf16) (i : ℕ) (hi : i < 8) (j : ℕ) :
    FVec F S256x256 .f32 :=
  if hj : j < i then
    if 3 < i then maskBlk (chosen i hi.le (gateBlk (BitVec.ofNat 32 i) k q)) j (by omega) (scoreBlk (k j) q)
    else scoreBlk (k j) q
  else ownBlk (k j) q

/-- A block's greatest score, per query. -/
def colMax (s : FVec F S256x256 .f32) : FVec F S1x256 .f32 :=
  shapeCast S1x256 (multiReduction .maximumf [0] S256 s 0xFF800000#32 reduces_S256x256_S256 (.inl rfl) rfl)
    shapeCasts_S256_S1x256

/-- The greatest score of the blocks `0 … n`, per query. -/
def maxUpTo (s : ℕ → FVec F S256x256 .f32) : ℕ → FVec F S1x256 .f32
  | 0 => colMax (s 0)
  | n + 1 => maximumf (maxUpTo s n) (colMax (s (n + 1)))

/-- The transposed values, the ones below them, times the weights `2 ^ (s - m)`, summed over the first `n` blocks. -/
def accUpTo (s : ℕ → FVec F S256x256 .f32) (v : ℕ → Vec F S1x144x256 .bf16) (m : FVec F S1x256 .f32) :
    ℕ → FVec F S144x256 .f32
  | 0 => broadcast S144x256 (Scalar.ofBits .f32 0x00000000#32)
  | n + 1 => addf (accUpTo s v m n)
      (matmul dot_S144x256_S256x256_S144x256_1_0_0_1_n_n none
        (shapeCast S144x256 (v n) shapeCasts_S1x144x256_S144x256 : FVec F S144x256 .bf16)
        (truncf .bf16 (exp2 (subf (s n) (broadcastTo S256x256 m broadcasts_S1x256_S256x256))) bitsLt_bf16_f32 : FVec F S256x256 .bf16)
        (constant S144x256 .f32 0x00000000#32))

/-- The weighted values over the sum of the weights, a row per query. -/
def quotient (a : FVec F S144x256 .f32) : FVec F S1x256x128 .bf16 :=
  shapeCast S1x256x128 (truncf .bf16 (transpose S256x128 [1, 0]
      (divf (extractStridedSlice S128x256 ![0, 0] a slices_S144x256_o0_0_S128x256)
        (broadcastTo S128x256 (extractStridedSlice S1x256 ![128, 0] a slices_S144x256_o128_0_S1x256) broadcasts_S1x256_S128x256))
      transposes_S128x256_p1_0_S256x128 : FVec F S256x128 .f32) bitsLt_bf16_f32 : FVec F S256x128 .bf16) shapeCasts_S256x128_S1x256x128

/-- What the task of block `i` stores. -/
def task (k : ℕ → Vec F S1x256x128 .bf16) (q : Vec F S1x256x128 .bf16) (v : ℕ → Vec F S1x144x256 .bf16) (i : ℕ)
    (hi : i < 8) : FVec F S1x256x128 .bf16 :=
  quotient (accUpTo (scoresAt k q i hi) v (maxUpTo (scoresAt k q i hi) i) (i + 1))

end Cert.KernelIdeal.Moba

end
-- ==== Proof.Moba.Pieces.lean ====
/- The pieces the attention kernel's body stores into its output block, as one family: piece `t` is the task of head
   `t % 4` and query block `t / 4`. -/
module

public import proofs.«01_k».proof.Proof.Moba.Body

@[expose] public section

noncomputable section

namespace Cert.KernelIdeal.Moba

open Cert.KernelIdeal Cert.KernelIdeal.Gen Idealize.ShloMosaic Idealize.ShloMosaic.TcCoe

variable {F : FTy → Type} [FloatOps F]

/-- Block `j` of head `n` lies inside a `1 × 2048 × 512` array. -/
theorem inb_blk (n j : ℕ) (a) : (![0, 256 * (j % 8), 128 * (n % 4)] : Fin 3 → ℕ) a + S1x256x128.size a ≤ S1x2048x512.size a := by
  fin_cases a
  · show 0 + 1 ≤ 1; omega
  · show 256 * (j % 8) + 256 ≤ 2048; omega
  · show 128 * (n % 4) + 128 ≤ 512; omega

/-- The rectangle of block `j` of head `n`. -/
def blkRect (n j : ℕ) : Rect S1x2048x512 := Rect.unit ![0, 256 * (j % 8), 128 * (n % 4)] S1x256x128.size (inb_blk n j)

/-- Columns `256 j …` of head `n` lie inside the scratch array. -/
theorem inb_vt (n j : ℕ) (a) : (![n % 4, 0, 256 * (j % 8)] : Fin 3 → ℕ) a + S1x144x256.size a ≤ S4x144x2048.size a := by
  fin_cases a
  · show n % 4 + 1 ≤ 4; omega
  · show 0 + 144 ≤ 144; omega
  · show 256 * (j % 8) + 256 ≤ 2048; omega

/-- The rectangle of columns `256 j …` of head `n` of the scratch array. -/
def vtRect (n j : ℕ) : Rect S4x144x2048 := Rect.unit ![n % 4, 0, 256 * (j % 8)] S1x144x256.size (inb_vt n j)

section
variable (c : Dev nD) (i : grid0.Coords) (arg2 : Memref sig .tc .vmem S1x2048x512 .bf16) (harg2 : arg2.IsWhole)
  (arg3 : Memref sig .tc .vmem S1x2048x512 .bf16) (harg3 : arg3.IsWhole)
  (arg4 : Memref sig .tc .vmem S1x2048x512 .bf16) (harg4 : arg4.IsWhole)
  (arg5 : Memref sig .tc .vmem S1x2048x512 .bf16) (harg5 : arg5.IsWhole)
  (arg6 : Memref sig .tc .vmem S4x144x2048 .bf16) (harg6 : arg6.IsWhole)
  (x0 x1 x2 : Vec F S1x2048x512 .bf16)

/-- A block as the body loads it from a whole staging buffer. -/
def loadBlk (arg : Memref sig .tc .vmem S1x2048x512 .bf16) (harg : arg.IsWhole) (x : Vec F S1x2048x512 .bf16) (n j : ℕ) :
    Vec F S1x256x128 .bf16 :=
  View.readAt (Elt F) arg.view (blkRect n j).toLoadRect (harg.unread x)

/-- The scratch columns as the body loads them back. -/
def loadVt (n j : ℕ) : Vec F S1x144x256 .bf16 :=
  arg6.view.readCov (kernelRun0_A c i arg2 harg2 arg3 harg3 arg4 harg4 arg5 harg5 arg6 harg6 x0 x1 x2).2.1 (vtRect n j).toLoadRect

/-- What the body stores for head `n` and query block `b`. -/
def piece (n b : ℕ) (hb : b < 8) : View.Piece (Elt F) S1x2048x512 .bf16 :=
  ⟨blkRect n b, task (loadBlk arg3 harg3 x1 n) (loadBlk arg2 harg2 x0 n b)
    (loadVt c i arg2 harg2 arg3 harg3 arg4 harg4 arg5 harg5 arg6 harg6 x0 x1 x2 n) b hb⟩

set_option maxHeartbeats 0 in
set_option maxRecDepth 100000 in
/-- The pieces the body stores, last first. -/
theorem pieces_eq : (kernelRun0_A c i arg2 harg2 arg3 harg3 arg4 harg4 arg5 harg5 arg6 harg6 x0 x1 x2).1 =
    (List.finRange 32).reverse.map fun t => piece c i arg2 harg2 arg3 harg3 arg4 harg4 arg5 harg5 arg6 harg6 x0 x1 x2 (t.val % 4) (t.val / 4)
      (by have := t.isLt; omega) := by
  sl_kernel_rfl
end

end Cert.KernelIdeal.Moba

end
-- ==== Proof.Moba.Scratch.lean ====
/- What the attention kernel's scratch array holds: for every head the transposed values and, below them, ones. -/
module

public import proofs.«01_k».proof.Proof.Moba.Pieces

@[expose] public section

noncomputable section

namespace Cert.KernelIdeal.Moba

open Cert.KernelIdeal Cert.KernelIdeal.Gen Idealize.ShloMosaic Idealize.ShloMosaic.TcCoe

variable {F : FTy → Type} [FloatOps F]

/-- The transposed columns `256 j …` of head `n` lie inside the scratch array. -/
theorem inb_tr (n j : ℕ) (a) : (![n % 4, 0, 256 * (j % 8)] : Fin 3 → ℕ) a + S1x128x256.size a ≤ S4x144x2048.size a := by
  fin_cases a
  · show n % 4 + 1 ≤ 4; omega
  · show 0 + 128 ≤ 144; omega
  · show 256 * (j % 8) + 256 ≤ 2048; omega

/-- The rectangle of the transposed columns `256 j …` of head `n`. -/
def trRect (n j : ℕ) : Rect S4x144x2048 := Rect.unit ![n % 4, 0, 256 * (j % 8)] S1x128x256.size (inb_tr n j)

/-- The sixteen rows of ones of head `n` lie inside the scratch array. -/
theorem inb_ones (n : ℕ) (a) : (![n % 4, 128, 0] : Fin 3 → ℕ) a + S1x16x2048.size a ≤ S4x144x2048.size a := by
  fin_cases a
  · show n % 4 + 1 ≤ 4; omega
  · show 128 + 16 ≤ 144; omega
  · show 0 + 2048 ≤ 2048; omega

/-- The rectangle of the rows of ones of head `n`. -/
def onesRect (n : ℕ) : Rect S4x144x2048 := Rect.unit ![n % 4, 128, 0] S1x16x2048.size (inb_ones n)

section
variable (c : Dev nD) (i : grid0.Coords) (arg2 : Memref sig .tc .vmem S1x2048x512 .bf16) (harg2 : arg2.IsWhole)
  (arg3 : Memref sig .tc .vmem S1x2048x512 .bf16) (harg3 : arg3.IsWhole)
  (arg4 : Memref sig .tc .vmem S1x2048x512 .bf16) (harg4 : arg4.IsWhole)
  (arg5 : Memref sig .tc .vmem S1x2048x512 .bf16) (harg5 : arg5.IsWhole)
  (arg6 : Memref sig .tc .vmem S4x144x2048 .bf16) (harg6 : arg6.IsWhole)
  (x0 x1 x2 : Vec F S1x2048x512 .bf16)

/-- A block of 256 values of a head, transposed. -/
def trBlk (v : Vec F S1x256x128 .bf16) : Vec F S1x128x256 .bf16 :=
  shapeCast S1x128x256 (transpose S128x256 [1, 0] (shapeCast S256x128 v shapeCasts_S1x256x128_S256x128)
    transposes_S256x128_p1_0_S128x256 : FVec F S128x256 .bf16) shapeCasts_S128x256_S1x128x256

/-- Sixteen rows of ones. -/
def onesBlk : Vec F S1x16x2048 .bf16 :=
  shapeCast S1x16x2048 (broadcast S16x2048 (Scalar.ofBits (F := F) .bf16 0x3F80#16)) shapeCasts_S16x2048_S1x16x2048

/-- Store `r` of head `n` into the scratch array: a block of transposed values, or the ones. -/
def vtPiece (n r : ℕ) : View.Piece (Elt F) S4x144x2048 .bf16 :=
  if r < 8 then ⟨trRect n r, trBlk (loadBlk arg4 harg4 x2 n r)⟩ else ⟨onesRect n, onesBlk⟩

set_option maxHeartbeats 0 in
set_option maxRecDepth 100000 in
/-- The pieces stored into the scratch array, last first. -/
theorem vtPieces_eq : (kernelRun0_A c i arg2 harg2 arg3 harg3 arg4 harg4 arg5 harg5 arg6 harg6 x0 x1 x2).2.1 =
    (List.finRange 36).reverse.map fun t => vtPiece arg4 harg4 x2 (t.val / 9) (t.val % 9) := by
  sl_kernel_rfl
end

end Cert.KernelIdeal.Moba

end
-- ==== Proof.Moba.Cells.lean ====
/- What the body leaves in its output block, element by element, from the blocks of queries, keys and values it stages. -/
module

public import proofs.«01_k».proof.Proof.Moba.Scratch
public import Idealize.ShloMosaic.Lib.Pointwise
public import Idealize.ShloMosaic.Lib.Pipeline.ValueKit.Tiles

@[expose] public section

noncomputable section

namespace Cert.KernelIdeal.Moba

open Cert.KernelIdeal Cert.KernelIdeal.Gen Idealize.ShloMosaic Idealize.ShloMosaic.TcCoe

/-- Block `j` of head `n` of an array of 2048 rows. -/
def blkOf (x : Vec Ideal S1x2048x512 .bf16) (n j : ℕ) : Vec Ideal S1x256x128 .bf16 := fun y =>
  x (ix3 0 ⟨256 * (j % 8) + (y 1).val, by have h : (y 1).val < 256 := (y 1).isLt; omega⟩
    ⟨128 * (n % 4) + (y 2).val, by have h : (y 2).val < 128 := (y 2).isLt; omega⟩)

/-- The scratch array, element by element: row `d` of head `n` holds feature `d` of the values, rows from 128 on hold ones. -/
def vtAll (x : Vec Ideal S1x2048x512 .bf16) : Vec Ideal S4x144x2048 .bf16 := fun y =>
  if h : (y 1).val < 128 then x (ix3 0 (y 2) ⟨128 * (y 0).val + (y 1).val, by have h0 : (y 0).val < 4 := (y 0).isLt; omega⟩)
  else (1 : EReal)

/-- Block `j` of the transposed values of head `n`, the ones below. -/
def vtOf (x : Vec Ideal S1x2048x512 .bf16) (n j : ℕ) : Vec Ideal S1x144x256 .bf16 := fun y =>
  vtAll x (ix3 ⟨n % 4, by omega⟩ (y 1) ⟨256 * (j % 8) + (y 2).val, by have h : (y 2).val < 256 := (y 2).isLt; omega⟩)

section
variable (c : Dev nD) (i : grid0.Coords) (arg2 : Memref sig .tc .vmem S1x2048x512 .bf16) (harg2 : arg2.IsWhole)
  (arg3 : Memref sig .tc .vmem S1x2048x512 .bf16) (harg3 : arg3.IsWhole)
  (arg4 : Memref sig .tc .vmem S1x2048x512 .bf16) (harg4 : arg4.IsWhole)
  (arg5 : Memref sig .tc .vmem S1x2048x512 .bf16) (harg5 : arg5.IsWhole)
  (arg6 : Memref sig .tc .vmem S4x144x2048 .bf16) (harg6 : arg6.IsWhole)
  (x0 x1 x2 : Vec Ideal S1x2048x512 .bf16)

/-- A loaded block is the block of the staged array. -/
theorem loadBlk_eq (arg : Memref sig .tc .vmem S1x2048x512 .bf16) (harg : arg.IsWhole) (x : Vec Ideal S1x2048x512 .bf16) (n j : ℕ) :
    loadBlk (F := Ideal) arg harg x n j = blkOf x n j := by
  unfold loadBlk blkRect
  rw [View.readAt_eq_ld, Memref.IsWhole.read_unread]
  funext y
  refine View.ld_unit_apply_of x _ _ _ y _ fun a => ?_
  have h0 : (y 0).val < 1 := (y 0).isLt
  fin_cases a
  · show 0 = 0 + (y 0).val; omega
  · rfl
  · rfl

/-- A transposed block at an index. -/
theorem trBlk_apply (v : Vec Ideal S1x256x128 .bf16) (d : Fin 128) (kk : Fin 256) :
    trBlk (F := Ideal) v (ix3 0 d kk) = v (ix3 0 kk d) := by
  unfold trBlk
  pointwise

/-- The rows of ones at an index. -/
theorem onesBlk_apply (y : S1x16x2048.Idx) : onesBlk (F := Ideal) y = (1 : EReal) := by
  unfold onesBlk
  pointwise

/-- Every store into the scratch array stores there the value named above. -/
theorem vtPiece_apply (n r : ℕ) (hn : n < 4) (hr : r < 9) (y : (vtPiece (F := Ideal) arg4 harg4 x2 n r).1.shape.Idx) :
    (vtPiece (F := Ideal) arg4 harg4 x2 n r).2 y = vtAll x2 ((vtPiece (F := Ideal) arg4 harg4 x2 n r).1.emb y) := by
  revert y
  by_cases h : r < 8
  · rw [show vtPiece (F := Ideal) arg4 harg4 x2 n r = ⟨trRect n r, trBlk (loadBlk arg4 harg4 x2 n r)⟩ from if_pos h]
    intro y
    have hd : (y 1).val < 128 := (y 1).isLt
    have hk : (y 2).val < 256 := (y 2).isLt
    have h0 : (y 0).val < 1 := (y 0).isLt
    show trBlk (F := Ideal) (loadBlk arg4 harg4 x2 n r) y = _
    have ey : y = ix3 (0 : Fin 1) (⟨(y 1).val, hd⟩ : Fin 128) (⟨(y 2).val, hk⟩ : Fin 256) := by
      funext a; fin_cases a
      · exact Fin.ext (by show (y 0).val = 0; omega)
      · rfl
      · rfl
    rw [ey, trBlk_apply, loadBlk_eq, blkOf, vtAll, dif_pos (by show 0 + 1 * (y 1).val < 128; omega)]
    congr 1
    funext a; fin_cases a
    · rfl
    · exact Fin.ext (by show 256 * (r % 8) + (y 2).val = 256 * (r % 8) + 1 * (y 2).val; omega)
    · exact Fin.ext (by show 128 * (n % 4) + (y 1).val = 128 * (n % 4 + 1 * 0) + (0 + 1 * (y 1).val); omega)
  · rw [show vtPiece (F := Ideal) arg4 harg4 x2 n r = ⟨onesRect n, onesBlk⟩ from if_neg h]
    intro y
    refine (onesBlk_apply y).trans ?_
    rw [vtAll, dif_neg (by show ¬ 128 + 1 * (y 1).val < 128; omega)]

/-- The scratch columns loaded back hold the transposed values and the ones. -/
theorem loadVt_eq (n j : ℕ) : loadVt (F := Ideal) c i arg2 harg2 arg3 harg3 arg4 harg4 arg5 harg5 arg6 harg6 x0 x1 x2 n j = vtOf x2 n j := by
  unfold loadVt
  rw [View.readCov_eq_canon', vtPieces_eq]
  funext y
  have hd : (y 1).val < 144 := (y 1).isLt
  have hk : (y 2).val < 256 := (y 2).isLt
  have h0 : (y 0).val < 1 := (y 0).isLt
  have ey : (vtRect n j).toLoadRect.idx y = ix3 (⟨n % 4, by omega⟩ : Fin 4) (y 1) (⟨256 * (j % 8) + (y 2).val, by omega⟩ : Fin 2048) := by
    funext a; fin_cases a
    · exact Fin.ext (by show n % 4 + 1 * (y 0).val = n % 4; omega)
    · exact Fin.ext (by show 0 + 1 * (y 1).val = (y 1).val; omega)
    · exact Fin.ext (by show 256 * (j % 8) + 1 * (y 2).val = 256 * (j % 8) + (y 2).val; omega)
  show View.canon _ ((vtRect n j).toLoadRect.idx y) = vtAll x2 _
  rw [ey]
  refine View.canon_apply_of_pieces (vtAll x2) _ ?_ _ ?_
  · intro p hp
    obtain ⟨t, -, rfl⟩ := List.mem_map.mp hp
    exact vtPiece_apply arg4 harg4 x2 _ _ (by omega) (by omega)
  · by_cases h : (y 1).val < 128
    · refine ⟨_, List.mem_map.mpr ⟨⟨9 * (n % 4) + j % 8, by omega⟩, by simp, rfl⟩, ?_⟩
      have e1 : (9 * (n % 4) + j % 8) / 9 = n % 4 := by omega
      have e2 : (9 * (n % 4) + j % 8) % 9 = j % 8 := by omega
      simp only [e1, e2]
      rw [vtPiece, if_pos (by omega)]
      refine (Rect.mem_set_unit (inb := inb_tr (n % 4) (j % 8))).mpr fun a => ?_
      fin_cases a
      · show n % 4 % 4 ≤ n % 4 ∧ n % 4 < n % 4 % 4 + 1; omega
      · show 0 ≤ (y 1).val ∧ (y 1).val < 0 + 128; omega
      · show 256 * (j % 8 % 8) ≤ 256 * (j % 8) + (y 2).val ∧ 256 * (j % 8) + (y 2).val < 256 * (j % 8 % 8) + 256; omega
    · refine ⟨_, List.mem_map.mpr ⟨⟨9 * (n % 4) + 8, by omega⟩, by simp, rfl⟩, ?_⟩
      have e1 : (9 * (n % 4) + 8) / 9 = n % 4 := by omega
      have e2 : (9 * (n % 4) + 8) % 9 = 8 := by omega
      simp only [e1, e2]
      rw [vtPiece, if_neg (by omega)]
      refine (Rect.mem_set_unit (inb := inb_ones (n % 4))).mpr fun a => ?_
      fin_cases a
      · show n % 4 % 4 ≤ n % 4 ∧ n % 4 < n % 4 % 4 + 1; omega
      · show 128 ≤ (y 1).val ∧ (y 1).val < 128 + 16; omega
      · show 0 ≤ 256 * (j % 8) + (y 2).val ∧ 256 * (j % 8) + (y 2).val < 0 + 2048; omega

/-- The output block, element by element. -/
def outOf (y : S1x2048x512.Idx) : EReal :=
  task (F := Ideal) (blkOf x1 ((y 2).val / 128)) (blkOf x0 ((y 2).val / 128) ((y 1).val / 256)) (vtOf x2 ((y 2).val / 128))
    ((y 1).val / 256) (by have h : (y 1).val < 2048 := (y 1).isLt; omega)
    (ix3 0 ⟨(y 1).val % 256, by omega⟩ ⟨(y 2).val % 128, by omega⟩)

/-- What a task stores depends on its numbers alone. -/
theorem task_congr {n n' b b' : ℕ} (hn : n = n') (hb : b = b') (h : b < 8) (h' : b' < 8) (z z' : S1x256x128.Idx) (hz : z = z') :
    task (F := Ideal) (blkOf x1 n) (blkOf x0 n b) (vtOf x2 n) b h z = task (F := Ideal) (blkOf x1 n') (blkOf x0 n' b') (vtOf x2 n') b' h' z' := by
  subst hn hb hz; rfl

/-- The output block the body leaves is the function above. -/
theorem out_eq : out0_A_3 (F := Ideal) c i arg2 harg2 arg3 harg3 arg4 harg4 arg5 harg5 arg6 harg6 x0 x1 x2 = outOf x0 x1 x2 := by
  unfold out0_A_3
  rw [View.read_writes_eq_canon _ _ _ (cover0_A_3 c i arg2 harg2 arg3 harg3 arg4 harg4 arg5 harg5 arg6 harg6 x0 x1 x2)]
  funext y
  refine View.canon_apply_of_pieces (outOf x0 x1 x2) _ ?_ y (cover0_A_3 c i arg2 harg2 arg3 harg3 arg4 harg4 arg5 harg5 arg6 harg6 x0 x1 x2 y)
  rw [pieces_eq]
  intro p hp
  obtain ⟨t, -, rfl⟩ := List.mem_map.mp hp
  intro z
  have hz0 : (z 0).val < 1 := (z 0).isLt
  have hz1 : (z 1).val < 256 := (z 1).isLt
  have hz2 : (z 2).val < 128 := (z 2).isLt
  have ht := t.isLt
  show task (F := Ideal) (loadBlk arg3 harg3 x1 (t.val % 4)) (loadBlk arg2 harg2 x0 (t.val % 4) (t.val / 4))
    (loadVt c i arg2 harg2 arg3 harg3 arg4 harg4 arg5 harg5 arg6 harg6 x0 x1 x2 (t.val % 4)) (t.val / 4) _ z = _
  rw [show loadBlk (F := Ideal) arg3 harg3 x1 (t.val % 4) = blkOf x1 (t.val % 4) from funext fun _ => loadBlk_eq _ _ _ _ _,
    loadBlk_eq, show loadVt (F := Ideal) c i arg2 harg2 arg3 harg3 arg4 harg4 arg5 harg5 arg6 harg6 x0 x1 x2 (t.val % 4) = vtOf x2 (t.val % 4)
      from funext fun _ => loadVt_eq c i arg2 harg2 arg3 harg3 arg4 harg4 arg5 harg5 arg6 harg6 x0 x1 x2 _ _]
  refine task_congr x0 x1 x2 ?_ ?_ _ _ z _ ?_
  · show t.val % 4 = (128 * (t.val % 4 % 4) + 1 * (z 2).val) / 128; omega
  · show t.val / 4 = (256 * (t.val / 4 % 8) + 1 * (z 1).val) / 256; omega
  · funext a; fin_cases a
    · exact Fin.ext (by show (z 0).val = 0; omega)
    · exact Fin.ext (by show (z 1).val = (256 * (t.val / 4 % 8) + 1 * (z 1).val) % 256; omega)
    · exact Fin.ext (by show (z 2).val = (128 * (t.val % 4 % 4) + 1 * (z 2).val) % 128; omega)
end

end Cert.KernelIdeal.Moba

end
-- ==== Proof.Moba.Arrays.lean ====
/- The array the attention kernel leaves, element by element, from its three arguments. -/
module

public import proofs.«01_k».proof.Proof.Moba.Cells
public import Idealize.ShloMosaic.Lib.Pipeline.ValueKit
public import Idealize.ShloMosaic.Lib.StableHlo.ReadAt

@[expose] public section

set_option maxRecDepth 16384

noncomputable section

namespace Cert.KernelIdeal.Moba

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- What the queries are divided by: `√128 · log 2`. -/
def scale : EReal := Ideal.sqrt (Ideal.ofBits .f32 0x43000000#32) * Ideal.log (Ideal.ofBits .f32 0x40000000#32)

/-- The rows of one batch of an argument. -/
def batchOf (X : FVec Ideal S16x2048x512 .f32) (b : Fin 16) : Vec Ideal S1x2048x512 .bf16 := fun y => X (ix3 b (y 1) (y 2))

/-- The rows of one batch of the queries, scaled. -/
def scaledOf (X : FVec Ideal S16x2048x512 .f32) (b : Fin 16) : Vec Ideal S1x2048x512 .bf16 := fun y =>
  Ideal.div (X (ix3 b (y 1) (y 2))) scale

/-- The array the kernel leaves. -/
def result (q k v : FVec Ideal S16x2048x512 .f32) : S16x2048x512.Idx → EReal := fun i =>
  outOf (scaledOf q (i 0)) (batchOf k (i 0)) (batchOf v (i 0)) (ix3 0 (i 1) (i 2))

/-- The block every window stages at each grid point. -/
theorem idx : ∀ t : Fin cfg0.N, win0_0.index t = ![t.val, 0, 0] ∧ win0_1.index t = ![t.val, 0, 0] ∧
    win0_2.index t = ![t.val, 0, 0] ∧ win0_3.index t = ![t.val, 0, 0] ∧ t.val < 16 :=
  (by decide +kernel : ∀ t : Fin grid0.N, _)

/-- The queries staged at a grid point: one batch, scaled. -/
theorem iblk0 (c : Dev nD) (t : Fin cfg0.N) : iblk (F := Ideal) m c 0 t =
    scaledOf (m ((c : Thread nD τ).loc main_arg0)) ⟨t.val, (idx t).2.2.2.2⟩ := by
  funext y
  blk_simp [iblk]
  unfold V
  after_reads_at
  unfold scaledOf scale
  congr 2
  blk_ext [idx t]

/-- The keys staged at a grid point: one batch. -/
theorem iblk1 (c : Dev nD) (t : Fin cfg0.N) : iblk (F := Ideal) m c 1 t =
    batchOf (m ((c : Thread nD τ).loc main_arg1)) ⟨t.val, (idx t).2.2.2.2⟩ := by
  funext y
  blk_simp [iblk]
  unfold V
  after_reads_at
  unfold batchOf
  blk_ext [idx t]

/-- The values staged at a grid point: one batch. -/
theorem iblk2 (c : Dev nD) (t : Fin cfg0.N) : iblk (F := Ideal) m c 2 t =
    batchOf (m ((c : Thread nD τ).loc main_arg2)) ⟨t.val, (idx t).2.2.2.2⟩ := by
  funext y
  blk_simp [iblk]
  unfold V
  after_reads_at
  unfold batchOf
  blk_ext [idx t]

/-- The array after the run. -/
theorem final (c : Dev nD) : (dats (F := Ideal) m 0 c).arrAt 3 (cfgs 0).N =
    result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  rw [out_eq, iblk0, iblk1, iblk2]
  have e : ((cfg0.win 3).blk t).view.emb y = (ix3 (⟨t.val, (idx t).2.2.2.2⟩ : Fin 16) (y 1) (y 2) : S16x2048x512.Idx) := by
    blk_ext [idx t]
  rw [e]
  show outOf _ _ _ y = outOf (scaledOf _ ⟨t.val, _⟩) (batchOf _ ⟨t.val, _⟩) (batchOf _ ⟨t.val, _⟩) (ix3 0 (y 1) (y 2))
  have h0 : (y 0).val < 1 := (y 0).isLt
  refine congrArg _ ?_
  funext a; fin_cases a
  · exact Fin.ext (by show (y 0).val = 0; omega)
  · rfl
  · rfl

end Cert.KernelIdeal.Moba

end
-- ==== Proof.Moba.Point.lean ====
/- The operations of one task, each at an index, over the extended reals. -/
module

public import proofs.«01_k».proof.Proof.Moba.Body
public import Idealize.ShloMosaic.Lib.Pointwise
public import Idealize.ShloMosaic.Lib.WordCmp

@[expose] public section

noncomputable section

namespace Cert.KernelIdeal.Moba

open Cert.KernelIdeal Cert.KernelIdeal.Gen Idealize.ShloMosaic Idealize.ShloMosaic.TcCoe
open scoped BigOperators
open Idealize.ShloMosaic.WordCmp

/-- The word of minus infinity. -/
theorem ninf : Ideal.ofBits .f32 4286578688#32 = (⊥ : EReal) := by simp [Ideal.ofBits, Ideal.ieee]

/-- The word of three. -/
theorem three : Ideal.ofBits .f32 0x40400000#32 = (3 : EReal) := by
  simp only [Ideal.ofBits, Ideal.ieee]; simp [← EReal.coe_mul]; norm_num; rfl

/-- The word of one half. -/
theorem half : Ideal.ofBits .f32 0x3F000000#32 = ((1 / 2 : ℝ) : EReal) := by
  simp only [Ideal.ofBits, Ideal.ieee]; simp [← EReal.coe_mul]; norm_num

/-- The word of two hundred and fifty-six. -/
theorem twofiftysix : Ideal.ofBits .f32 0x43800000#32 = ((256 : ℝ) : EReal) := by
  simp only [Ideal.ofBits, Ideal.ieee]; simp [← EReal.coe_mul]; norm_num

/-- A score is the inner product of a key and a query. -/
theorem scoreBlk_apply (k q : Vec Ideal S1x256x128 .bf16) (kk r : Fin 256) :
    scoreBlk (F := Ideal) k q (ix2 kk r) = ∑ c : Fin 128, k (ix3 0 kk c) * q (ix3 0 r c) := by
  unfold scoreBlk
  pointwise

/-- A score against the own block: minus infinity where the key comes after the query. -/
theorem ownBlk_apply (k q : Vec Ideal S1x256x128 .bf16) (kk r : Fin 256) :
    ownBlk (F := Ideal) k q (ix2 kk r) = if kk.val ≤ r.val then scoreBlk (F := Ideal) k q (ix2 kk r) else ⊥ := by
  unfold ownBlk
  generalize scoreBlk (F := Ideal) k q = s
  pointwise
  rw [cmpi_sle_ofNat (by omega) (by omega), ninf, Scalar.select_decide]

/-- The mean key of a block. -/
theorem keyMean_apply (k : Vec Ideal S1x256x128 .bf16) (c : Fin 128) :
    keyMean (F := Ideal) k (ix2 0 c) = Ideal.div (∑ kk : Fin 256, k (ix3 0 kk c)) ((256 : ℝ) : EReal) := by
  unfold keyMean
  pointwise
  rw [twofiftysix]

/-- The mean keys of the eight blocks. -/
theorem keyMeans_apply (k : ℕ → Vec Ideal S1x256x128 .bf16) (j : Fin 8) (c : Fin 128) :
    keyMeans (F := Ideal) k (ix2 j c) = keyMean (F := Ideal) (k j) (ix2 0 c) := by
  unfold keyMeans
  generalize keyMean (F := Ideal) = f
  fin_cases j <;> pointwise <;> rfl

/-- The gates of the queries of block `i`. -/
theorem gateBlk_apply (i : ℕ) (hi : i < 8) (k : ℕ → Vec Ideal S1x256x128 .bf16) (q : Vec Ideal S1x256x128 .bf16)
    (j : Fin 8) (r : Fin 256) :
    gateBlk (F := Ideal) (BitVec.ofNat 32 i) k q (ix2 j r) =
      if j.val < i then ∑ c : Fin 128, keyMean (F := Ideal) (k j) (ix2 0 c) * q (ix3 0 r c) else ⊥ := by
  unfold gateBlk blkNo
  simp only [← keyMeans_apply]
  generalize keyMeans (F := Ideal) k = f
  pointwise
  rw [cmpi_slt_ofNat (by omega) (by omega), ninf, Scalar.select_decide]

/-- Whether block `j` comes before block `b` in the ranking of query `r`. -/
def Beats (g : FVec Ideal S8x256 .f32) (r : Fin 256) (j b : Fin 8) : Prop :=
  (g (ix2 b r) : EReal) < g (ix2 j r) ∨ ((g (ix2 j r) : EReal) = g (ix2 b r) ∧ j.val < b.val)

instance (g : FVec Ideal S8x256 .f32) (r : Fin 256) (j b : Fin 8) : Decidable (Beats g r j b) := Classical.propDecidable _

/-- One where a block comes before another, else zero. -/
theorem beats_apply (g : FVec Ideal S8x256 .f32) (j : ℕ) (h : j < 8) (b : Fin 8) (r : Fin 256) :
    beats (F := Ideal) g j h (ix2 b r) = if Beats g r ⟨j, h⟩ b then (1 : EReal) else 0 := by
  unfold beats rowAt blkNo Beats
  pointwise
  rw [cmpi_sgt_ofNat (by omega) (by omega), andi_ofBool, ori_ofBool, ← Bool.decide_and, ← Bool.decide_or, Scalar.select_decide]
  congr

/-- The rank of a block counts the blocks that come before it. -/
theorem rank_apply (g : FVec Ideal S8x256 .f32) (n : ℕ) (hn : n ≤ 8) (b : Fin 8) (r : Fin 256) :
    rank (F := Ideal) g n hn (ix2 b r) =
      (((Finset.univ.filter fun j : Fin 8 => j.val < n ∧ Beats g r j b).card : ℕ) : EReal) := by
  induction n with
  | zero => simp [rank]; pointwise
  | succ n ih =>
    have e : (Finset.univ.filter fun j : Fin 8 => j.val < n + 1 ∧ Beats g r j b) =
        (Finset.univ.filter fun j : Fin 8 => j.val < n ∧ Beats g r j b) ∪
          (if Beats g r ⟨n, by omega⟩ b then {⟨n, by omega⟩} else ∅) := by
      ext j
      by_cases hb : Beats g r ⟨n, by omega⟩ b
      · simp only [hb, if_true, Finset.mem_union, Finset.mem_filter, Finset.mem_univ, true_and, Finset.mem_singleton]
        constructor
        · rintro ⟨h1, h2⟩
          by_cases hj : j.val < n
          · exact .inl ⟨hj, h2⟩
          · exact .inr (Fin.ext (by show j.val = n; omega))
        · rintro (⟨h1, h2⟩ | rfl)
          · exact ⟨by omega, h2⟩
          · exact ⟨by show n < n + 1; omega, hb⟩
      · simp only [hb, if_false, Finset.union_empty, Finset.mem_filter, Finset.mem_univ, true_and]
        constructor
        · rintro ⟨h1, h2⟩
          refine ⟨?_, h2⟩
          rcases Nat.lt_succ_iff_lt_or_eq.mp h1 with h | h
          · exact h
          · exact absurd (by convert h2; exact h.symm) hb
        · rintro ⟨h1, h2⟩; exact ⟨by omega, h2⟩
    rw [e, Finset.card_union_of_disjoint, rank]
    · show (rank (F := Ideal) g n _ (ix2 b r) + beats (F := Ideal) g n _ (ix2 b r) : EReal) = _
      rw [ih, beats_apply]
      push_cast
      congr 1
      split <;> simp
    · rw [Finset.disjoint_left]
      intro j hj hj'
      split at hj' <;> simp at hj hj'
      rw [hj'] at hj; simp at hj

/-- A block is chosen when it is past and at most two past blocks come before it. -/
theorem chosen_apply (i : ℕ) (hi : i ≤ 8) (g : FVec Ideal S8x256 .f32) (b : Fin 8) (r : Fin 256) :
    chosen (F := Ideal) i hi g (ix2 b r) = (
      if (Finset.univ.filter fun j : Fin 8 => j.val < i ∧ Beats g r j b).card < 3 ∧ b.val < i then (1 : EReal) else 0) := by
  unfold chosen blkNo
  have e := rank_apply g i hi b r
  generalize rank (F := Ideal) g i hi = f at e
  pointwise
  rw [e, three, cmpi_slt_ofNat (by omega) (by omega), andi_ofBool, ← Bool.decide_and, Scalar.select_decide]
  have h3 : ∀ n : ℕ, ((n : EReal) < 3) ↔ n < 3 := fun n => by
    rw [show (3 : EReal) = ((3 : ℕ) : EReal) from rfl]; exact Nat.cast_lt
  simp only [h3]

/-- A masked score. -/
theorem maskBlk_apply (c : FVec Ideal S8x256 .f32) (j : ℕ) (h : j < 8) (s : FVec Ideal S256x256 .f32) (kk r : Fin 256) :
    maskBlk (F := Ideal) c j h s (ix2 kk r) =
      (if ((1 / 2 : ℝ) : EReal) < c (ix2 ⟨j, h⟩ r) then s (ix2 kk r) else ⊥) := by
  unfold maskBlk rowAt
  pointwise
  rw [ninf, half]

/-- The greatest score of a block. -/
theorem colMax_apply (s : FVec Ideal S256x256 .f32) (r : Fin 256) :
    colMax (F := Ideal) s (ix2 0 r) = Finset.univ.sup fun kk : Fin 256 => (s (ix2 kk r) : EReal) := by
  unfold colMax
  pointwise
  rw [ninf]
  rfl

/-- The greatest score of the first blocks is the greatest of all their scores. -/
theorem maxUpTo_apply (s : ℕ → FVec Ideal S256x256 .f32) (n : ℕ) (r : Fin 256) :
    maxUpTo (F := Ideal) s n (ix2 0 r) =
      (Finset.range (n + 1)).sup fun j => Finset.univ.sup fun kk : Fin 256 => (s j (ix2 kk r) : EReal) := by
  induction n with
  | zero => rw [maxUpTo, colMax_apply]; simp
  | succ n ih =>
    rw [maxUpTo, Finset.range_add_one, Finset.sup_insert, ← ih, ← colMax_apply, sup_comm]
    pointwise

/-- The weighted sums of the first blocks' values. -/
theorem accUpTo_apply (s : ℕ → FVec Ideal S256x256 .f32) (v : ℕ → Vec Ideal S1x144x256 .bf16) (m : FVec Ideal S1x256 .f32)
    (n : ℕ) (d : Fin 144) (r : Fin 256) :
    accUpTo (F := Ideal) s v m n (ix2 d r) =
      ∑ j ∈ Finset.range n, ∑ kk : Fin 256, (v j (ix3 0 d kk) : EReal) *
        Ideal.exp2 ((s j (ix2 kk r) : EReal) - m (ix2 0 r)) := by
  induction n with
  | zero => rw [accUpTo]; pointwise; simp
  | succ n ih =>
    rw [accUpTo, Finset.sum_range_succ, ← ih]
    pointwise
    rfl

/-- The stored quotient. -/
theorem quotient_apply (a : FVec Ideal S144x256 .f32) (r : Fin 256) (d : Fin 128) :
    quotient (F := Ideal) a (ix3 0 r d) = Ideal.div (a (ix2 ⟨d, by omega⟩ r)) (a (ix2 128 r)) := by
  unfold quotient
  pointwise

end Cert.KernelIdeal.Moba

end
-- ==== Proof.Moba.Spec.lean ====
/- The mixture of block attention of one query over the reals: which blocks a query attends to, the weights of the keys,
   and the weighted mean of the values; and the two ways the programs write that mean. -/
module

public import Idealize.ShloMosaic.PureOps.Ideal
public import Idealize.ShloMosaic.PureOps.Ideal.Laws
public import Idealize.ShloMosaic.Lib.Pointwise

@[expose] public section

noncomputable section

namespace Cert.Moba

open Idealize.ShloMosaic
open scoped BigOperators

/-! ### Sums of extended reals with real weights -/

/-- A nonnegative real factor goes into a finite sum. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- A finite sum of reals is real. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The quotient of two reals. -/
theorem div_reals (x y : ℝ) (h : y ≠ 0) : Ideal.div (x : EReal) (y : EReal) = ((x / y : ℝ) : EReal) := by
  rw [Ideal.div_coe h, ← EReal.coe_mul, mul_one_div]

/-- The weighted mean of extended reals with real weights. -/
def mean {ι : Type*} (s : Finset ι) (w : ι → ℝ) (v : ι → EReal) : EReal :=
  (((∑ i ∈ s, w i)⁻¹ : ℝ) : EReal) * ∑ i ∈ s, (w i : EReal) * v i

/-- The quotient of the weighted sum by the sum of the weights is the mean, whatever positive factor the weights carry. -/
theorem div_eq_mean {ι : Type*} (s : Finset ι) (w : ι → ℝ) (v : ι → EReal) (c : ℝ) (hc : 0 < c)
    (hw : 0 < ∑ i ∈ s, w i) :
    Ideal.div (∑ i ∈ s, v i * ((c * w i : ℝ) : EReal)) (∑ i ∈ s, 1 * ((c * w i : ℝ) : EReal)) = mean s w v := by
  have e1 : ∑ i ∈ s, v i * ((c * w i : ℝ) : EReal) = (c : EReal) * ∑ i ∈ s, (w i : EReal) * v i := by
    rw [coe_mul_sum s c hc.le]
    refine Finset.sum_congr rfl fun i _ => ?_
    rw [EReal.coe_mul, mul_comm, mul_assoc]
  have e2 : ∑ i ∈ s, 1 * ((c * w i : ℝ) : EReal) = ((c * ∑ i ∈ s, w i : ℝ) : EReal) := by
    simp only [one_mul]
    rw [coe_sum, Finset.mul_sum]
  rw [e1, e2, Ideal.div_coe (by positivity), mean, mul_comm, ← mul_assoc, ← EReal.coe_mul]
  congr 2
  field_simp

/-- The values weighted by normalised weights sum to the mean, whatever positive factor the weights carry. -/
theorem sum_div_eq_mean {ι : Type*} (s : Finset ι) (w : ι → ℝ) (v : ι → EReal) (c : ℝ) (hc : 0 < c)
    (hw : 0 < ∑ i ∈ s, w i) :
    ∑ i ∈ s, Ideal.div ((c * w i : ℝ) : EReal) ((c * ∑ j ∈ s, w j : ℝ) : EReal) * v i = mean s w v := by
  rw [mean, coe_mul_sum s _ (by positivity)]
  refine Finset.sum_congr rfl fun i _ => ?_
  rw [div_reals _ _ (by positivity), ← mul_assoc, ← EReal.coe_mul]
  congr 2
  field_simp

/-! ### The specification -/

section
variable (Q : Fin 128 → ℝ) (K : Fin 8 → Fin 256 → Fin 128 → ℝ) (V : Fin 8 → Fin 256 → EReal) (i : ℕ) (r : Fin 256)

/-- The gate of a block: the query against the block's mean key. -/
def gate (j : Fin 8) : ℝ := ∑ c : Fin 128, Q c * ((∑ kk : Fin 256, K j kk c) / 256)

/-- Block `j` comes before block `b` in the query's ranking: its gate is greater, or equal with a smaller number. -/
def Before (j b : Fin 8) : Prop := gate Q K b < gate Q K j ∨ (gate Q K j = gate Q K b ∧ j.val < b.val)

instance (j b : Fin 8) : Decidable (Before Q K j b) := Classical.propDecidable _

/-- The past blocks that come before a block. -/
def ahead (b : Fin 8) : Finset (Fin 8) := Finset.univ.filter fun j => j.val < i ∧ Before Q K j b

/-- A block is selected when it is past and at most two past blocks come before it. -/
def Sel (j : Fin 8) : Prop := j.val < i ∧ (ahead Q K i j).card < 3

instance (j : Fin 8) : Decidable (Sel Q K i j) := Classical.propDecidable _

/-- A key is attended to: in a selected block, or in the query's own block and not after the query. -/
def Attends (p : Fin 8 × Fin 256) : Prop := Sel Q K i p.1 ∨ (p.1.val = i ∧ p.2.val ≤ r.val)

instance (p : Fin 8 × Fin 256) : Decidable (Attends Q K i r p) := Classical.propDecidable _

/-- The score of a key. -/
def score (p : Fin 8 × Fin 256) : ℝ := (∑ c : Fin 128, K p.1 p.2 c * Q c) / Real.sqrt 128

/-- The weight of a key: the exponential of its score where it is attended to. -/
def weight (p : Fin 8 × Fin 256) : ℝ := if Attends Q K i r p then Real.exp (score Q K p) else 0

/-- The attention's result for the query: the mean of the values under these weights. -/
def attention : EReal := mean Finset.univ (weight Q K i r) fun p => V p.1 p.2

theorem weight_nonneg (p : Fin 8 × Fin 256) : 0 ≤ weight Q K i r p := by
  unfold weight; split
  · exact (Real.exp_pos _).le
  · exact le_rfl

/-- The query's own key is attended to, so the weights do not all vanish. -/
theorem weight_sum_pos (hi : i < 8) : 0 < ∑ p, weight Q K i r p := by
  refine Finset.sum_pos' (fun p _ => weight_nonneg Q K i r p) ⟨(⟨i, hi⟩, r), Finset.mem_univ _, ?_⟩
  rw [weight, if_pos (show Attends Q K i r (⟨i, hi⟩, r) from Or.inr ⟨rfl, le_rfl⟩)]
  exact Real.exp_pos _

/-- A block does not come before itself. -/
theorem not_before_self (j : Fin 8) : ¬ Before Q K j j := by
  rintro (h | ⟨_, h⟩) <;> exact lt_irrefl _ h

/-- With at most three past blocks every past block is selected. -/
theorem sel_of_few (hi : i ≤ 3) (j : Fin 8) (hj : j.val < i) : Sel Q K i j := by
  refine ⟨hj, ?_⟩
  have h : ahead Q K i j ⊆ (Finset.univ.filter fun x : Fin 8 => x.val < i).erase j := by
    intro x hx
    obtain ⟨-, hx, hb⟩ := Finset.mem_filter.mp hx
    exact Finset.mem_erase.mpr ⟨fun e => not_before_self Q K j (e ▸ hb), Finset.mem_filter.mpr ⟨Finset.mem_univ _, hx⟩⟩
  have hc : (Finset.univ.filter fun x : Fin 8 => x.val < i).card = i := by
    have : i = 0 ∨ i = 1 ∨ i = 2 ∨ i = 3 := by omega
    rcases this with rfl | rfl | rfl | rfl <;> rfl
  have := Finset.card_le_card h
  have hm : j ∈ Finset.univ.filter fun x : Fin 8 => x.val < i := Finset.mem_filter.mpr ⟨Finset.mem_univ _, hj⟩
  rw [Finset.card_erase_of_mem hm, hc] at this
  omega
end

/-! ### The greatest score -/

/-- The greatest of finitely many extended reals, none of them `⊤` and one of them real, is real. -/
theorem sup_real {ι : Type*} (s : Finset ι) (f : ι → EReal) (ht : ∀ i ∈ s, f i ≠ ⊤) (i : ι) (hi : i ∈ s) (hb : f i ≠ ⊥) :
    ∃ M : ℝ, s.sup f = (M : EReal) := by
  have h1 : s.sup f ≠ ⊤ := ((Finset.sup_lt_iff (bot_lt_top)).mpr fun j hj => lt_top_iff_ne_top.mpr (ht j hj)).ne
  have h2 : s.sup f ≠ ⊥ := fun e => hb (le_bot_iff.mp (e ▸ Finset.le_sup hi))
  exact ⟨_, (EReal.coe_toReal h1 h2).symm⟩

/-- A power of two with a shifted and rescaled exponent is a positive multiple of the exponential. -/
theorem exp2_shift (x M : ℝ) : Ideal.exp2 (((x / Real.log 2 : ℝ) : EReal) - (M : EReal)) =
    ((Real.exp (-(Real.log 2 * M)) * Real.exp x : ℝ) : EReal) := by
  rw [← EReal.coe_sub, Ideal.exp2_coe]
  congr 1
  show (2 : ℝ) ^ (x / Real.log 2 - M) = _
  have hl : Real.log 2 ≠ 0 := (Real.log_pos (by norm_num)).ne'
  rw [Real.rpow_def_of_pos (by norm_num), ← Real.exp_add]
  congr 1
  field_simp
  ring

/-- The same with the key masked away. -/
theorem exp2_bot_shift (M : ℝ) : Ideal.exp2 ((⊥ : EReal) - (M : EReal)) = 0 := by
  rw [EReal.bot_sub]; rfl

/-- The exponential of a shifted score is a positive multiple of the exponential. -/
theorem exp_shift (x M : ℝ) : Ideal.exp ((x : EReal) - (M : EReal)) = ((Real.exp (-M) * Real.exp x : ℝ) : EReal) := by
  rw [← EReal.coe_sub, Ideal.exp_coe, ← Real.exp_add]
  congr 2; ring

/-- The same with the key masked away. -/
theorem exp_bot_shift (M : ℝ) : Ideal.exp ((⊥ : EReal) - (M : EReal)) = 0 := by
  rw [EReal.bot_sub]; rfl

end Cert.Moba

end
-- ==== Proof.Moba.Kernel.lean ====
/- The kernel's result is the specification: every element of its array is the attention of its query. -/
module

public import proofs.«01_k».proof.Proof.Moba.Arrays
public import proofs.«01_k».proof.Proof.Moba.Point
public import proofs.«01_k».proof.Proof.Moba.Spec

@[expose] public section

set_option maxRecDepth 16384

noncomputable section

namespace Cert.KernelIdeal.Moba

open Cert.KernelIdeal Cert.KernelIdeal.Gen Idealize.ShloMosaic Idealize.ShloMosaic.TcCoe
open scoped BigOperators

/-- The scale is `√128 · log 2`. -/
theorem scale_eq : scale = ((Real.sqrt 128 * Real.log 2 : ℝ) : EReal) := by
  have h1 : Ideal.ofBits .f32 0x43000000#32 = ((128 : ℝ) : EReal) := by
    simp only [Ideal.ofBits, Ideal.ieee]; simp [← EReal.coe_mul]; norm_num
  have h2 : Ideal.ofBits .f32 0x40000000#32 = ((2 : ℝ) : EReal) := by
    simp only [Ideal.ofBits, Ideal.ieee]; simp [← EReal.coe_mul]; norm_num
  rw [scale, h1, h2, Ideal.sqrt_coe, Ideal.log_coe, if_neg (by norm_num), if_neg (by norm_num), ← EReal.coe_mul]

theorem scale_pos : 0 < Real.sqrt 128 * Real.log 2 :=
  mul_pos (Real.sqrt_pos.mpr (by norm_num)) (Real.log_pos (by norm_num))

section
variable (Q : Fin 128 → ℝ) (K : Fin 8 → Fin 256 → Fin 128 → ℝ) (V : Fin 8 → Fin 256 → EReal)
  (k : ℕ → Vec Ideal S1x256x128 .bf16) (q : Vec Ideal S1x256x128 .bf16) (v : ℕ → Vec Ideal S1x144x256 .bf16)
  (r : Fin 256) (d : Fin 128)
  (hq : ∀ c, q (ix3 0 r c) = ((Q c / (Real.sqrt 128 * Real.log 2) : ℝ) : EReal))
  (hk : ∀ (j : Fin 8) kk c, k j (ix3 0 kk c) = (K j kk c : EReal))
  (hv : ∀ (j : Fin 8) kk, v j (ix3 0 (d.castLE (by decide)) kk) = V j kk)
  (h1 : ∀ (j : Fin 8) kk, v j (ix3 0 128 kk) = (1 : EReal))
include hq hk

/-- A score of the kernel is the specification's over `log 2`. -/
theorem scoreBlk_real (j : Fin 8) (kk : Fin 256) :
    scoreBlk (F := Ideal) (k j) q (ix2 kk r) = ((Cert.Moba.score Q K (j, kk) / Real.log 2 : ℝ) : EReal) := by
  rw [scoreBlk_apply]
  simp only [hq, hk, ← EReal.coe_mul]
  rw [Cert.Moba.coe_sum]
  congr 1
  rw [Cert.Moba.score, div_div, Finset.sum_div]
  exact Finset.sum_congr rfl fun c _ => by ring

/-- A gate of the kernel is the specification's over the scale. -/
theorem gateBlk_real (i : ℕ) (hi : i < 8) (j : Fin 8) (hj : j.val < i) :
    gateBlk (F := Ideal) (BitVec.ofNat 32 i) k q (ix2 j r) =
      ((Cert.Moba.gate Q K j / (Real.sqrt 128 * Real.log 2) : ℝ) : EReal) := by
  rw [gateBlk_apply i hi, if_pos hj]
  simp only [keyMean_apply, hq, hk]
  simp only [Cert.Moba.coe_sum, Cert.Moba.div_reals _ _ (show (256 : ℝ) ≠ 0 by norm_num), ← EReal.coe_mul]
  congr 1
  rw [Cert.Moba.gate, Finset.sum_div]
  exact Finset.sum_congr rfl fun c _ => by ring

/-- The kernel ranks past blocks as the specification does. -/
theorem beats_iff (i : ℕ) (hi : i < 8) (j b : Fin 8) (hj : j.val < i) (hb : b.val < i) :
    Beats (gateBlk (F := Ideal) (BitVec.ofNat 32 i) k q) r j b ↔ Cert.Moba.Before Q K j b := by
  have hs := scale_pos
  unfold Beats Cert.Moba.Before
  rw [gateBlk_real Q K k q r hq hk i hi j hj, gateBlk_real Q K k q r hq hk i hi b hb, EReal.coe_lt_coe_iff, EReal.coe_eq_coe_iff,
    div_lt_div_iff_of_pos_right hs, div_left_inj' hs.ne']

/-- A block is chosen exactly when the specification selects it. -/
theorem chosen_real (i : ℕ) (hi : i < 8) (b : Fin 8) :
    chosen (F := Ideal) i hi.le (gateBlk (F := Ideal) (BitVec.ofNat 32 i) k q) (ix2 b r) =
      if Cert.Moba.Sel Q K i b then (1 : EReal) else 0 := by
  rw [chosen_apply]
  refine if_congr ?_ rfl rfl
  rw [Cert.Moba.Sel, Cert.Moba.ahead, and_comm]
  refine and_congr_right fun hb => ?_
  rw [Finset.filter_congr fun j _ => and_congr_right fun hj => beats_iff Q K k q r hq hk i hi j b hj hb]

/-- The masked scores of the kernel, at the queries' row. -/
theorem scoresAt_real (i : ℕ) (hi : i < 8) (j : Fin 8) (hj : j.val ≤ i) (kk : Fin 256) :
    scoresAt (F := Ideal) k q i hi j (ix2 kk r) =
      if Cert.Moba.Attends Q K i r (j, kk) then ((Cert.Moba.score Q K (j, kk) / Real.log 2 : ℝ) : EReal) else ⊥ := by
  unfold scoresAt
  by_cases h : j.val < i
  · have hA : Cert.Moba.Attends Q K i r (j, kk) ↔ Cert.Moba.Sel Q K i j := by
      unfold Cert.Moba.Attends
      exact or_iff_left fun e => absurd e.1 (by show ¬ j.val = i; omega)
    rw [dif_pos h]
    by_cases h3 : 3 < i
    · rw [if_pos h3, maskBlk_apply, scoreBlk_real Q K k q r hq hk,
        show (⟨j.val, _⟩ : Fin 8) = j from rfl, chosen_real Q K k q r hq hk i hi j]
      by_cases hs : Cert.Moba.Sel Q K i j
      · rw [if_pos (hA.mpr hs), if_pos hs, if_pos]
        exact_mod_cast (by norm_num : (1 / 2 : ℝ) < 1)
      · rw [if_neg (fun e => hs (hA.mp e)), if_neg hs, if_neg]
        exact not_lt.mpr (by exact_mod_cast (by norm_num : (0 : ℝ) ≤ 1 / 2))
    · rw [if_neg h3, scoreBlk_real Q K k q r hq hk, if_pos (hA.mpr (Cert.Moba.sel_of_few Q K i (by omega) j h))]
  · have hji : j.val = i := by omega
    rw [dif_neg h, ownBlk_apply, scoreBlk_real Q K k q r hq hk]
    refine if_congr ?_ rfl rfl
    unfold Cert.Moba.Attends
    constructor
    · exact fun e => Or.inr ⟨hji, e⟩
    · rintro (e | e)
      · exact absurd e.1 h
      · exact e.2

/-- The greatest score is real: the query's own key has one. -/
theorem maxUpTo_real (i : ℕ) (hi : i < 8) :
    ∃ M : ℝ, maxUpTo (F := Ideal) (scoresAt (F := Ideal) k q i hi) i (ix2 0 r) = (M : EReal) := by
  rw [maxUpTo_apply]
  have hs : ∀ j ∈ Finset.range (i + 1), ∀ kk : Fin 256, scoresAt (F := Ideal) k q i hi j (ix2 kk r) ≠ (⊤ : EReal) := by
    intro j hj kk
    have hj := Finset.mem_range.mp hj
    have := scoresAt_real Q K k q r hq hk i hi ⟨j, by omega⟩ (by show j ≤ i; omega) kk
    rw [show ((⟨j, by omega⟩ : Fin 8) : ℕ) = j from rfl] at this
    rw [this]
    split
    · exact EReal.coe_ne_top _
    · exact bot_ne_top
  refine Cert.Moba.sup_real _ _ (fun j hj => ?_) i (Finset.mem_range.mpr (by omega)) ?_
  · exact ((Finset.sup_lt_iff bot_lt_top).mpr fun kk _ => lt_top_iff_ne_top.mpr (hs j hj kk)).ne
  · have hown := scoresAt_real Q K k q r hq hk i hi ⟨i, hi⟩ (le_refl i) r
    rw [if_pos (show Cert.Moba.Attends Q K i r (⟨i, hi⟩, r) from Or.inr ⟨rfl, le_rfl⟩)] at hown
    intro e
    have := Finset.le_sup (f := fun kk : Fin 256 => (scoresAt (F := Ideal) k q i hi i (ix2 kk r) : EReal)) (Finset.mem_univ r)
    rw [e, le_bot_iff] at this
    rw [show scoresAt (F := Ideal) k q i hi i (ix2 r r) = _ from hown] at this
    exact EReal.coe_ne_bot _ this

/-- A weighted sum over the blocks up to the own one, as a sum over all keys. -/
theorem acc_real (i : ℕ) (hi : i < 8) (M : ℝ) (hM : maxUpTo (F := Ideal) (scoresAt (F := Ideal) k q i hi) i (ix2 0 r) = (M : EReal))
    (e : Fin 144) :
    accUpTo (F := Ideal) (scoresAt (F := Ideal) k q i hi) v (maxUpTo (F := Ideal) (scoresAt (F := Ideal) k q i hi) i) (i + 1) (ix2 e r) =
      ∑ p : Fin 8 × Fin 256, (v p.1 (ix3 0 e p.2) : EReal) *
        ((Real.exp (-(Real.log 2 * M)) * Cert.Moba.weight Q K i r p : ℝ) : EReal) := by
  rw [accUpTo_apply, hM, Fintype.sum_prod_type]
  have key : ∀ (j : Fin 8), j.val ≤ i → ∀ kk : Fin 256,
      Ideal.exp2 ((scoresAt (F := Ideal) k q i hi j (ix2 kk r) : EReal) - (M : EReal)) =
        ((Real.exp (-(Real.log 2 * M)) * Cert.Moba.weight Q K i r (j, kk) : ℝ) : EReal) := by
    intro j hj kk
    rw [scoresAt_real Q K k q r hq hk i hi j hj kk, Cert.Moba.weight]
    split
    · rw [Cert.Moba.exp2_shift]
    · rw [Cert.Moba.exp2_bot_shift, mul_zero]; rfl
  rw [Finset.sum_fin_eq_sum_range]
  have hsub : Finset.range (i + 1) ⊆ Finset.range 8 := Finset.range_mono (by omega)
  rw [← Finset.sum_subset hsub]
  · refine Finset.sum_congr rfl fun j hj => ?_
    have hj := Finset.mem_range.mp hj
    rw [dif_pos (by omega)]
    refine Finset.sum_congr rfl fun kk _ => ?_
    rw [← key ⟨j, by omega⟩ (by show j ≤ i; omega) kk]
  · intro j hj hj'
    have hj := Finset.mem_range.mp hj
    have hj' : ¬ j < i + 1 := fun h => hj' (Finset.mem_range.mpr h)
    rw [dif_pos hj]
    refine Finset.sum_eq_zero fun kk _ => ?_
    have : ¬ Cert.Moba.Attends Q K i r (⟨j, hj⟩, kk) := by
      rintro (h | h)
      · have h := h.1; exact hj' (by have : j < i := h; omega)
      · have h := h.1; exact hj' (by have : j = i := h; omega)
    rw [Cert.Moba.weight, if_neg this, mul_zero]
    exact mul_zero _

include hv h1

/-- A task stores the attention of its queries. -/
theorem task_real (i : ℕ) (hi : i < 8) :
    task (F := Ideal) k q v i hi (ix3 0 r d) = Cert.Moba.attention Q K V i r := by
  obtain ⟨M, hM⟩ := maxUpTo_real Q K k q r hq hk i hi
  unfold task
  rw [quotient_apply, acc_real Q K k q v r hq hk i hi M hM, acc_real Q K k q v r hq hk i hi M hM]
  rw [show (∑ p : Fin 8 × Fin 256, (v p.1 (ix3 0 (⟨d.val, by omega⟩ : Fin 144) p.2) : EReal) *
      ((Real.exp (-(Real.log 2 * M)) * Cert.Moba.weight Q K i r p : ℝ) : EReal)) = ∑ p : Fin 8 × Fin 256, V p.1 p.2 *
      ((Real.exp (-(Real.log 2 * M)) * Cert.Moba.weight Q K i r p : ℝ) : EReal) from
      Finset.sum_congr rfl fun p _ => by rw [← hv p.1 p.2]; rfl]
  simp only [h1]
  exact Cert.Moba.div_eq_mean _ _ _ _ (Real.exp_pos _) (Cert.Moba.weight_sum_pos Q K i r hi)
end

/-- The features of a query of a head. -/
def queryOf (X : FVec Ideal S16x2048x512 .f32) (b : Fin 16) (n : Fin 4) (t : Fin 2048) : Fin 128 → ℝ := fun c =>
  (X (ix3 b t ⟨128 * n.val + c.val, by omega⟩) : EReal).toReal

/-- The keys of a head, by blocks. -/
def keysOf (X : FVec Ideal S16x2048x512 .f32) (b : Fin 16) (n : Fin 4) : Fin 8 → Fin 256 → Fin 128 → ℝ := fun j kk c =>
  (X (ix3 b ⟨256 * j.val + kk.val, by omega⟩ ⟨128 * n.val + c.val, by omega⟩) : EReal).toReal

/-- A feature of the values of a head, by blocks. -/
def valuesOf (X : FVec Ideal S16x2048x512 .f32) (b : Fin 16) (n : Fin 4) (d : Fin 128) : Fin 8 → Fin 256 → EReal := fun j kk =>
  X (ix3 b ⟨256 * j.val + kk.val, by omega⟩ ⟨128 * n.val + d.val, by omega⟩)

/-- The attention of query `t` of head `n` of batch `b`, feature `d`. -/
def spec (q k v : FVec Ideal S16x2048x512 .f32) (b : Fin 16) (n : Fin 4) (t : Fin 2048) (d : Fin 128) : EReal :=
  Cert.Moba.attention (queryOf q b n t) (keysOf k b n) (valuesOf v b n d) (t.val / 256) ⟨t.val % 256, by omega⟩

/-- The kernel's array holds the attention of every query. -/
theorem result_eq (q k v : FVec Ideal S16x2048x512 .f32) (hq : ∀ i, (q i : EReal) ≠ ⊤ ∧ (q i : EReal) ≠ ⊥)
    (hk : ∀ i, (k i : EReal) ≠ ⊤ ∧ (k i : EReal) ≠ ⊥) (i : S16x2048x512.Idx) :
    result q k v i = spec q k v (i 0) ⟨(i 2).val / 128, by have h : (i 2).val < 512 := (i 2).isLt; omega⟩ (i 1)
      ⟨(i 2).val % 128, by omega⟩ := by
  have h1 : (i 1).val < 2048 := (i 1).isLt
  have h2 : (i 2).val < 512 := (i 2).isLt
  refine task_real _ _ _ (blkOf (batchOf k (i 0)) ((i 2).val / 128)) (blkOf (scaledOf q (i 0)) ((i 2).val / 128) ((i 1).val / 256))
    (vtOf (batchOf v (i 0)) ((i 2).val / 128)) ⟨(i 1).val % 256, by omega⟩ ⟨(i 2).val % 128, by omega⟩ ?_ ?_ ?_ ?_ ((i 1).val / 256) (by omega)
  · intro c
    show Ideal.div (q (ix3 (i 0) ⟨256 * ((i 1).val / 256 % 8) + (i 1).val % 256, _⟩ ⟨128 * ((i 2).val / 128 % 4) + c.val, _⟩)) scale = _
    have e : (⟨256 * ((i 1).val / 256 % 8) + (i 1).val % 256, by omega⟩ : Fin 2048) = i 1 := Fin.ext (by
      show 256 * ((i 1).val / 256 % 8) + (i 1).val % 256 = (i 1).val; omega)
    have e' : (⟨128 * ((i 2).val / 128 % 4) + c.val, by omega⟩ : Fin 512) = ⟨128 * ((i 2).val / 128) + c.val, by omega⟩ := Fin.ext (by
      show 128 * ((i 2).val / 128 % 4) + c.val = 128 * ((i 2).val / 128) + c.val; omega)
    rw [e, e', scale_eq]
    unfold queryOf
    rw [← Cert.Moba.div_reals _ _ scale_pos.ne', EReal.coe_toReal (hq _).1 (hq _).2]
  · intro j kk c
    show k (ix3 (i 0) ⟨256 * (j.val % 8) + kk.val, _⟩ ⟨128 * ((i 2).val / 128 % 4) + c.val, _⟩) = _
    have e : (⟨256 * (j.val % 8) + kk.val, by omega⟩ : Fin 2048) = ⟨256 * j.val + kk.val, by omega⟩ := Fin.ext (by
      show 256 * (j.val % 8) + kk.val = 256 * j.val + kk.val; omega)
    have e' : (⟨128 * ((i 2).val / 128 % 4) + c.val, by omega⟩ : Fin 512) = ⟨128 * ((i 2).val / 128) + c.val, by omega⟩ := Fin.ext (by
      show 128 * ((i 2).val / 128 % 4) + c.val = 128 * ((i 2).val / 128) + c.val; omega)
    rw [e, e']
    unfold keysOf
    rw [EReal.coe_toReal (hk _).1 (hk _).2]
  · intro j kk
    refine (dif_pos (show (i 2).val % 128 < 128 by omega)).trans ?_
    show v (ix3 (i 0) ⟨256 * (j.val % 8) + kk.val, _⟩ ⟨128 * ((i 2).val / 128 % 4) + (i 2).val % 128, _⟩) = _
    unfold valuesOf
    congr 2
    · exact Fin.ext (by show 256 * (j.val % 8) + kk.val = 256 * j.val + kk.val; omega)
    · exact Fin.ext (by show 128 * ((i 2).val / 128 % 4) + (i 2).val % 128 = 128 * ((i 2).val / 128) + (i 2).val % 128; omega)
  · intro j kk
    unfold vtOf vtAll
    exact dif_neg fun h => by have h : (128 : ℕ) < 128 := h; omega

end Cert.KernelIdeal.Moba

end
-- ==== Proof.Moba.Rank.lean ====
/- A stable descending sort lists the positions in the order of their rank: where the keys of some leading positions are
   real and the others `⊥`, the first three sorted positions among the leading ones are those with at most two before them. -/
module

public import Idealize.ShloMosaic.Lib.SortPrefix
public import Idealize.ShloMosaic.PureOps.Ideal.Laws
public import proofs.«01_k».proof.Proof.Moba.Spec

@[expose] public section

noncomputable section

namespace Cert.Moba

open Idealize.ShloMosaic

/-- In a list in ascending order of position, the stable sort by a key is the sort by the key and then the position. -/
theorem stableSort_position {n : ℕ} (B : Fin n → Fin n → Bool) (E : Fin n → Fin n → Bool) (l : List (Fin n))
    (hl : l.Pairwise (· < ·)) :
    stableSort B l = stableSort (fun a b => B a b || (E a b && decide (a < b))) l := by
  induction l with
  | nil => rfl
  | cons a l ih =>
    rw [List.pairwise_cons] at hl
    unfold stableSort
    rw [ih hl.2]
    refine insertBefore_congr _ _ a _ fun b hb => ?_
    have h := hl.1 b ((perm_stableSort _ l).mem_iff.mp hb)
    simp [not_lt.mpr h.le]

section
variable (g : Fin 8 → EReal)

/-- Position `a` sorts before position `b`: a greater key, or an equal key at a smaller position. -/
def Ahead (a b : Fin 8) : Bool := decide (g b < g a) || (decide (g a = g b) && decide (a < b))

/-- The source position of each sorted position, under the comparator of the program. -/
def ranked : Fin 8 → Fin 8 :=
  sortedFrom fun k k' => FloatOps.cmpfTotal (F := Ideal) (φ := .f32) .gt (g k) (g k') == 1#1

theorem cmp_gt (a b : EReal) : (FloatOps.cmpfTotal (F := Ideal) (φ := .f32) .gt a b == 1#1) = decide (b < a) := by
  show (Ideal.cmp .ogt a b == 1#1) = _
  unfold Ideal.cmp
  by_cases h : b < a <;> simp [h]

theorem ranked_eq : ranked g = sortedFrom (Ahead g) := by
  have e : (fun k k' => FloatOps.cmpfTotal (F := Ideal) (φ := .f32) .gt (g k) (g k') == 1#1)
      = fun k k' => decide (g k' < g k) := by
    funext k k'; exact cmp_gt _ _
  have h : sortPositions 8 (fun k k' => decide (g k' < g k)) = sortPositions 8 (Ahead g) :=
    stableSort_position _ (fun a b => decide (g a = g b)) _ (List.pairwise_lt_finRange 8)
  unfold ranked
  rw [e]
  funext k
  unfold sortedFrom
  rw [List.get_of_eq h]
  rfl

/-- It is a strict total order on the positions. -/
theorem ahead_total : StrictTotalBefore (Ahead g) :=
  StrictTotalBefore.of_key_then_position (fun a b => decide (b < a)) g (fun a => by simp)
    (fun a b c => by simp only [decide_eq_true_eq]; exact fun h1 h2 => h2.trans h1)
    (fun a b => by
      simp only [decide_eq_true_eq]
      rcases lt_trichotomy a b with h | h | h
      · exact Or.inr (Or.inr h)
      · exact Or.inr (Or.inl h)
      · exact Or.inl h)

theorem ranked_injective : Function.Injective (ranked g) := sortedFrom_injective _

theorem ranked_surjective : Function.Surjective (ranked g) := sortedFrom_surjective _

/-- Sorted position `m`'s source is before sorted position `n`'s exactly when `m < n`. -/
theorem ahead_ranked (m n : Fin 8) : Ahead g (ranked g m) (ranked g n) = true ↔ m < n := by
  have hT := ahead_total g
  have ho : ∀ i j : Fin 8, i < j → Ahead g (ranked g j) (ranked g i) = false := fun i j hij => by
    rw [ranked_eq]
    exact sortedFrom_noInversion (Ahead g) (Ahead g) hT.asymm (fun _ _ h => h) hT.negTrans i j hij
  constructor
  · intro h
    by_contra hn
    rcases eq_or_lt_of_le (not_lt.mp hn) with e | e
    · subst e; rw [hT.irrefl] at h; exact absurd h (by decide)
    · rw [ho n m e] at h; exact absurd h (by decide)
  · intro h
    rcases hT.total (ranked g m) (ranked g n) (fun e => h.ne (ranked_injective g e)) with h' | h'
    · exact h'
    · rw [ho m n h] at h'; exact absurd h' (by decide)

/-- As many positions are before the `n`-th sorted one as its number says. -/
theorem card_ahead (n : Fin 8) : (Finset.univ.filter fun k => Ahead g k (ranked g n) = true).card = n.val := by
  have e : (Finset.univ.filter fun k => Ahead g k (ranked g n) = true) = (Finset.univ.filter fun m => m < n).image (ranked g) := by
    ext k
    simp only [Finset.mem_filter, Finset.mem_univ, true_and, Finset.mem_image]
    constructor
    · intro h
      obtain ⟨m, rfl⟩ := ranked_surjective g k
      exact ⟨m, (ahead_ranked g m n).mp h, rfl⟩
    · rintro ⟨m, hm, rfl⟩
      exact (ahead_ranked g m n).mpr hm
  rw [e, Finset.card_image_of_injective _ (ranked_injective g)]
  have : (Finset.univ.filter fun m => m < n) = Finset.Iio n := by ext; simp
  rw [this, Fin.card_Iio]
end

section
variable (Q : Fin 128 → ℝ) (K : Fin 8 → Fin 256 → Fin 128 → ℝ) (i : ℕ) (g : Fin 8 → EReal)
  (hp : ∀ j : Fin 8, j.val < i → g j = (gate Q K j : EReal)) (hb : ∀ j : Fin 8, i ≤ j.val → g j = ⊥)
include hp hb

/-- A past block's rank among all blocks is its rank among the past ones. -/
theorem ahead_eq (b : Fin 8) (h : b.val < i) : (Finset.univ.filter fun k => Ahead g k b = true) = ahead Q K i b := by
  ext k
  simp only [ahead, Finset.mem_filter, Finset.mem_univ, true_and, Ahead, Bool.or_eq_true, Bool.and_eq_true, decide_eq_true_eq]
  rw [hp b h]
  by_cases hk : k.val < i
  · rw [hp k hk]
    simp only [EReal.coe_lt_coe_iff, EReal.coe_eq_coe_iff, hk, true_and, Before, Fin.lt_def]
  · rw [hb k (not_lt.mp hk)]
    simp [hk]

/-- The `n`-th sorted block, when it is past, is selected exactly when `n < 3`. -/
theorem sel_ranked (n : Fin 8) (h : (ranked g n).val < i) : Sel Q K i (ranked g n) ↔ n.val < 3 := by
  unfold Sel
  rw [← ahead_eq Q K i g hp hb _ h, card_ahead]
  exact ⟨fun h => h.2, fun hn => ⟨h, hn⟩⟩

/-- A block is selected exactly when it is past and one of the first three sorted blocks. -/
theorem sel_iff_ranked (j : Fin 8) : Sel Q K i j ↔ j.val < i ∧ ∃ s : Fin 3, ranked g (s.castLE (by decide)) = j := by
  constructor
  · intro h
    obtain ⟨n, rfl⟩ := ranked_surjective g j
    have hn := (sel_ranked Q K i g hp hb n h.1).mp h
    exact ⟨h.1, ⟨n.val, hn⟩, rfl⟩
  · rintro ⟨h, s, rfl⟩
    exact (sel_ranked Q K i g hp hb _ h).mpr s.isLt
end

end Cert.Moba

end
-- ==== Proof.Moba.RefWords.lean ====
/- The reference's integer arrays: the block of a query, the ranked blocks, the masks; and its gathers. -/
module

public import proofs.«01_k».proof.Proof.Gen.ReferenceIdeal.Read
public import proofs.«01_k».proof.Proof.Moba.Rank
public import Idealize.ShloMosaic.Lib.Pointwise
public import Idealize.ShloMosaic.Lib.WordCmp

@[expose] public section

set_option maxRecDepth 16384

noncomputable section

namespace Cert.ReferenceIdeal.Moba

open Cert.ReferenceIdeal Cert.ReferenceIdeal.Gen Cert.ReferenceIdeal.Read Idealize.ShloMosaic Idealize.ShloMosaic.TcCoe
open Idealize.ShloMosaic.WordCmp
open scoped BigOperators

/-- A small nonnegative index is left as it is by the wrapping of negative indices. -/
theorem wrap_small (m : ℕ) (h : m < 2 ^ 31) (c : BitVec 32) :
    Scalar.select (IntOp.cmpi .slt (BitVec.ofNat 32 m) 0#32) (IntOp.addi (BitVec.ofNat 32 m) c) (BitVec.ofNat 32 m)
      = BitVec.ofNat 32 m := by
  have e : IntOp.cmpi .slt (BitVec.ofNat 32 m) (BitVec.ofNat 32 0) = BitVec.ofBool (decide (m < 0)) := cmpi_slt_ofNat h (by norm_num)
  rw [show (0#32 : BitVec 32) = BitVec.ofNat 32 0 from rfl, e, Scalar.select_ofBool]
  simp

/-- The block of query `t` is `t / 256`. -/
theorem block_apply (t : Fin 2048) : val_main_v13 (F := Ideal) (ix1 t) = BitVec.ofNat 32 (t.val / 256) := by
  unfold val_main_v13 val_main_call0_v11 val_main_call0_v13 val_main_call0_v12 val_main_call0_v10 val_main_call0_v9 val_main_call0_v8
    val_main_call0_v7 val_main_call0_v6 val_main_call0_v5 val_main_call0_v4 val_main_call0_v3 val_main_call0_v2 val_main_call0_v1
    val_main_call0_v0 val_main_c val_main_call0_c val_main_call0_c_0 val_main_v12
  pointwise
  have key : ∀ t : Fin 2048, Scalar.select
      (IntOp.andi (IntOp.cmpi (w := 32) CmpIPredicate.ne
          (if BitVec.ofNat 32 t.val = 0 then 0 else if (BitVec.ofNat 32 t.val).msb = true then -1 else 1)
          (if (256#32 : BitVec 32) = 0 then 0 else if BitVec.msb (256#32 : BitVec 32) = true then -1 else 1))
        (IntOp.cmpi CmpIPredicate.ne (IntOp.remsi ArithUnit.host (BitVec.ofNat 32 t.val) 256#32) 0#32))
      (IntOp.subi (IntOp.divsi ArithUnit.host (BitVec.ofNat 32 t.val) 256#32) 1#32)
      (IntOp.divsi ArithUnit.host (BitVec.ofNat 32 t.val) 256#32) = BitVec.ofNat 32 (t.val / 256) := by decide +kernel
  exact key t

/-- The mask of the gates: the blocks before the query's own. -/
theorem past_apply (b : Fin 16) (n : Fin 4) (t : Fin 2048) (j : Fin 8) :
    val_main_call1_v1 (F := Ideal) (ix4 b n t j) = BitVec.ofBool (decide (j.val < t.val / 256)) := by
  have h : val_main_call1_v1 (F := Ideal) (ix4 b n t j)
      = IntOp.cmpi .slt (BitVec.ofNat 32 j.val) (val_main_v13 (F := Ideal) (ix1 t)) := by
    unfold val_main_call1_v1 val_main_v19 val_main_v18 val_main_v17 val_main_v16 val_main_v15 val_main_v14
    generalize val_main_v13 (F := Ideal) = Y
    pointwise
  rw [h, block_apply]
  exact cmpi_slt_ofNat (by omega) (by omega)

/-- The mask of the own block's keys: those not after the query. -/
theorem own_mask_apply (b : Fin 16) (n : Fin 4) (t : Fin 2048) (kk : Fin 256) :
    val_main_call3_v1 (F := Ideal) (ix4 b n t kk) = BitVec.ofBool (decide (kk.val ≤ t.val % 256)) := by
  have h : val_main_call3_v1 (F := Ideal) (ix4 b n t kk)
      = IntOp.cmpi .sle (IntOp.addi (IntOp.muli (val_main_v13 (F := Ideal) (ix1 t)) 256#32) (BitVec.ofNat 32 kk.val)) (BitVec.ofNat 32 t.val) := by
    unfold val_main_call3_v1 val_main_v108 val_main_v107 val_main_v106 val_main_v105 val_main_v104 val_main_v103 val_main_v102
      val_main_v101 val_main_v100 val_main_v99 val_main_v98 val_main_v97 val_main_c_21
    generalize val_main_v13 (F := Ideal) = Y
    pointwise
  have e : IntOp.addi (IntOp.muli (BitVec.ofNat 32 (t.val / 256)) 256#32) (BitVec.ofNat 32 kk.val)
      = BitVec.ofNat 32 (t.val / 256 * 256 + kk.val) := by
    show BitVec.ofNat 32 (t.val / 256) * 256#32 + BitVec.ofNat 32 kk.val = _
    rw [BitVec.ofNat_add, BitVec.ofNat_mul]
  rw [h, block_apply, e, cmpi_sle_ofNat (by omega) (by omega)]
  congr 1
  exact decide_eq_decide.mpr (by omega)

/-- The wrapped block of a query. -/
theorem own_index (t : Fin 2048) : val_main_v85 (F := Ideal) (ix2 t 0) = BitVec.ofNat 32 (t.val / 256) := by
  have h : val_main_v85 (F := Ideal) (ix2 t 0) = Scalar.select (IntOp.cmpi .slt (val_main_v13 (F := Ideal) (ix1 t)) 0#32)
      (IntOp.addi (val_main_v13 (F := Ideal) (ix1 t)) 8#32) (val_main_v13 (F := Ideal) (ix1 t)) := by
    unfold val_main_v85 val_main_v84 val_main_v83 val_main_v82 val_main_v81 val_main_v80 val_main_c_17 val_main_c_18
    generalize val_main_v13 (F := Ideal) = Y
    pointwise
  rw [h, block_apply]
  exact wrap_small _ (by omega) _

section
variable (x0 x1 : FVec Ideal S16x2048x512 .f32)

/-- The blocks of a query in the order of their masked gates. -/
def order (b : Fin 16) (n : Fin 4) (t : Fin 2048) (s : Fin 3) : Fin 8 :=
  Cert.Moba.ranked (fun j => val_main_v20 (F := Ideal) x0 x1 (ix4 b n t j)) (s.castLE (by decide))

/-- The top three indices are the first three blocks in that order. -/
theorem indices_apply (b : Fin 16) (n : Fin 4) (t : Fin 2048) (s : Fin 3) :
    val_main_indices (F := Ideal) x0 x1 (ix4 b n t s) = BitVec.ofNat 32 (order x0 x1 b n t s).val := by
  unfold val_main_indices order
  generalize val_main_v20 (F := Ideal) x0 x1 = Y
  have ea : ∀ k : Fin 8, Shape.Idx.along (s := S16x4x2048x8) (ix4 b n t (s.castLE (by decide))) (3 : Fin 4) k = ix4 b n t k := by
    intro k
    funext a
    match a with
    | ⟨0, _⟩ => rfl
    | ⟨1, _⟩ => rfl
    | ⟨2, _⟩ => rfl
    | ⟨3, _⟩ => rfl
  unfold Host.topK Host.sort2
  pointwise
  exact congrArg (fun e : Fin 8 → S16x4x2048x8.Idx => BitVec.ofNat 32 (e (sortedFrom (fun k k' =>
    FloatOps.cmpfTotal (F := Ideal) (φ := .f32) .gt (Y (e k)) (Y (e k')) == 1#1) (s.castLE (by decide))) 3).val) (funext ea)

/-- The index array of the gather: batch, head, block. -/
theorem gather_index (b : Fin 16) (n : Fin 4) (t : Fin 2048) (s : Fin 3) :
    val_main_v50 (F := Ideal) x0 x1 (ix5 b n t s 0) = BitVec.ofNat 32 b.val
    ∧ val_main_v50 (F := Ideal) x0 x1 (ix5 b n t s 1) = BitVec.ofNat 32 n.val
    ∧ val_main_v50 (F := Ideal) x0 x1 (ix5 b n t s 2) = BitVec.ofNat 32 (order x0 x1 b n t s).val := by
  refine ⟨?_, ?_, ?_⟩
  · refine Eq.trans ?_ (wrap_small b.val (by omega) 16#32)
    unfold val_main_v50
    generalize val_main_v48 (F := Ideal) = Y1
    generalize val_main_v49 (F := Ideal) x0 x1 = Y2
    unfold val_main_v47 val_main_v45 val_main_v34 val_main_v33 val_main_v32 val_main_v31 val_main_v30 val_main_v27 val_main_v26 val_main_c_4 val_main_c_5
    pointwise
  · refine Eq.trans ?_ (wrap_small n.val (by omega) 4#32)
    unfold val_main_v50
    generalize val_main_v47 (F := Ideal) = Y1
    generalize val_main_v49 (F := Ideal) x0 x1 = Y2
    unfold val_main_v48 val_main_v46 val_main_v39 val_main_v38 val_main_v37 val_main_v36 val_main_v35 val_main_v29 val_main_v28 val_main_c_6 val_main_c_7
    pointwise
  · refine Eq.trans ?_ (wrap_small (order x0 x1 b n t s).val (by omega) 8#32)
    rw [← indices_apply]
    unfold val_main_v50
    generalize val_main_v47 (F := Ideal) = Y1
    generalize val_main_v48 (F := Ideal) = Y2
    unfold val_main_v49 val_main_v44 val_main_v43 val_main_v42 val_main_v41 val_main_v40 val_main_c_8 val_main_c_9
    generalize val_main_indices (F := Ideal) x0 x1 = Y3
    pointwise
end

/-- A start index in range is not clamped: batches, heads, blocks. -/
theorem clamp16 : ∀ b : Fin 16, min (BitVec.ofNat 32 b.val).toInt.toNat 15 + 0 + 0 = b.val := by decide
theorem clamp4 : ∀ b : Fin 4, min (BitVec.ofNat 32 b.val).toInt.toNat 3 + 0 + 0 = b.val := by decide
theorem clamp8 : ∀ b : Fin 8, min (BitVec.ofNat 32 b.val).toInt.toNat 7 + 0 + 0 = b.val := by decide

/-- The gather of blocks by batch, head and block number. -/
theorem gather_sel {α : Type} (X : S16x4x8x256x128.Idx → α) (I : IVec S16x4x2048x3x3 32) (b : Fin 16) (n : Fin 4) (t : Fin 2048) (s : Fin 3)
    (j : Fin 8) (h0 : I (ix5 b n t s 0) = BitVec.ofNat 32 b.val) (h1 : I (ix5 b n t s 1) = BitVec.ofNat 32 n.val)
    (h2 : I (ix5 b n t s 2) = BitVec.ofNat 32 j.val) (kk : Fin 256) (c : Fin 128) :
    Host.gather gather_S16x4x8x256x128_S16x4x2048x3x3_S16x4x2048x3x256x128_45_012_n_n_012_4_111256128 X I (ix6 b n t s kk c)
      = X (ix5 b n j kk c) := by
  unfold Host.gather
  refine congrArg X (funext fun a => Fin.ext ?_)
  have hs : ∀ m : Fin 3, gather_S16x4x8x256x128_S16x4x2048x3x3_S16x4x2048x3x256x128_45_012_n_n_012_4_111256128.siIdx (ix6 b n t s kk c) m = ix5 b n t s m := by
    intro m
    funext a
    match a with
    | ⟨0, _⟩ => rfl
    | ⟨1, _⟩ => rfl
    | ⟨2, _⟩ => rfl
    | ⟨3, _⟩ => rfl
    | ⟨4, _⟩ => rfl
  match a with
  | ⟨0, _⟩ => exact (congrArg (fun w : BitVec 32 => min w.toInt.toNat 15 + 0 + 0) ((congrArg I (hs 0)).trans h0)).trans (clamp16 b)
  | ⟨1, _⟩ => exact (congrArg (fun w : BitVec 32 => min w.toInt.toNat 3 + 0 + 0) ((congrArg I (hs 1)).trans h1)).trans (clamp4 n)
  | ⟨2, _⟩ => exact (congrArg (fun w : BitVec 32 => min w.toInt.toNat 7 + 0 + 0) ((congrArg I (hs 2)).trans h2)).trans (clamp8 j)
  | ⟨3, _⟩ => show 0 + 0 + kk.val = kk.val; omega
  | ⟨4, _⟩ => show 0 + 0 + c.val = c.val; omega

/-- The gather of the own block. -/
theorem gather_own {α : Type} (X : S16x4x8x256x128.Idx → α) (I : IVec S2048x1 32) (b : Fin 16) (n : Fin 4) (t : Fin 2048)
    (j : Fin 8) (h : I (ix2 t 0) = BitVec.ofNat 32 j.val) (kk : Fin 256) (c : Fin 128) :
    Host.gather gather_S16x4x8x256x128_S2048x1_S16x4x2048x256x128_0134_2_n_n_2_1_1641256128 X I (ix5 b n t kk c)
      = X (ix5 b n j kk c) := by
  unfold Host.gather
  refine congrArg X (funext fun a => Fin.ext ?_)
  have hs : gather_S16x4x8x256x128_S2048x1_S16x4x2048x256x128_0134_2_n_n_2_1_1641256128.siIdx (ix5 b n t kk c) ⟨0, by decide⟩ = ix2 t 0 := by
    funext a
    match a with
    | ⟨0, _⟩ => rfl
    | ⟨1, _⟩ => rfl
  match a with
  | ⟨0, _⟩ => show 0 + 0 + b.val = b.val; omega
  | ⟨1, _⟩ => show 0 + 0 + n.val = n.val; omega
  | ⟨2, _⟩ => exact (congrArg (fun w : BitVec 32 => min w.toInt.toNat 7 + 0 + 0) ((congrArg I hs).trans h)).trans (clamp8 j)
  | ⟨3, _⟩ => show 0 + 0 + kk.val = kk.val; omega
  | ⟨4, _⟩ => show 0 + 0 + c.val = c.val; omega

end Cert.ReferenceIdeal.Moba

end
-- ==== Proof.Moba.Select.lean ====
/- The attention as the reference sums it: over the keys of three listed blocks and over the query's own block. -/
module

public import proofs.«01_k».proof.Proof.Moba.Spec

@[expose] public section

noncomputable section

namespace Cert.Moba

open Idealize.ShloMosaic
open scoped BigOperators

section
variable (Q : Fin 128 → ℝ) (K : Fin 8 → Fin 256 → Fin 128 → ℝ) (V : Fin 8 → Fin 256 → EReal) (i : Fin 8)
  (r : Fin 256) (σ : Fin 3 → Fin 8) (hσ : Function.Injective σ)
  (hsel : ∀ j, Sel Q K i.val j ↔ j.val < i.val ∧ ∃ s, σ s = j)

include hσ hsel in
/-- A sum over the selected blocks is a sum over the listed blocks that are past. -/
theorem sum_selected {M : Type*} [AddCommMonoid M] (H : Fin 8 → M) :
    (∑ j, if Sel Q K i.val j then H j else 0) = ∑ s, if (σ s).val < i.val then H (σ s) else 0 := by
  classical
  have e : (∑ s, if (σ s).val < i.val then H (σ s) else 0) = ∑ j ∈ Finset.univ.image σ, if j.val < i.val then H j else 0 :=
    (Finset.sum_image (f := fun j : Fin 8 => if j.val < i.val then H j else 0) fun a _ b _ h => hσ h).symm
  rw [e, ← Finset.sum_subset (Finset.subset_univ (Finset.univ.image σ)) (f := fun j => if Sel Q K i.val j then H j else 0)]
  · refine Finset.sum_congr rfl fun j hj => ?_
    obtain ⟨s, -, hs⟩ := Finset.mem_image.mp hj
    by_cases h : j.val < i.val
    · rw [if_pos h, if_pos ((hsel j).mpr ⟨h, s, hs⟩)]
    · rw [if_neg h, if_neg fun hS => h ((hsel j).mp hS).1]
  · intro j _ hj
    refine if_neg fun hS => ?_
    obtain ⟨-, s, hs⟩ := (hsel j).mp hS
    exact hj (Finset.mem_image.mpr ⟨s, Finset.mem_univ _, hs⟩)

include hσ hsel in
/-- A sum over the attended keys is a sum over the keys of the listed past blocks and the own block's keys up to the query. -/
theorem sum_attended {M : Type*} [AddCommMonoid M] (h : Fin 8 → Fin 256 → M) :
    (∑ p : Fin 8 × Fin 256, if Attends Q K i.val r p then h p.1 p.2 else 0)
      = (∑ kk, ∑ s, if (σ s).val < i.val then h (σ s) kk else 0) + ∑ kk : Fin 256, if kk.val ≤ r.val then h i kk else 0 := by
  classical
  have e : ∀ p : Fin 8 × Fin 256, (if Attends Q K i.val r p then h p.1 p.2 else 0)
      = (if Sel Q K i.val p.1 then h p.1 p.2 else 0) + (if p.1 = i then (if p.2.val ≤ r.val then h p.1 p.2 else 0) else 0) := by
    intro p
    by_cases hS : Sel Q K i.val p.1
    · have hne : p.1 ≠ i := fun e => by have := hS.1; rw [e] at this; exact lt_irrefl _ this
      rw [if_pos (show Attends Q K i.val r p from Or.inl hS), if_pos hS, if_neg hne, add_zero]
    · by_cases hi : p.1 = i
      · by_cases hr : p.2.val ≤ r.val
        · rw [if_pos (show Attends Q K i.val r p from Or.inr ⟨by rw [hi], hr⟩), if_neg hS, if_pos hi, if_pos hr, zero_add]
        · rw [if_neg (show ¬ Attends Q K i.val r p from fun hA => hA.elim hS fun hA => hr hA.2), if_neg hS, if_pos hi, if_neg hr,
            zero_add]
      · rw [if_neg (show ¬ Attends Q K i.val r p from fun hA => hA.elim hS fun hA => hi (Fin.ext hA.1)), if_neg hS, if_neg hi,
          zero_add]
  rw [Finset.sum_congr rfl fun p _ => e p, Finset.sum_add_distrib]
  congr 1
  · rw [Fintype.sum_prod_type, Finset.sum_comm]
    exact Finset.sum_congr rfl fun kk _ => sum_selected Q K i σ hσ hsel fun j => h j kk
  · rw [Fintype.sum_prod_type, Finset.sum_eq_single i]
    · simp
    · intro j _ hj; simp [hj]
    · intro hi; exact absurd (Finset.mem_univ _) hi

/-- The weight of a key of a listed block. -/
def listed (s : Fin 3) (kk : Fin 256) : ℝ := if (σ s).val < i.val then Real.exp (score Q K (σ s, kk)) else 0

/-- The weight of a key of the query's own block. -/
def own (kk : Fin 256) : ℝ := if kk.val ≤ r.val then Real.exp (score Q K (i, kk)) else 0

/-- The sum of the weights as the reference sums them. -/
def total : ℝ := (∑ kk, ∑ s, listed Q K i σ s kk) + ∑ kk, own Q K i r kk

include hσ hsel in
theorem total_eq : total Q K i r σ = ∑ p, weight Q K i.val r p :=
  (sum_attended Q K i r σ hσ hsel fun j kk => Real.exp (score Q K (j, kk))).symm

include hσ hsel in
theorem total_pos : 0 < total Q K i r σ := by
  rw [total_eq Q K i r σ hσ hsel]
  exact weight_sum_pos Q K i.val r i.isLt

include hσ hsel in
/-- The values weighted by the normalised weights, summed over the listed blocks and the own block, are the attention. -/
theorem attention_eq (c : ℝ) (hc : 0 < c) :
    (∑ kk, ∑ s, Ideal.div ((c * listed Q K i σ s kk : ℝ) : EReal) ((c * total Q K i r σ : ℝ) : EReal) * V (σ s) kk)
      + ∑ kk, Ideal.div ((c * own Q K i r kk : ℝ) : EReal) ((c * total Q K i r σ : ℝ) : EReal) * V i kk
    = attention Q K V i.val r := by
  have hT := total_pos Q K i r σ hσ hsel
  have hd : ∀ (w : ℝ) (v : EReal), Ideal.div ((c * w : ℝ) : EReal) ((c * total Q K i r σ : ℝ) : EReal) * v
      = (((total Q K i r σ)⁻¹ : ℝ) : EReal) * ((w : EReal) * v) := by
    intro w v
    rw [div_reals _ _ (by positivity), ← mul_assoc, ← EReal.coe_mul]
    congr 2
    field_simp
  have h0 : (0 : ℝ) ≤ (total Q K i r σ)⁻¹ := by positivity
  have hw : ∀ p : Fin 8 × Fin 256, (weight Q K i.val r p : EReal) * V p.1 p.2
      = if Attends Q K i.val r p then (Real.exp (score Q K (p.1, p.2)) : EReal) * V p.1 p.2 else 0 := by
    intro p
    unfold weight
    by_cases h : Attends Q K i.val r p
    · rw [if_pos h, if_pos h]
    · rw [if_neg h, if_neg h, EReal.coe_zero, zero_mul]
  have hl : ∀ s kk, (listed Q K i σ s kk : EReal) * V (σ s) kk
      = if (σ s).val < i.val then (Real.exp (score Q K (σ s, kk)) : EReal) * V (σ s) kk else 0 := by
    intro s kk
    unfold listed
    by_cases h : (σ s).val < i.val
    · rw [if_pos h, if_pos h]
    · rw [if_neg h, if_neg h, EReal.coe_zero, zero_mul]
  have ho : ∀ kk, (own Q K i r kk : EReal) * V i kk
      = if kk.val ≤ r.val then (Real.exp (score Q K (i, kk)) : EReal) * V i kk else 0 := by
    intro kk
    unfold own
    by_cases h : kk.val ≤ r.val
    · rw [if_pos h, if_pos h]
    · rw [if_neg h, if_neg h, EReal.coe_zero, zero_mul]
  unfold attention mean
  rw [← total_eq Q K i r σ hσ hsel]
  simp only [hd, ← coe_mul_sum _ _ h0]
  rw [← EReal.left_distrib_of_nonneg_of_ne_top (by exact_mod_cast h0) (EReal.coe_ne_top _)]
  congr 1
  simp only [hw, hl, ho]
  exact (sum_attended Q K i r σ hσ hsel fun j kk => (Real.exp (score Q K (j, kk)) : EReal) * V j kk).symm

end

end Cert.Moba

end
-- ==== Proof.Moba.RefScores.lean ====
/- The reference's float arrays at an index: gates, gathered blocks, scores. -/
module

public import proofs.«01_k».proof.Proof.Moba.RefWords
public import proofs.«01_k».proof.Proof.Moba.Select

@[expose] public section

set_option maxRecDepth 16384

noncomputable section

namespace Cert.ReferenceIdeal.Moba

open Cert.ReferenceIdeal Cert.ReferenceIdeal.Gen Cert.ReferenceIdeal.Read Idealize.ShloMosaic Idealize.ShloMosaic.TcCoe
open scoped BigOperators

theorem two56 : Ideal.ofBits .f32 0x43800000#32 = ((256 : ℝ) : EReal) := by
  simp only [Ideal.ofBits, Ideal.ieee]; simp [← EReal.coe_mul]; norm_num

theorem ninf : Ideal.ofBits .f32 0xFF800000#32 = (⊥ : EReal) := by
  simp [Ideal.ofBits, Ideal.ieee]

/-- The reference's scale is `1 / √128`. -/
theorem scale_apply (i : S_.Idx) : val_main_v25 (F := Ideal) i = ((1 / Real.sqrt 128 : ℝ) : EReal) := by
  have h1 : Ideal.ofBits .f32 0x43000000#32 = ((128 : ℝ) : EReal) := by
    simp only [Ideal.ofBits, Ideal.ieee]; simp [← EReal.coe_mul]; norm_num
  have h2 : Ideal.ofBits .f32 0x3F800000#32 = ((1 : ℝ) : EReal) := by
    simp only [Ideal.ofBits, Ideal.ieee]; simp [← EReal.coe_mul]; norm_num
  show Ideal.div (Ideal.ofBits .f32 0x3F800000#32) (Ideal.sqrt (Ideal.ofBits .f32 0x43000000#32)) = _
  rw [h1, h2, Ideal.sqrt_coe, if_neg (by norm_num), Cert.Moba.div_reals _ _ (Real.sqrt_pos.mpr (by norm_num)).ne']

section
variable (x0 x1 x2 : FVec Ideal S16x2048x512 .f32) (b : Fin 16) (n : Fin 4) (t : Fin 2048)

theorem query_apply (c : Fin 128) : val_main_v1 (F := Ideal) x0 (ix4 b n t c) = x0 (ix3 b t ⟨n.val * 128 + c.val, by omega⟩) := by
  unfold val_main_v1 val_main_v0; pointwise

theorem key_apply (j : Fin 8) (kk : Fin 256) (c : Fin 128) : val_main_v6 (F := Ideal) x1 (ix5 b n j kk c)
    = x1 (ix3 b ⟨j.val * 256 + kk.val, by omega⟩ ⟨n.val * 128 + c.val, by omega⟩) := by
  unfold val_main_v6 val_main_v3 val_main_v2; pointwise

theorem value_apply (j : Fin 8) (kk : Fin 256) (c : Fin 128) : val_main_v7 (F := Ideal) x2 (ix5 b n j kk c)
    = x2 (ix3 b ⟨j.val * 256 + kk.val, by omega⟩ ⟨n.val * 128 + c.val, by omega⟩) := by
  unfold val_main_v7 val_main_v5 val_main_v4; pointwise

/-- The gathered keys and values of the listed blocks and of the own block. -/
theorem listed_key (s : Fin 3) (kk : Fin 256) (c : Fin 128) : val_main_v51 (F := Ideal) x0 x1 (ix6 b n t s kk c)
    = val_main_v6 (F := Ideal) x1 (ix5 b n (order x0 x1 b n t s) kk c) := by
  obtain ⟨h0, h1, h2⟩ := gather_index x0 x1 b n t s
  unfold val_main_v51
  exact gather_sel _ _ b n t s _ h0 h1 h2 kk c

theorem listed_value (s : Fin 3) (kk : Fin 256) (c : Fin 128) : val_main_v73 (F := Ideal) x0 x1 x2 (ix6 b n t s kk c)
    = val_main_v7 (F := Ideal) x2 (ix5 b n (order x0 x1 b n t s) kk c) := by
  obtain ⟨h0, h1, h2⟩ := gather_index x0 x1 b n t s
  unfold val_main_v73
  exact gather_sel _ _ b n t s _ h0 h1 h2 kk c

/-- The own block of a query. -/
def mine (t : Fin 2048) : Fin 8 := ⟨t.val / 256, by omega⟩

theorem own_key (kk : Fin 256) (c : Fin 128) : val_main_v86 (F := Ideal) x1 (ix5 b n t kk c)
    = val_main_v6 (F := Ideal) x1 (ix5 b n (mine t) kk c) := by
  unfold val_main_v86
  exact gather_own _ _ b n t (mine t) (own_index t) kk c

theorem own_value (kk : Fin 256) (c : Fin 128) : val_main_v93 (F := Ideal) x2 (ix5 b n t kk c)
    = val_main_v7 (F := Ideal) x2 (ix5 b n (mine t) kk c) := by
  unfold val_main_v93
  exact gather_own _ _ b n t (mine t) (own_index t) kk c

variable (Q : Fin 128 → ℝ) (K : Fin 8 → Fin 256 → Fin 128 → ℝ)
  (hq : ∀ c : Fin 128, val_main_v1 (F := Ideal) x0 (ix4 b n t c) = (Q c : EReal))
  (hk : ∀ j kk c, val_main_v6 (F := Ideal) x1 (ix5 b n j kk c) = (K j kk c : EReal))
include hq hk

/-- The masked gate of a block. -/
theorem gate_apply (j : Fin 8) : val_main_v20 (F := Ideal) x0 x1 (ix4 b n t j)
    = if j.val < t.val / 256 then (Cert.Moba.gate Q K j : EReal) else ⊥ := by
  have hm : ∀ c, val_main_v10 (F := Ideal) x1 (ix4 b n j c) = (((∑ kk, K j kk c) / 256 : ℝ) : EReal) := by
    intro c
    have h : val_main_v10 (F := Ideal) x1 (ix4 b n j c)
        = Ideal.div (∑ kk, val_main_v6 (F := Ideal) x1 (ix5 b n j kk c)) (Ideal.ofBits FTy.f32 1132462080#32) := by
      unfold val_main_v10 val_main_v9 val_main_cst_0 val_main_v8 val_main_cst
      generalize val_main_v6 (F := Ideal) x1 = X
      pointwise
    rw [h, Finset.sum_congr rfl fun kk _ => hk j kk c, Cert.Moba.coe_sum, two56, Cert.Moba.div_reals _ _ (by norm_num)]
  have hd : val_main_v11 (F := Ideal) x0 x1 (ix4 b n t j)
      = ∑ c, val_main_v1 (F := Ideal) x0 (ix4 b n t c) * val_main_v10 (F := Ideal) x1 (ix4 b n j c) := by
    unfold val_main_v11
    generalize val_main_v1 (F := Ideal) x0 = X
    generalize val_main_v10 (F := Ideal) x1 = Y
    pointwise
  have h : val_main_v20 (F := Ideal) x0 x1 (ix4 b n t j) = Scalar.select (val_main_call1_v1 (F := Ideal) (ix4 b n t j))
      (val_main_v11 (F := Ideal) x0 x1 (ix4 b n t j)) (Ideal.ofBits .f32 0xFF800000#32) := by
    rw [val_main_v20_apply]; rfl
  rw [h, past_apply, ninf, hd, Scalar.select_ofBool]
  simp only [hq, hm, ← EReal.coe_mul, Cert.Moba.coe_sum, decide_eq_true_eq]
  rfl

/-- The order's first three blocks, where past, are the selected ones. -/
theorem sel_order (j : Fin 8) : Cert.Moba.Sel Q K (t.val / 256) j ↔ j.val < t.val / 256 ∧ ∃ s, order x0 x1 b n t s = j :=
  Cert.Moba.sel_iff_ranked Q K (t.val / 256) _
    (fun j h => by rw [gate_apply x0 x1 b n t Q K hq hk, if_pos h])
    (fun j h => by rw [gate_apply x0 x1 b n t Q K hq hk, if_neg (not_lt.mpr h)]) j

omit hq hk in
theorem order_injective : Function.Injective (order x0 x1 b n t) := fun s s' h => by
  have := Cert.Moba.ranked_injective _ h
  exact Fin.ext (Fin.mk.inj_iff.mp this)

/-- The masked score of a key of a listed block. -/
theorem listed_score (s : Fin 3) (kk : Fin 256) : val_main_v78 (F := Ideal) x0 x1 (ix5 b n t s kk)
    = if (order x0 x1 b n t s).val < t.val / 256 then (Cert.Moba.score Q K (order x0 x1 b n t s, kk) : EReal) else ⊥ := by
  have hm : val_main_call2_v1 (F := Ideal) x0 x1 (ix5 b n t s kk)
      = BitVec.ofBool (decide ((order x0 x1 b n t s).val < t.val / 256)) := by
    have h : val_main_call2_v1 (F := Ideal) x0 x1 (ix5 b n t s kk)
        = IntOp.cmpi .slt (val_main_indices (F := Ideal) x0 x1 (ix4 b n t s)) (val_main_v13 (F := Ideal) (ix1 t)) := by
      unfold val_main_call2_v1 val_main_v77 val_main_v23 val_main_v22 val_main_v21
      generalize val_main_v13 (F := Ideal) = Y
      generalize val_main_indices (F := Ideal) x0 x1 = Z
      pointwise
    rw [h, indices_apply, block_apply]
    exact WordCmp.cmpi_slt_ofNat (by omega) (by omega)
  have hd : val_main_v76 (F := Ideal) x0 x1 (ix5 b n t s kk)
      = (∑ c, val_main_v1 (F := Ideal) x0 (ix4 b n t c) * val_main_v51 (F := Ideal) x0 x1 (ix6 b n t s kk c))
        * val_main_v25 (F := Ideal) ix0 := by
    unfold val_main_v76 val_main_v75 val_main_v74
    generalize val_main_v1 (F := Ideal) x0 = X
    generalize val_main_v51 (F := Ideal) x0 x1 = Y
    generalize val_main_v25 (F := Ideal) = Z
    pointwise
  have h : val_main_v78 (F := Ideal) x0 x1 (ix5 b n t s kk) = Scalar.select (val_main_call2_v1 (F := Ideal) x0 x1 (ix5 b n t s kk))
      (val_main_v76 (F := Ideal) x0 x1 (ix5 b n t s kk)) (Ideal.ofBits .f32 0xFF800000#32) := by
    rw [val_main_v78_apply]; rfl
  rw [h, hm, ninf, hd, scale_apply, Scalar.select_ofBool]
  simp only [hq, listed_key, hk, ← EReal.coe_mul, Cert.Moba.coe_sum, decide_eq_true_eq]
  unfold Cert.Moba.score
  simp only [mul_comm (Q _), mul_one_div]

/-- The masked score of a key of the own block. -/
theorem own_score (kk : Fin 256) : val_main_v109 (F := Ideal) x0 x1 (ix4 b n t kk)
    = if kk.val ≤ t.val % 256 then (Cert.Moba.score Q K (mine t, kk) : EReal) else ⊥ := by
  have hd : val_main_v96 (F := Ideal) x0 x1 (ix4 b n t kk)
      = (∑ c, val_main_v1 (F := Ideal) x0 (ix4 b n t c) * val_main_v86 (F := Ideal) x1 (ix5 b n t kk c))
        * val_main_v25 (F := Ideal) ix0 := by
    unfold val_main_v96 val_main_v95 val_main_v94
    generalize val_main_v1 (F := Ideal) x0 = X
    generalize val_main_v86 (F := Ideal) x1 = Y
    generalize val_main_v25 (F := Ideal) = Z
    pointwise
  have h : val_main_v109 (F := Ideal) x0 x1 (ix4 b n t kk) = Scalar.select (val_main_call3_v1 (F := Ideal) (ix4 b n t kk))
      (val_main_v96 (F := Ideal) x0 x1 (ix4 b n t kk)) (Ideal.ofBits .f32 0xFF800000#32) := by
    rw [val_main_v109_apply]; rfl
  rw [h, own_mask_apply, ninf, hd, scale_apply, Scalar.select_ofBool]
  simp only [hq, own_key, hk, ← EReal.coe_mul, Cert.Moba.coe_sum, decide_eq_true_eq]
  unfold Cert.Moba.score
  simp only [mul_comm (Q _), mul_one_div]

end

end Cert.ReferenceIdeal.Moba

end
-- ==== Proof.Moba.RefPlaces.lean ====
/- The reference's joined scores and normalised weights at the places of the listed and own keys. -/
module

public import proofs.«01_k».proof.Proof.Moba.RefScores

@[expose] public section

set_option maxRecDepth 16384

noncomputable section

namespace Cert.ReferenceIdeal.Moba

open Cert.ReferenceIdeal Cert.ReferenceIdeal.Gen Cert.ReferenceIdeal.Read Idealize.ShloMosaic Idealize.ShloMosaic.TcCoe
open scoped BigOperators

/-- The place of a listed block's key, and of an own block's key, among the 1024 scores. -/
def atListed (s : Fin 3) (kk : Fin 256) : Fin 1024 := ⟨s.val * 256 + kk.val, by omega⟩
def atOwn (kk : Fin 256) : Fin 1024 := ⟨768 + kk.val, by omega⟩

/-- The row of a query in its block. -/
def rowOf (t : Fin 2048) : Fin 256 := ⟨t.val % 256, by omega⟩

/-- Every place is of one of the two kinds. -/
theorem place (x : Fin 1024) : (∃ s kk, x = atListed s kk) ∨ ∃ kk, x = atOwn kk := by
  by_cases h : x.val < 768
  · exact Or.inl ⟨⟨x.val / 256, by omega⟩, ⟨x.val % 256, by omega⟩, Fin.ext (by show x.val = x.val / 256 * 256 + x.val % 256; omega)⟩
  · exact Or.inr ⟨⟨x.val - 768, by omega⟩, Fin.ext (by show x.val = 768 + (x.val - 768); omega)⟩

/-- A sum over `N` places, of which the first `3·256` are listed in blocks and the rest follow. -/
theorem sum_split {M : Type*} [AddCommMonoid M] (m k l N : ℕ) (hN : N = m * k + l) (f : Fin N → M) :
    ∑ x, f x = (∑ kk : Fin k, ∑ s : Fin m, f ⟨s.val * k + kk.val, by
        have h1 := s.isLt; have h2 := kk.isLt
        have : s.val * k + k ≤ m * k := by rw [← Nat.succ_mul]; exact Nat.mul_le_mul_right _ h1
        omega⟩)
      + ∑ kk : Fin l, f ⟨m * k + kk.val, by have := kk.isLt; omega⟩ := by
  subst hN
  rw [Fin.sum_univ_add, Finset.sum_comm, ← Fintype.sum_prod_type']
  congr 1
  refine (Fintype.sum_equiv (finProdFinEquiv (m := m) (n := k)) _ _ fun p => congrArg f (Fin.ext ?_)).symm
  show p.1.val * k + p.2.val = p.2.val + k * p.1.val
  rw [Nat.mul_comm, Nat.add_comm]

/-- A sum over the 1024 places is the sum over the two kinds. -/
theorem sum_places {M : Type*} [AddCommMonoid M] (f : Fin 1024 → M) :
    ∑ x, f x = (∑ kk, ∑ s, f (atListed s kk)) + ∑ kk, f (atOwn kk) :=
  sum_split 3 256 256 1024 (by norm_num) f

/-- The fold of the maximum is the supremum. -/
theorem fold_max {ι : Type*} (s : Finset ι) (f : ι → EReal) : s.fold max ⊥ f = s.sup f := rfl

section
variable (x0 x1 x2 : FVec Ideal S16x2048x512 .f32) (b : Fin 16) (n : Fin 4) (t : Fin 2048)

/-- The two kinds of scores in the joined array. -/
theorem joined_listed (s : Fin 3) (kk : Fin 256) : val_main_v110 (F := Ideal) x0 x1 (ix4 b n t (atListed s kk))
    = val_main_v78 (F := Ideal) x0 x1 (ix5 b n t s kk) := by
  unfold val_main_v110
  generalize val_main_v109 (F := Ideal) x0 x1 = Y
  unfold val_main_v79
  generalize val_main_v78 (F := Ideal) x0 x1 = Z
  pointwise
  have hlt : (atListed s kk).val < 768 := by show s.val * 256 + kk.val < 768; omega
  refine (dif_pos hlt).trans ?_
  have e1 : (⟨(atListed s kk).val / 256, by omega⟩ : Fin 3) = s := Fin.ext (by show (s.val * 256 + kk.val) / 256 = s.val; omega)
  have e2 : (⟨(atListed s kk).val % 256, by omega⟩ : Fin 256) = kk := Fin.ext (by show (s.val * 256 + kk.val) % 256 = kk.val; omega)
  exact congrArg₂ (fun s kk => Z (ix5 b n t s kk)) e1 e2

theorem joined_own (kk : Fin 256) : val_main_v110 (F := Ideal) x0 x1 (ix4 b n t (atOwn kk))
    = val_main_v109 (F := Ideal) x0 x1 (ix4 b n t kk) := by
  unfold val_main_v110
  generalize val_main_v79 (F := Ideal) x0 x1 = Z
  generalize val_main_v109 (F := Ideal) x0 x1 = Y
  pointwise
  have hlt : ¬ (atOwn kk).val < 768 := by show ¬ 768 + kk.val < 768; omega
  refine (dif_neg hlt).trans ?_
  have e1 : (⟨(atOwn kk).val - 768, by have := (atOwn kk).isLt; omega⟩ : Fin 256) = kk := Fin.ext (by show 768 + kk.val - 768 = kk.val; omega)
  exact congrArg (fun kk => Y (ix4 b n t kk)) e1

variable (Q : Fin 128 → ℝ) (K : Fin 8 → Fin 256 → Fin 128 → ℝ)
  (hq : ∀ c : Fin 128, val_main_v1 (F := Ideal) x0 (ix4 b n t c) = (Q c : EReal))
  (hk : ∀ j kk c, val_main_v6 (F := Ideal) x1 (ix5 b n j kk c) = (K j kk c : EReal))
/-- The normalised weights of the listed blocks and of the own block. -/
theorem normalised (x : Fin 1024) : val_main_v121 (F := Ideal) x0 x1 (ix4 b n t x)
    = Ideal.div (val_main_v117 (F := Ideal) x0 x1 (ix4 b n t x)) (val_main_v118 (F := Ideal) x0 x1 (ix3 b n t)) := by
  unfold val_main_v121 val_main_v120 val_main_v119
  generalize val_main_v117 (F := Ideal) x0 x1 = X
  generalize val_main_v118 (F := Ideal) x0 x1 = Y
  pointwise

theorem normalised_listed (s : Fin 3) (kk : Fin 256) : val_main_v123 (F := Ideal) x0 x1 (ix5 b n t s kk)
    = val_main_v121 (F := Ideal) x0 x1 (ix4 b n t (atListed s kk)) := by
  unfold val_main_v123 val_main_v122
  generalize val_main_v121 (F := Ideal) x0 x1 = X
  unfold atListed
  pointwise

theorem normalised_own (kk : Fin 256) : val_main_v124 (F := Ideal) x0 x1 (ix4 b n t kk)
    = val_main_v121 (F := Ideal) x0 x1 (ix4 b n t (atOwn kk)) := by
  unfold val_main_v124
  generalize val_main_v121 (F := Ideal) x0 x1 = X
  unfold atOwn
  pointwise

theorem weighted_listed (d : Fin 128) : val_main_v125 (F := Ideal) x0 x1 x2 (ix4 b n t d)
    = ∑ kk, ∑ s, val_main_v123 (F := Ideal) x0 x1 (ix5 b n t s kk) * val_main_v73 (F := Ideal) x0 x1 x2 (ix6 b n t s kk d) := by
  unfold val_main_v125
  generalize val_main_v123 (F := Ideal) x0 x1 = X
  generalize val_main_v73 (F := Ideal) x0 x1 x2 = Y
  pointwise

theorem weighted_own (d : Fin 128) : val_main_v126 (F := Ideal) x0 x1 x2 (ix4 b n t d)
    = ∑ kk, val_main_v124 (F := Ideal) x0 x1 (ix4 b n t kk) * val_main_v93 (F := Ideal) x2 (ix5 b n t kk d) := by
  unfold val_main_v126
  generalize val_main_v124 (F := Ideal) x0 x1 = X
  generalize val_main_v93 (F := Ideal) x2 = Y
  pointwise

/-- The two weighted sums of values. -/
theorem weighted (d : Fin 128) : val_main_v127 (F := Ideal) x0 x1 x2 (ix4 b n t d)
    = (∑ kk, ∑ s, val_main_v123 (F := Ideal) x0 x1 (ix5 b n t s kk) * val_main_v73 (F := Ideal) x0 x1 x2 (ix6 b n t s kk d))
      + ∑ kk, val_main_v124 (F := Ideal) x0 x1 (ix4 b n t kk) * val_main_v93 (F := Ideal) x2 (ix5 b n t kk d) := by
  rw [← weighted_listed, ← weighted_own, val_main_v127_apply]
  rfl

/-- The maximum over the places. -/
theorem maximum_apply : val_main_v111 (F := Ideal) x0 x1 (ix3 b n t)
    = Finset.univ.sup fun x => val_main_v110 (F := Ideal) x0 x1 (ix4 b n t x) := by
  have h : val_main_v111 (F := Ideal) x0 x1 (ix3 b n t) = Finset.fold max (val_main_cst_23 (F := Ideal) (Shape.Idx.first h_S_))
      (fun x => val_main_v110 (F := Ideal) x0 x1 (ix4 b n t x)) Finset.univ := by
    unfold val_main_v111
    generalize val_main_v110 (F := Ideal) x0 x1 = X
    pointwise
  have e : val_main_cst_23 (F := Ideal) (Shape.Idx.first h_S_) = (⊥ : EReal) := (val_main_cst_23_apply _).trans ninf
  rw [h, e, fold_max]

theorem greatest_eq : val_main_v113 (F := Ideal) x0 x1 (ix3 b n t)
    = Finset.univ.sup fun x => val_main_v110 (F := Ideal) x0 x1 (ix4 b n t x) := by
  have e : val_main_v112 (F := Ideal) (ix3 b n t) = (⊥ : EReal) :=
    (val_main_v112_apply _).trans ((val_main_cst_24_apply _).trans ninf)
  rw [val_main_v113_apply, e, maximum_apply]
  exact max_eq_right bot_le

/-- The result at an index, before the final layout. -/
theorem result_apply (col : Fin 512) : val_main_v130 (F := Ideal) x0 x1 x2 (ix3 b t col)
    = val_main_v127 (F := Ideal) x0 x1 x2 (ix4 b ⟨col.val / 128, by omega⟩ t ⟨col.val % 128, by omega⟩) := by
  unfold val_main_v130 val_main_v129 val_main_v128
  generalize val_main_v127 (F := Ideal) x0 x1 x2 = X
  pointwise
end

end Cert.ReferenceIdeal.Moba

end
-- ==== Proof.Moba.Ref.lean ====
/- The reference's result is the specification: every element of its array is the attention of its query. -/
module

public import proofs.«01_k».proof.Proof.Moba.RefPlaces

@[expose] public section

set_option maxRecDepth 16384

noncomputable section

namespace Cert.ReferenceIdeal.Moba

open Cert.ReferenceIdeal Cert.ReferenceIdeal.Gen Cert.ReferenceIdeal.Read Idealize.ShloMosaic Idealize.ShloMosaic.TcCoe
open scoped BigOperators

section
variable (x0 x1 x2 : FVec Ideal S16x2048x512 .f32) (b : Fin 16) (n : Fin 4) (t : Fin 2048)

variable (Q : Fin 128 → ℝ) (K : Fin 8 → Fin 256 → Fin 128 → ℝ)
  (hq : ∀ c : Fin 128, val_main_v1 (F := Ideal) x0 (ix4 b n t c) = (Q c : EReal))
  (hk : ∀ j kk c, val_main_v6 (F := Ideal) x1 (ix5 b n j kk c) = (K j kk c : EReal))
include hq hk in
/-- The greatest score of a query is real. -/
theorem greatest : ∃ M : ℝ, val_main_v113 (F := Ideal) x0 x1 (ix3 b n t) = (M : EReal) := by
  have ho := own_score x0 x1 b n t Q K hq hk ⟨t.val % 256, by omega⟩
  rw [if_pos le_rfl] at ho
  obtain ⟨M, hM⟩ := Cert.Moba.sup_real Finset.univ (fun x => val_main_v110 (F := Ideal) x0 x1 (ix4 b n t x)) (fun x _ => by
      rcases place x with ⟨s, kk, rfl⟩ | ⟨kk, rfl⟩
      · show val_main_v110 (F := Ideal) x0 x1 (ix4 b n t (atListed s kk)) ≠ ⊤
        rw [joined_listed, listed_score x0 x1 b n t Q K hq hk]
        split <;> simp
      · show val_main_v110 (F := Ideal) x0 x1 (ix4 b n t (atOwn kk)) ≠ ⊤
        rw [joined_own, own_score x0 x1 b n t Q K hq hk]
        split <;> simp) (atOwn ⟨t.val % 256, by omega⟩) (Finset.mem_univ _) (by
      show val_main_v110 (F := Ideal) x0 x1 (ix4 b n t (atOwn _)) ≠ ⊥
      rw [joined_own, ho]
      simp)
  refine ⟨M, ?_⟩
  rw [greatest_eq, hM]

include hq hk in
/-- The exponentials of the shifted scores: a positive multiple of the weights. -/
theorem weights : ∃ c : ℝ, 0 < c
    ∧ (∀ s kk, val_main_v117 (F := Ideal) x0 x1 (ix4 b n t (atListed s kk))
        = ((c * Cert.Moba.listed Q K (mine t) (order x0 x1 b n t) s kk : ℝ) : EReal))
    ∧ ∀ kk, val_main_v117 (F := Ideal) x0 x1 (ix4 b n t (atOwn kk))
        = ((c * Cert.Moba.own Q K (mine t) (rowOf t) kk : ℝ) : EReal) := by
  obtain ⟨M, hM⟩ := greatest x0 x1 b n t Q K hq hk
  have h : ∀ x, val_main_v117 (F := Ideal) x0 x1 (ix4 b n t x)
      = Ideal.exp (val_main_v110 (F := Ideal) x0 x1 (ix4 b n t x) - val_main_v113 (F := Ideal) x0 x1 (ix3 b n t)) := by
    intro x
    unfold val_main_v117 val_main_v116 val_main_v115 val_main_v114
    generalize val_main_v110 (F := Ideal) x0 x1 = X
    generalize val_main_v113 (F := Ideal) x0 x1 = Y
    pointwise
  refine ⟨Real.exp (-M), Real.exp_pos _, fun s kk => ?_, fun kk => ?_⟩
  · rw [h, hM, joined_listed, listed_score x0 x1 b n t Q K hq hk, Cert.Moba.listed]
    by_cases hs : (order x0 x1 b n t s).val < t.val / 256
    · rw [if_pos hs, if_pos (show (order x0 x1 b n t s).val < (mine t).val from hs), Cert.Moba.exp_shift]
    · rw [if_neg hs, if_neg (show ¬ (order x0 x1 b n t s).val < (mine t).val from hs), Cert.Moba.exp_bot_shift, mul_zero, EReal.coe_zero]
  · rw [h, hM, joined_own, own_score x0 x1 b n t Q K hq hk, Cert.Moba.own]
    by_cases hs : kk.val ≤ t.val % 256
    · rw [if_pos hs, if_pos (show kk.val ≤ (rowOf t).val from hs), Cert.Moba.exp_shift]
    · rw [if_neg hs, if_neg (show ¬ kk.val ≤ (rowOf t).val from hs), Cert.Moba.exp_bot_shift, mul_zero, EReal.coe_zero]

/-- The sum of the exponentials. -/
theorem denominator (c : ℝ)
    (hl : ∀ s kk, val_main_v117 (F := Ideal) x0 x1 (ix4 b n t (atListed s kk))
        = ((c * Cert.Moba.listed Q K (mine t) (order x0 x1 b n t) s kk : ℝ) : EReal))
    (ho : ∀ kk, val_main_v117 (F := Ideal) x0 x1 (ix4 b n t (atOwn kk))
        = ((c * Cert.Moba.own Q K (mine t) (rowOf t) kk : ℝ) : EReal)) :
    val_main_v118 (F := Ideal) x0 x1 (ix3 b n t)
      = ((c * Cert.Moba.total Q K (mine t) (rowOf t) (order x0 x1 b n t) : ℝ) : EReal) := by
  have h : val_main_v118 (F := Ideal) x0 x1 (ix3 b n t) = ∑ x, val_main_v117 (F := Ideal) x0 x1 (ix4 b n t x) := by
    unfold val_main_v118 val_main_cst_25
    generalize val_main_v117 (F := Ideal) x0 x1 = X
    pointwise
  rw [h, sum_places]
  simp only [hl, ho, Cert.Moba.coe_sum, ← EReal.coe_add]
  unfold Cert.Moba.total
  simp only [mul_add, Finset.mul_sum]

include hq hk in
/-- The weighted values before the heads are put back: the attention of the query. -/
theorem attention_apply (d : Fin 128) : val_main_v127 (F := Ideal) x0 x1 x2 (ix4 b n t d)
    = Cert.Moba.attention Q K (fun j kk => val_main_v7 (F := Ideal) x2 (ix5 b n j kk d)) (mine t).val (rowOf t) := by
  obtain ⟨c, hc, hl, ho⟩ := weights x0 x1 b n t Q K hq hk
  have hsum := denominator x0 x1 b n t Q K c hl ho
  have e1 : ∀ (kk : Fin 256) (s : Fin 3), val_main_v123 (F := Ideal) x0 x1 (ix5 b n t s kk) * val_main_v73 (F := Ideal) x0 x1 x2 (ix6 b n t s kk d)
      = Ideal.div ((c * Cert.Moba.listed Q K (mine t) (order x0 x1 b n t) s kk : ℝ) : EReal)
          ((c * Cert.Moba.total Q K (mine t) (rowOf t) (order x0 x1 b n t) : ℝ) : EReal)
        * val_main_v7 (F := Ideal) x2 (ix5 b n (order x0 x1 b n t s) kk d) := by
    intro kk s
    rw [normalised_listed, normalised, hl, hsum, listed_value]
  have e2 : ∀ kk : Fin 256, val_main_v124 (F := Ideal) x0 x1 (ix4 b n t kk) * val_main_v93 (F := Ideal) x2 (ix5 b n t kk d)
      = Ideal.div ((c * Cert.Moba.own Q K (mine t) (rowOf t) kk : ℝ) : EReal)
          ((c * Cert.Moba.total Q K (mine t) (rowOf t) (order x0 x1 b n t) : ℝ) : EReal)
        * val_main_v7 (F := Ideal) x2 (ix5 b n (mine t) kk d) := by
    intro kk
    rw [normalised_own, normalised, ho, hsum, own_value]
  rw [weighted, Finset.sum_congr rfl fun kk _ => Finset.sum_congr rfl fun s _ => e1 kk s, Finset.sum_congr rfl fun kk _ => e2 kk]
  exact Cert.Moba.attention_eq Q K (fun j kk => val_main_v7 (F := Ideal) x2 (ix5 b n j kk d)) (mine t) (rowOf t)
    (order x0 x1 b n t) (order_injective x0 x1 b n t) (sel_order x0 x1 b n t Q K hq hk) c hc

end

end Cert.ReferenceIdeal.Moba

end
-- ==== Proof.Moba.Result.lean ====
/- The reference's result and the kernel's are one array when the queries and keys are finite, and the precondition says they are. -/
module

public import proofs.«01_k».proof.Proof.Moba.Kernel
public import proofs.«01_k».proof.Proof.Moba.Ref
public import proofs.«01_k».proof.Proof.Gen.Pre_finite
public import Idealize.ShloMosaic.Lib.ReduceAll
public import Idealize.ShloMosaic.Lib.Pointwise

@[expose] public section

set_option maxRecDepth 16384

noncomputable section

namespace Cert.Moba

open Idealize.ShloMosaic Cert.KernelIdeal.Moba

section
variable (q k v : FVec Ideal Cert.KernelIdeal.S16x2048x512 .f32) (hq : ∀ i, (q i : EReal) ≠ ⊤ ∧ (q i : EReal) ≠ ⊥)
  (hk : ∀ i, (k i : EReal) ≠ ⊤ ∧ (k i : EReal) ≠ ⊥)
include hq hk

/-- One element of the reference's result is the attention of its query. -/
theorem reference_eq (b : Fin 16) (t : Fin 2048) (col : Fin 512) :
    Cert.ReferenceIdeal.Read.val_main_v130 (F := Ideal) q k v (ix3 b t col)
      = spec q k v b ⟨col.val / 128, by omega⟩ t ⟨col.val % 128, by omega⟩ := by
  rw [Cert.ReferenceIdeal.Moba.result_apply]
  refine (Cert.ReferenceIdeal.Moba.attention_apply q k v b ⟨col.val / 128, by omega⟩ t
    (queryOf q b ⟨col.val / 128, by omega⟩ t) (keysOf k b ⟨col.val / 128, by omega⟩) ?_ ?_ _).trans ?_
  · intro c
    rw [Cert.ReferenceIdeal.Moba.query_apply, queryOf, EReal.coe_toReal (hq _).1 (hq _).2]
    congr 2; apply Fin.ext; show col.val / 128 * 128 + c.val = 128 * (col.val / 128) + c.val; omega
  · intro j kk c
    rw [Cert.ReferenceIdeal.Moba.key_apply, keysOf, EReal.coe_toReal (hk _).1 (hk _).2]
    congr 2 <;> apply Fin.ext
    · show j.val * 256 + kk.val = 256 * j.val + kk.val; omega
    · show col.val / 128 * 128 + c.val = 128 * (col.val / 128) + c.val; omega
  · unfold spec
    refine congrArg (fun V => attention _ _ V _ _) (funext fun j => funext fun kk => ?_)
    rw [Cert.ReferenceIdeal.Moba.value_apply, valuesOf]
    congr 2 <;> apply Fin.ext
    · show j.val * 256 + kk.val = 256 * j.val + kk.val; omega
    · show col.val / 128 * 128 + col.val % 128 = 128 * (col.val / 128) + col.val % 128; omega

/-- The two results are one array. -/
theorem results_eq : result q k v = Cert.ReferenceIdeal.Read.val_main_v130 (F := Ideal) q k v := by
  funext i
  obtain ⟨b, t, col, rfl⟩ : ∃ (b : Fin 16) (t : Fin 2048) (col : Fin 512), i = ix3 b t col := ⟨i 0, i 1, i 2, by funext a; fin_cases a <;> rfl⟩
  rw [result_eq q k v hq hk, reference_eq q k v hq hk]
  rfl
end

/-- A number whose absolute value is below infinity is finite. -/
theorem finite_of_lt (x : Ideal .f32)
    (h : BitVec.ofBool (decide (FloatOps.absf (F := Ideal) x < Ideal.ofBits .f32 2139095040#32)) = 1#1) :
    (x : EReal) ≠ ⊤ ∧ (x : EReal) ≠ ⊥ := by
  have e : Ideal.ofBits .f32 2139095040#32 = (⊤ : EReal) := by simp [Ideal.ofBits, Ideal.ieee]
  rw [e] at h
  constructor
  · intro hx
    have ha : FloatOps.absf (F := Ideal) x = (⊤ : EReal) := by rw [hx]; rfl
    rw [ha] at h; simp at h
  · intro hx
    have ha : FloatOps.absf (F := Ideal) x = (⊤ : EReal) := by rw [hx]; rfl
    rw [ha] at h; simp at h

/-- The precondition, read: queries and keys are finite. -/
theorem finite_read (q k v : FVec Ideal Cert.KernelIdeal.S16x2048x512 .f32)
    (h : (letI := Cert.Pre_finite.Gen.facts; Cert.Pre_finite.fn (F := Ideal) q k v) = fun _ => 1#1) :
    (∀ i, (q i : EReal) ≠ ⊤ ∧ (q i : EReal) ≠ ⊥) ∧ ∀ i, (k i : EReal) ≠ ⊤ ∧ (k i : EReal) ≠ ⊥ := by
  have h0 := congrFun h ix0
  dsimp only [Cert.Pre_finite.fn] at h0
  obtain ⟨h1, h2⟩ := IntOp.andi_eq_one.1 h0
  constructor
  · intro i
    have e := Host.reduce_andi_all _ _ _ _ _ h1 i
    pointwise at e
    exact finite_of_lt (q i) e
  · intro i
    have e := Host.reduce_andi_all _ _ _ _ _ h2 i
    pointwise at e
    exact finite_of_lt (k i) e

end Cert.Moba

end
-- ==== Proof.Mlp.Body.lean ====
/- One part of the feed-forward kernel — 256 tokens — as functions of the blocks it loads, the same for each of the four. -/
module

public import proofs.«01_k».proof.Proof.Gen.Kernel2Ideal.Value

@[expose] public section

noncomputable section

namespace Cert.Kernel2Ideal.Mlp

open Cert.Kernel2Ideal Cert.Kernel2Ideal.Gen Idealize.ShloMosaic Idealize.ShloMosaic.TcCoe

variable {F : FTy → Type} [FloatOps F]

/-- Rows of 512 features times half of the output projection. -/
def halfBlk (o : Vec F S1x256x512 .bf16) (w : Vec F S512x1024 .bf16) : FVec F S256x1024 .f32 :=
  matmul dot_S256x512_S512x1024_S256x1024_1_0_0_1_n_n none (shapeCast S256x512 o shapeCasts_S1x256x512_S256x512)
    (shapeCast S512x1024 w shapeCasts_S512x1024_S512x1024 : FVec F S512x1024 .bf16) (constant S256x1024 .f32 0x00000000#32)

/-- The sums of the squares of the rows, as a column. -/
def squares (y : FVec F S256x1024 .f32) : FVec F S256x1 .f32 :=
  shapeCast S256x1 (multiReduction .add [1] S256 (mulf y y) 0x00000000#32 reduces_S256x1024_S256 (.inl rfl) rfl) shapeCasts_S256_S256x1

/-- The factor each row is scaled by: one over its root mean square. -/
def factor (y : FVec F S256x1024 .f32) : FVec F S256x1 .f32 :=
  rsqrt (addf (divf (squares y) (broadcast S256x1 (Scalar.ofBits .f32 0x44800000#32))) (broadcast S256x1 (Scalar.ofBits .f32 0x358637BD#32)))

/-- The rows over their root mean squares, times a weight per feature. -/
def normBlk (y : FVec F S256x1024 .f32) (w : Vec F S1x1024 .f32) : FVec F S256x1024 .f32 :=
  mulf (mulf y (broadcastTo S256x1024 (factor y) broadcasts_S256x1_S256x1024))
    (broadcastTo S256x1024 (shapeCast S1x1024 w shapeCasts_S1x1024_S1x1024) broadcasts_S1x1024_S256x1024)

/-- Rows of 1024 features times a square matrix. -/
def prodBlk (y : FVec F S256x1024 .f32) (w : Vec F S1024x1024 .bf16) : FVec F S256x1024 .f32 :=
  matmul dot_S256x1024_S1024x1024_S256x1024_1_0_0_1_n_n none (truncf .bf16 y bitsLt_bf16_f32)
    (shapeCast S1024x1024 w shapeCasts_S1024x1024_S1024x1024 : FVec F S1024x1024 .bf16) (constant S256x1024 .f32 0x00000000#32)

/-- The squares of the positive parts. -/
def reluBlk (u : FVec F S256x1024 .f32) : FVec F S256x1024 .f32 :=
  mulf (maximumf u (broadcast S256x1024 (Scalar.ofBits .f32 0x00000000#32))) (maximumf u (broadcast S256x1024 (Scalar.ofBits .f32 0x00000000#32)))

/-- One quarter of the feed-forward. -/
def quarterBlk (a : FVec F S256x1024 .f32) (wu wd : Vec F S1024x1024 .bf16) : FVec F S256x1024 .f32 :=
  prodBlk (reluBlk (prodBlk a wu)) wd

/-- The four quarters, summed. -/
def feedBlk (a : FVec F S256x1024 .f32) (wu wd : Fin 4 → Vec F S1024x1024 .bf16) : FVec F S256x1024 .f32 :=
  addf (addf (addf (quarterBlk a (wu 0) (wd 0)) (quarterBlk a (wu 1) (wd 1))) (quarterBlk a (wu 2) (wd 2))) (quarterBlk a (wu 3) (wd 3))

/-- The rows after the mixers. -/
def hiddenBlk (og om : Vec F S1x256x512 .bf16) (x : Vec F S1x256x1024 .f32) (wt wb : Vec F S512x1024 .bf16) (n1 : Vec F S1x1024 .f32) :
    FVec F S256x1024 .f32 :=
  addf (shapeCast S256x1024 x shapeCasts_S1x256x1024_S256x1024) (normBlk (addf (halfBlk og wt) (halfBlk om wb)) n1)

/-- The rows after the feed-forward. -/
def fedBlk (h : FVec F S256x1024 .f32) (n2 : Vec F S1x1024 .f32) (wu wd : Fin 4 → Vec F S1024x1024 .bf16) (n3 : Vec F S1x1024 .f32) :
    FVec F S256x1024 .f32 :=
  addf h (normBlk (feedBlk (normBlk h n2) wu wd) n3)

/-- The per-layer embeddings through their projection. -/
def pleBlk (p : Vec F S1x256x256 .f32) (wp : Vec F S256x1024 .bf16) : FVec F S256x1024 .f32 :=
  matmul dot_S256x256_S256x1024_S256x1024_1_0_0_1_n_n none
    (truncf .bf16 (shapeCast S256x256 p shapeCasts_S1x256x256_S256x256 : FVec F S256x256 .f32) bitsLt_bf16_f32)
    (shapeCast S256x1024 wp shapeCasts_S256x1024_S256x1024 : FVec F S256x1024 .bf16) (constant S256x1024 .f32 0x00000000#32)

/-- The logistic function of every element. -/
def gateBlk (u : FVec F S256x1024 .f32) : FVec F S256x1024 .f32 :=
  divf (broadcast S256x1024 (Scalar.ofBits .f32 0x3F800000#32))
    (addf (broadcast S256x1024 (Scalar.ofBits .f32 0x3F800000#32)) (exp (subf (broadcast S256x1024 (Scalar.ofBits .f32 0x00000000#32)) u)))

/-- The rows a part stores. -/
def storeBlk (h : FVec F S256x1024 .f32) (p : Vec F S1x256x256 .f32) (wg : Vec F S1024x1024 .bf16) (wp : Vec F S256x1024 .bf16) :
    FVec F S1x256x1024 .f32 :=
  shapeCast S1x256x1024 (addf h (mulf (gateBlk (prodBlk h wg)) (pleBlk p wp))) shapeCasts_S256x1024_S1x256x1024

section
variable (x0 x1 : Vec F S1x1024x512 .bf16) (x2 : Vec F S1x1024x1024 .f32) (x3 : Vec F S1x1024x256 .f32) (x4 : Vec F S1024x1024 .bf16)
  (x5 x6 : Vec F S1x1024 .f32) (x7 : Vec F S1024x4096 .bf16) (x8 : Vec F S4096x1024 .bf16) (x9 : Vec F S1x1024 .f32)
  (x10 : Vec F S1024x1024 .bf16) (x11 : Vec F S256x1024 .bf16)

/-- A quarter of the columns of the first feed-forward matrix fits. -/
theorem inb_up (q : Fin 4) (a) : (![0, 1024 * q.val] : Fin 2 → ℕ) a + S1024x1024.size a ≤ S1024x4096.size a := by
  fin_cases a
  · show 0 + 1024 ≤ 1024; omega
  · show 1024 * q.val + 1024 ≤ 4096; omega

/-- A quarter of the rows of the second feed-forward matrix fits. -/
theorem inb_down (q : Fin 4) (a) : (![1024 * q.val, 0] : Fin 2 → ℕ) a + S1024x1024.size a ≤ S4096x1024.size a := by
  fin_cases a
  · show 1024 * q.val + 1024 ≤ 4096; omega
  · show 0 + 1024 ≤ 1024; omega

/-- A quarter of the first feed-forward matrix. -/
def upBlk (q : Fin 4) : Vec F S1024x1024 .bf16 := View.ld x7 (Rect.unit (s := S1024x4096) ![0, 1024 * q.val] S1024x1024.size (inb_up q))

/-- A quarter of the second feed-forward matrix. -/
def downBlk (q : Fin 4) : Vec F S1024x1024 .bf16 := View.ld x8 (Rect.unit (s := S4096x1024) ![1024 * q.val, 0] S1024x1024.size (inb_down q))

/-- The upper half of the output projection. -/
def topBlk : Vec F S512x1024 .bf16 := View.ld x4 r0_1

/-- The lower half of the output projection. -/
def bottomBlk : Vec F S512x1024 .bf16 := View.ld x4 r0_2

/-- A norm's weights. -/
def weightBlk : Vec F S1x1024 .f32 := View.ld x5 r0_7

/-- The gate's matrix. -/
def gateMat : Vec F S1024x1024 .bf16 := View.ld x10 r0_19

/-- The per-layer embedding's matrix. -/
def pleMat : Vec F S256x1024 .bf16 := View.ld x11 r0_21

/-- What a part stores, from the blocks of tokens it loads. -/
def part (og om : Vec F S1x256x512 .bf16) (x : Vec F S1x256x1024 .f32) (p : Vec F S1x256x256 .f32) : FVec F S1x256x1024 .f32 :=
  storeBlk (fedBlk (hiddenBlk og om x (topBlk x4) (bottomBlk x4) (weightBlk x5)) (weightBlk x6) (upBlk x7) (downBlk x8)
    (weightBlk x9)) p (gateMat x10) (pleMat x11)

/-- The body's output block is made of the four parts. -/
theorem out_parts : out0_12 x0 x1 x2 x3 x4 x5 x6 x7 x8 x9 x10 x11 = View.canon
    [⟨r0_10, part x4 x5 x6 x7 x8 x9 x10 x11 (View.ld x0 r0_5) (View.ld x1 r0_5) (View.ld x2 r0_10) (View.ld x3 r0_24)⟩,
     ⟨r0_9, part x4 x5 x6 x7 x8 x9 x10 x11 (View.ld x0 r0_4) (View.ld x1 r0_4) (View.ld x2 r0_9) (View.ld x3 r0_23)⟩,
     ⟨r0_8, part x4 x5 x6 x7 x8 x9 x10 x11 (View.ld x0 r0_3) (View.ld x1 r0_3) (View.ld x2 r0_8) (View.ld x3 r0_22)⟩,
     ⟨r0_6, part x4 x5 x6 x7 x8 x9 x10 x11 (View.ld x0 r0_0) (View.ld x1 r0_0) (View.ld x2 r0_6) (View.ld x3 r0_20)⟩] := rfl
end

end Cert.Kernel2Ideal.Mlp

end
-- ==== Proof.Mlp.Spec.lean ====
/- The feed-forward part of the layer for one token, over the extended reals, from its rows and the weights. -/
module

public import Idealize.ShloMosaic.PureOps.Ideal.Laws
public import Mathlib.Algebra.BigOperators.Fin
public import Mathlib.Logic.Equiv.Fin.Basic

@[expose] public section

noncomputable section

namespace Cert.Mlp

open Idealize.ShloMosaic
open scoped BigOperators

/-- A row over its root mean square, times a weight per feature. -/
def rmsNorm (y w : Fin 1024 → EReal) (e : Fin 1024) : EReal :=
  y e * Ideal.rsqrt (Ideal.div (∑ c : Fin 1024, y c * y c) (Ideal.ofBits .f32 0x44800000#32) + Ideal.ofBits .f32 0x358637BD#32) * w e

/-- A row times a matrix. -/
def times {n k : ℕ} (y : Fin n → EReal) (w : Fin n → Fin k → EReal) (e : Fin k) : EReal := ∑ c : Fin n, y c * w c e

/-- The square of the positive part. -/
def relu2 (x : EReal) : EReal := max x (Ideal.ofBits .f32 0x00000000#32) * max x (Ideal.ofBits .f32 0x00000000#32)

/-- The logistic function. -/
def sigmoid (x : EReal) : EReal :=
  Ideal.div (Ideal.ofBits .f32 0x3F800000#32) (Ideal.ofBits .f32 0x3F800000#32 + Ideal.exp (-x))

/-- The two mixers' rows through the output projection: the upper half of its rows for the first, the lower for the second. -/
def mix (og om : Fin 512 → EReal) (wt wb : Fin 512 → Fin 1024 → EReal) (e : Fin 1024) : EReal := times og wt e + times om wb e

/-- One quarter of the feed-forward: 1024 of its 4096 features. -/
def quarter (a : Fin 1024 → EReal) (wu wd : Fin 1024 → Fin 1024 → EReal) (e : Fin 1024) : EReal :=
  times (fun j => relu2 (times a wu j)) wd e

/-- The row after the mixers, the residual added. -/
def mixed (og om : Fin 512 → EReal) (x : Fin 1024 → EReal) (wt wb : Fin 512 → Fin 1024 → EReal) (n1 : Fin 1024 → EReal)
    (e : Fin 1024) : EReal :=
  x e + rmsNorm (mix og om wt wb) n1 e

/-- The feed-forward of a row, quarter by quarter. -/
def feed (a : Fin 1024 → EReal) (wu wd : Fin 4 → Fin 1024 → Fin 1024 → EReal) (e : Fin 1024) : EReal :=
  ∑ q : Fin 4, quarter a (wu q) (wd q) e

/-- The row after the feed-forward, the residual added. -/
def fed (h n2 : Fin 1024 → EReal) (wu wd : Fin 4 → Fin 1024 → Fin 1024 → EReal) (n3 : Fin 1024 → EReal) (e : Fin 1024) : EReal :=
  h e + rmsNorm (feed (rmsNorm h n2) wu wd) n3 e

/-- The row after the gated per-layer embedding, the residual added. -/
def embedded (h : Fin 1024 → EReal) (p : Fin 256 → EReal) (wg : Fin 1024 → Fin 1024 → EReal) (wp : Fin 256 → Fin 1024 → EReal)
    (e : Fin 1024) : EReal :=
  h e + sigmoid (times h wg e) * times p wp e

/-- The layer's row from the two mixers' rows. -/
def row (og om : Fin 512 → EReal) (x : Fin 1024 → EReal) (p : Fin 256 → EReal) (wt wb : Fin 512 → Fin 1024 → EReal)
    (n1 n2 : Fin 1024 → EReal) (wu wd : Fin 4 → Fin 1024 → Fin 1024 → EReal) (n3 : Fin 1024 → EReal)
    (wg : Fin 1024 → Fin 1024 → EReal) (wp : Fin 256 → Fin 1024 → EReal) : Fin 1024 → EReal :=
  embedded (fed (mixed og om x wt wb n1) n2 wu wd n3) p wg wp

/-- The upper half of the rows of a matrix. -/
def top (w : Fin 1024 → Fin 1024 → EReal) (c : Fin 512) (e : Fin 1024) : EReal := w ⟨c.val, by omega⟩ e

/-- The lower half of the rows of a matrix. -/
def bottom (w : Fin 1024 → Fin 1024 → EReal) (c : Fin 512) (e : Fin 1024) : EReal := w ⟨512 + c.val, by omega⟩ e

/-- A quarter of the columns of a matrix. -/
def columns (w : Fin 1024 → Fin 4096 → EReal) (q : Fin 4) (c e : Fin 1024) : EReal := w c ⟨1024 * q.val + e.val, by omega⟩

/-- A quarter of the rows of a matrix. -/
def rows (w : Fin 4096 → Fin 1024 → EReal) (q : Fin 4) (c e : Fin 1024) : EReal := w ⟨1024 * q.val + c.val, by omega⟩ e

/-- The layer's row from the two mixers' rows and the whole weights. -/
def layer (og om : Fin 512 → EReal) (x : Fin 1024 → EReal) (p : Fin 256 → EReal) (wo : Fin 1024 → Fin 1024 → EReal)
    (n1 n2 n3 : Fin 1024 → EReal) (wu : Fin 1024 → Fin 4096 → EReal) (wd : Fin 4096 → Fin 1024 → EReal)
    (wp : Fin 256 → Fin 1024 → EReal) (wg : Fin 1024 → Fin 1024 → EReal) : Fin 1024 → EReal :=
  row og om x p (top wo) (bottom wo) n1 n2 (columns wu) (rows wd) n3 wg wp

/-- A sum over `m` runs of `n` is the sum of the runs' sums. -/
theorem sum_runs {M : Type} [AddCommMonoid M] (m n k : ℕ) (h : m * n = k) (f : Fin k → M) :
    ∑ i, f i = ∑ q : Fin m, ∑ j : Fin n, f ⟨n * q.val + j.val, by
      have h1 := q.isLt; have h2 := j.isLt
      calc n * q.val + j.val < n * q.val + n := by omega
        _ = n * (q.val + 1) := by ring
        _ ≤ n * m := Nat.mul_le_mul_left _ h1
        _ = k := by rw [Nat.mul_comm]; exact h⟩ := by
  subst h
  rw [← Equiv.sum_comp finProdFinEquiv, Fintype.sum_prod_type]
  refine Finset.sum_congr rfl fun q _ => Finset.sum_congr rfl fun j _ => congrArg f (Fin.ext ?_)
  show j.val + n * q.val = n * q.val + j.val
  omega

end Cert.Mlp

end
-- ==== Proof.Mlp.Point.lean ====
/- The operations of one part of the feed-forward kernel, each at an index, over the extended reals. -/
module

public import proofs.«01_k».proof.Proof.Mlp.Body
public import proofs.«01_k».proof.Proof.Mlp.Spec
public import Idealize.ShloMosaic.Lib.Pointwise

@[expose] public section

noncomputable section

namespace Cert.Kernel2Ideal.Mlp

open Cert.Kernel2Ideal Cert.Kernel2Ideal.Gen Idealize.ShloMosaic Idealize.ShloMosaic.TcCoe Cert.Mlp
open scoped BigOperators

/-- Half of the output projection. -/
theorem halfBlk_apply (o : Vec Ideal S1x256x512 .bf16) (w : Vec Ideal S512x1024 .bf16) (r : Fin 256) (e : Fin 1024) :
    halfBlk (F := Ideal) o w (ix2 r e) = times (fun c => o (ix3 0 r c)) (fun c e => w (ix2 c e)) e := by
  unfold halfBlk times
  pointwise

/-- The sum of the squares of a row. -/
theorem squares_apply (y : FVec Ideal S256x1024 .f32) (r : Fin 256) :
    squares (F := Ideal) y (ix2 r 0) = ∑ c : Fin 1024, (y (ix2 r c) * y (ix2 r c) : EReal) := by
  unfold squares
  pointwise

/-- The factor of a row. -/
theorem factor_apply (y : FVec Ideal S256x1024 .f32) (r : Fin 256) :
    factor (F := Ideal) y (ix2 r 0) = Ideal.rsqrt (Ideal.div (squares (F := Ideal) y (ix2 r 0)) (Ideal.ofBits .f32 0x44800000#32)
      + Ideal.ofBits .f32 0x358637BD#32) := by
  unfold factor
  generalize squares (F := Ideal) y = s
  pointwise

/-- A normed row. -/
theorem normBlk_apply (y : FVec Ideal S256x1024 .f32) (w : Vec Ideal S1x1024 .f32) (r : Fin 256) (e : Fin 1024) :
    normBlk (F := Ideal) y w (ix2 r e) = rmsNorm (fun c => y (ix2 r c)) (fun c => w (ix2 0 c)) e := by
  unfold rmsNorm
  rw [← squares_apply, ← factor_apply]
  unfold normBlk
  generalize factor (F := Ideal) y = s
  pointwise

/-- A row times a square matrix. -/
theorem prodBlk_apply (y : FVec Ideal S256x1024 .f32) (w : Vec Ideal S1024x1024 .bf16) (r : Fin 256) (e : Fin 1024) :
    prodBlk (F := Ideal) y w (ix2 r e) = times (fun c => y (ix2 r c)) (fun c e => w (ix2 c e)) e := by
  unfold prodBlk times
  pointwise

/-- The squared positive part of an element. -/
theorem reluBlk_apply (u : FVec Ideal S256x1024 .f32) (r : Fin 256) (e : Fin 1024) :
    reluBlk (F := Ideal) u (ix2 r e) = relu2 (u (ix2 r e)) := by
  unfold reluBlk relu2
  pointwise

/-- A quarter of the feed-forward of a row. -/
theorem quarterBlk_apply (a : FVec Ideal S256x1024 .f32) (wu wd : Vec Ideal S1024x1024 .bf16) (r : Fin 256) (e : Fin 1024) :
    quarterBlk (F := Ideal) a wu wd (ix2 r e)
      = quarter (fun c => a (ix2 r c)) (fun c e => wu (ix2 c e)) (fun c e => wd (ix2 c e)) e := by
  unfold quarterBlk quarter
  rw [prodBlk_apply]
  simp only [reluBlk_apply, prodBlk_apply]

/-- The feed-forward of a row. -/
theorem feedBlk_apply (a : FVec Ideal S256x1024 .f32) (wu wd : Fin 4 → Vec Ideal S1024x1024 .bf16) (r : Fin 256) (e : Fin 1024) :
    feedBlk (F := Ideal) a wu wd (ix2 r e)
      = feed (fun c => a (ix2 r c)) (fun q c e => wu q (ix2 c e)) (fun q c e => wd q (ix2 c e)) e := by
  unfold feed
  rw [Fin.sum_univ_four]
  simp only [← quarterBlk_apply]
  rfl

/-- The row after the mixers. -/
theorem hiddenBlk_apply (og om : Vec Ideal S1x256x512 .bf16) (x : Vec Ideal S1x256x1024 .f32) (wt wb : Vec Ideal S512x1024 .bf16)
    (n1 : Vec Ideal S1x1024 .f32) (r : Fin 256) (e : Fin 1024) :
    hiddenBlk (F := Ideal) og om x wt wb n1 (ix2 r e) = mixed (fun c => og (ix3 0 r c)) (fun c => om (ix3 0 r c)) (fun c => x (ix3 0 r c))
      (fun c e => wt (ix2 c e)) (fun c e => wb (ix2 c e)) (fun c => n1 (ix2 0 c)) e := by
  unfold mixed mix
  simp only [← halfBlk_apply]
  rw [show (fun e => halfBlk (F := Ideal) og wt (ix2 r e) + halfBlk (F := Ideal) om wb (ix2 r e) : Fin 1024 → EReal)
    = fun e => addf (halfBlk (F := Ideal) og wt) (halfBlk (F := Ideal) om wb) (ix2 r e) from rfl, ← normBlk_apply]
  unfold hiddenBlk
  generalize normBlk (F := Ideal) _ _ = s
  pointwise

/-- The row after the feed-forward. -/
theorem fedBlk_apply (h : FVec Ideal S256x1024 .f32) (n2 : Vec Ideal S1x1024 .f32) (wu wd : Fin 4 → Vec Ideal S1024x1024 .bf16)
    (n3 : Vec Ideal S1x1024 .f32) (r : Fin 256) (e : Fin 1024) :
    fedBlk (F := Ideal) h n2 wu wd n3 (ix2 r e) = fed (fun c => h (ix2 r c)) (fun c => n2 (ix2 0 c)) (fun q c e => wu q (ix2 c e))
      (fun q c e => wd q (ix2 c e)) (fun c => n3 (ix2 0 c)) e := by
  show (h (ix2 r e) : EReal) + normBlk (F := Ideal) (feedBlk (normBlk h n2) wu wd) n3 (ix2 r e) = _
  rw [normBlk_apply]
  simp only [feedBlk_apply, normBlk_apply]
  rfl

/-- The per-layer embedding of a row. -/
theorem pleBlk_apply (p : Vec Ideal S1x256x256 .f32) (wp : Vec Ideal S256x1024 .bf16) (r : Fin 256) (e : Fin 1024) :
    pleBlk (F := Ideal) p wp (ix2 r e) = times (fun c => p (ix3 0 r c)) (fun c e => wp (ix2 c e)) e := by
  unfold pleBlk times
  pointwise

/-- The gate of an element. -/
theorem gateBlk_apply (u : FVec Ideal S256x1024 .f32) (r : Fin 256) (e : Fin 1024) :
    gateBlk (F := Ideal) u (ix2 r e) = sigmoid (u (ix2 r e)) := by
  unfold gateBlk sigmoid
  pointwise
  rw [zero_sub]

/-- The row a part stores. -/
theorem storeBlk_apply (h : FVec Ideal S256x1024 .f32) (p : Vec Ideal S1x256x256 .f32) (wg : Vec Ideal S1024x1024 .bf16)
    (wp : Vec Ideal S256x1024 .bf16) (r : Fin 256) (e : Fin 1024) :
    storeBlk (F := Ideal) h p wg wp (ix3 0 r e) = embedded (fun c => h (ix2 r c)) (fun c => p (ix3 0 r c)) (fun c e => wg (ix2 c e))
      (fun c e => wp (ix2 c e)) e := by
  unfold embedded
  rw [← prodBlk_apply, ← pleBlk_apply, ← gateBlk_apply]
  unfold storeBlk
  generalize gateBlk (F := Ideal) _ = g
  generalize pleBlk (F := Ideal) _ _ = s
  pointwise

end Cert.Kernel2Ideal.Mlp

end
-- ==== Proof.Mlp.Cells.lean ====
/- What the body leaves in its output block, element by element, from the blocks it stages. -/
module

public import proofs.«01_k».proof.Proof.Mlp.Point
public import Idealize.ShloMosaic.Lib.Pipeline.ValueKit.Tiles

@[expose] public section

noncomputable section

namespace Cert.Kernel2Ideal.Mlp

open Cert.Kernel2Ideal Cert.Kernel2Ideal.Gen Idealize.ShloMosaic Idealize.ShloMosaic.TcCoe Cert.Mlp

section
variable (x0 x1 : Vec Ideal S1x1024x512 .bf16) (x2 : Vec Ideal S1x1024x1024 .f32) (x3 : Vec Ideal S1x1024x256 .f32)
  (x4 : Vec Ideal S1024x1024 .bf16) (x5 x6 : Vec Ideal S1x1024 .f32) (x7 : Vec Ideal S1024x4096 .bf16) (x8 : Vec Ideal S4096x1024 .bf16)
  (x9 : Vec Ideal S1x1024 .f32) (x10 : Vec Ideal S1024x1024 .bf16) (x11 : Vec Ideal S256x1024 .bf16)

/-- The output block, element by element. -/
def outOf (y : S1x1024x1024.Idx) : EReal :=
  layer (fun c => x0 (ix3 0 (y 1) c)) (fun c => x1 (ix3 0 (y 1) c)) (fun c => x2 (ix3 0 (y 1) c)) (fun c => x3 (ix3 0 (y 1) c))
    (fun c e => x4 (ix2 c e)) (fun c => x5 (ix2 0 c)) (fun c => x6 (ix2 0 c)) (fun c => x9 (ix2 0 c)) (fun c e => x7 (ix2 c e))
    (fun c e => x8 (ix2 c e)) (fun c e => x11 (ix2 c e)) (fun c e => x10 (ix2 c e)) (y 2)

/-- The upper half of the output projection, loaded. -/
theorem topBlk_apply (c : Fin 512) (e : Fin 1024) : topBlk (F := Ideal) x4 (ix2 c e) = x4 (ix2 ⟨c.val, by omega⟩ e) := by
  unfold topBlk
  refine View.ld_unit_apply_of x4 _ _ _ _ _ fun a => ?_
  fin_cases a
  · show c.val = 0 + c.val; omega
  · show e.val = 0 + e.val; omega

/-- The lower half of the output projection, loaded. -/
theorem bottomBlk_apply (c : Fin 512) (e : Fin 1024) : bottomBlk (F := Ideal) x4 (ix2 c e) = x4 (ix2 ⟨512 + c.val, by omega⟩ e) := by
  unfold bottomBlk
  refine View.ld_unit_apply_of x4 _ _ _ _ _ fun a => ?_
  fin_cases a
  · rfl
  · show e.val = 0 + e.val; omega

/-- A norm's weights, loaded. -/
theorem weightBlk_apply (c : Fin 1024) : weightBlk (F := Ideal) x5 (ix2 0 c) = x5 (ix2 0 c) := by
  unfold weightBlk
  refine View.ld_unit_apply_of x5 _ _ _ _ _ fun a => ?_
  fin_cases a
  · rfl
  · show c.val = 0 + c.val; omega

/-- The gate's matrix, loaded. -/
theorem gateMat_apply (c e : Fin 1024) : gateMat (F := Ideal) x10 (ix2 c e) = x10 (ix2 c e) := by
  unfold gateMat
  refine View.ld_unit_apply_of x10 _ _ _ _ _ fun a => ?_
  fin_cases a
  · show c.val = 0 + c.val; omega
  · show e.val = 0 + e.val; omega

/-- The per-layer embedding's matrix, loaded. -/
theorem pleMat_apply (c : Fin 256) (e : Fin 1024) : pleMat (F := Ideal) x11 (ix2 c e) = x11 (ix2 c e) := by
  unfold pleMat
  refine View.ld_unit_apply_of x11 _ _ _ _ _ fun a => ?_
  fin_cases a
  · show c.val = 0 + c.val; omega
  · show e.val = 0 + e.val; omega

/-- A quarter of the first feed-forward matrix, loaded. -/
theorem upBlk_apply (q : Fin 4) (c e : Fin 1024) : upBlk (F := Ideal) x7 q (ix2 c e) = x7 (ix2 c ⟨1024 * q.val + e.val, by omega⟩) := by
  unfold upBlk
  refine View.ld_unit_apply_of x7 _ _ _ _ _ fun a => ?_
  fin_cases a
  · show c.val = 0 + c.val; omega
  · rfl

/-- A quarter of the second feed-forward matrix, loaded. -/
theorem downBlk_apply (q : Fin 4) (c e : Fin 1024) : downBlk (F := Ideal) x8 q (ix2 c e) = x8 (ix2 ⟨1024 * q.val + c.val, by omega⟩ e) := by
  unfold downBlk
  refine View.ld_unit_apply_of x8 _ _ _ _ _ fun a => ?_
  fin_cases a
  · rfl
  · show e.val = 0 + e.val; omega

/-- The row a part stores. -/
theorem part_apply (og om : Vec Ideal S1x256x512 .bf16) (x : Vec Ideal S1x256x1024 .f32) (p : Vec Ideal S1x256x256 .f32)
    (r : Fin 256) (e : Fin 1024) :
    part (F := Ideal) x4 x5 x6 x7 x8 x9 x10 x11 og om x p (ix3 0 r e)
      = layer (fun c => og (ix3 0 r c)) (fun c => om (ix3 0 r c)) (fun c => x (ix3 0 r c)) (fun c => p (ix3 0 r c))
    (fun c e => x4 (ix2 c e)) (fun c => x5 (ix2 0 c)) (fun c => x6 (ix2 0 c)) (fun c => x9 (ix2 0 c)) (fun c e => x7 (ix2 c e))
    (fun c e => x8 (ix2 c e)) (fun c e => x11 (ix2 c e)) (fun c e => x10 (ix2 c e)) e := by
  unfold part
  rw [storeBlk_apply]
  simp only [fedBlk_apply, hiddenBlk_apply]
  simp only [topBlk_apply, bottomBlk_apply, weightBlk_apply, gateMat_apply, pleMat_apply, upBlk_apply, downBlk_apply]
  rfl

/-- A part's blocks are rows of the staged blocks, from row `R` on. -/
theorem part_rows (R : ℕ) (h : R + 256 ≤ 1024) (i1 i2 i3) (z : S1x256x1024.Idx) :
    part (F := Ideal) x4 x5 x6 x7 x8 x9 x10 x11
      (View.ld x0 (Rect.unit (s := S1x1024x512) ![0, R, 0] S1x256x512.size i1) : Vec Ideal S1x256x512 .bf16)
      (View.ld x1 (Rect.unit (s := S1x1024x512) ![0, R, 0] S1x256x512.size i1) : Vec Ideal S1x256x512 .bf16)
      (View.ld x2 (Rect.unit (s := S1x1024x1024) ![0, R, 0] S1x256x1024.size i2) : Vec Ideal S1x256x1024 .f32)
      (View.ld x3 (Rect.unit (s := S1x1024x256) ![0, R, 0] S1x256x256.size i3) : Vec Ideal S1x256x256 .f32) z
    = outOf x0 x1 x2 x3 x4 x5 x6 x7 x8 x9 x10 x11 ((Rect.unit (s := S1x1024x1024) ![0, R, 0] S1x256x1024.size i2).emb z) := by
  have hz0 : (z 0).val < 1 := (z 0).isLt
  have hz1 : (z 1).val < 256 := (z 1).isLt
  have hz2 : (z 2).val < 1024 := (z 2).isLt
  have ez : z = ix3 (0 : Fin 1) (⟨(z 1).val, hz1⟩ : Fin 256) (⟨(z 2).val, hz2⟩ : Fin 1024) := by
    funext a; fin_cases a
    · exact Fin.ext (by show (z 0).val = 0; omega)
    · rfl
    · rfl
  have ei : (Rect.unit (s := S1x1024x1024) ![0, R, 0] S1x256x1024.size i2).emb z
      = ix3 (0 : Fin 1) (⟨R + (z 1).val, by omega⟩ : Fin 1024) (⟨(z 2).val, hz2⟩ : Fin 1024) := by
    funext a; fin_cases a
    · exact Fin.ext (by show 0 + 1 * (z 0).val = 0; omega)
    · exact Fin.ext (by show R + 1 * (z 1).val = R + (z 1).val; omega)
    · exact Fin.ext (by show 0 + 1 * (z 2).val = (z 2).val; omega)
  rw [ei]
  refine (congrArg _ ez).trans ((part_apply x4 x5 x6 x7 x8 x9 x10 x11 _ _ _ _ _ _).trans ?_)
  unfold outOf
  congr 1 <;> funext c <;> refine View.ld_unit_apply_of _ _ _ _ _ _ fun a => ?_ <;> fin_cases a <;>
    first | rfl | exact (Nat.zero_add _).symm

/-- The output block the body leaves is the function above. -/
theorem out_eq : out0_12 (F := Ideal) x0 x1 x2 x3 x4 x5 x6 x7 x8 x9 x10 x11 = outOf x0 x1 x2 x3 x4 x5 x6 x7 x8 x9 x10 x11 := by
  rw [out_parts]
  funext y
  refine View.canon_apply_of_pieces (Val := Elt Ideal) (outOf x0 x1 x2 x3 x4 x5 x6 x7 x8 x9 x10 x11) _ ?_ y (cover0_12 _ _ _ _ y)
  intro q hq
  simp only [List.mem_cons, List.not_mem_nil, or_false] at hq
  rcases hq with rfl | rfl | rfl | rfl <;> intro z
  · exact part_rows x0 x1 x2 x3 x4 x5 x6 x7 x8 x9 x10 x11 768 (by omega) _ _ _ z
  · exact part_rows x0 x1 x2 x3 x4 x5 x6 x7 x8 x9 x10 x11 512 (by omega) _ _ _ z
  · exact part_rows x0 x1 x2 x3 x4 x5 x6 x7 x8 x9 x10 x11 256 (by omega) _ _ _ z
  · exact part_rows x0 x1 x2 x3 x4 x5 x6 x7 x8 x9 x10 x11 0 (by omega) _ _ _ z
end

end Cert.Kernel2Ideal.Mlp

end
-- ==== Proof.Mlp.Arrays.lean ====
/- The array the feed-forward kernel leaves, element by element, from its arguments. -/
module

public import proofs.«01_k».proof.Proof.Mlp.Cells
public import Idealize.ShloMosaic.Lib.Pipeline.ValueKit
public import Idealize.ShloMosaic.Lib.StableHlo.ReadAt

@[expose] public section

set_option maxRecDepth 16384

noncomputable section

namespace Cert.Kernel2Ideal.Mlp

open Cert.Kernel2Ideal Cert.Kernel2Ideal.Gen Idealize.ShloMosaic Idealize.ShloMosaic.TcCoe Idealize.SL.Sem Cert.Mlp
open Idealize.ShloMosaic.Pipeline (Dat)

/-- The array the kernel leaves: the layer's row of every token. -/
def result (x0 x1 : FVec Ideal S16x2048x512 .f32) (x2 : FVec Ideal S16x2048x1024 .f32) (x3 : FVec Ideal S16x2048x256 .f32)
    (x4 : FVec Ideal S1024x1024 .f32) (x5 x6 x7 : FVec Ideal S1024 .f32) (x8 : FVec Ideal S1024x4096 .f32)
    (x9 : FVec Ideal S4096x1024 .f32) (x10 : FVec Ideal S256x1024 .f32) (x11 : FVec Ideal S1024x1024 .f32) :
    S16x2048x1024.Idx → EReal := fun i =>
  layer (fun c => x0 (ix3 (i 0) (i 1) c)) (fun c => x1 (ix3 (i 0) (i 1) c)) (fun c => x2 (ix3 (i 0) (i 1) c)) (fun c => x3 (ix3 (i 0) (i 1) c))
    (fun c e => x4 (ix2 c e)) (fun c => x5 (ix1 c)) (fun c => x6 (ix1 c)) (fun c => x7 (ix1 c)) (fun c e => x8 (ix2 c e))
    (fun c e => x9 (ix2 c e)) (fun c e => x10 (ix2 c e)) (fun c e => x11 (ix2 c e)) (i 2)

/-- The block of tokens every window of tokens stages at each grid point: half a batch. -/
theorem idx : ∀ t : Fin cfg0.N, win0_0.index t = ![t.val / 2, t.val % 2, 0] ∧ win0_1.index t = ![t.val / 2, t.val % 2, 0] ∧
    win0_2.index t = ![t.val / 2, t.val % 2, 0] ∧ win0_3.index t = ![t.val / 2, t.val % 2, 0] ∧
    win0_12.index t = ![t.val / 2, t.val % 2, 0] ∧ t.val < 32 :=
  (by decide +kernel : ∀ t : Fin grid0.N, _)

/-- The weights' windows stage them whole. -/
theorem idxWeights : ∀ t : Fin cfg0.N, win0_4.index t = ![0, 0] ∧ win0_5.index t = ![0, 0] ∧ win0_6.index t = ![0, 0] ∧
    win0_7.index t = ![0, 0] ∧ win0_8.index t = ![0, 0] ∧ win0_9.index t = ![0, 0] ∧ win0_10.index t = ![0, 0] ∧ win0_11.index t = ![0, 0] :=
  (by decide +kernel : ∀ t : Fin grid0.N, _)

/-- A grid point's number is below 32. -/
theorem point_lt (t : Fin cfg0.N) : t.val < 32 := (idx t).2.2.2.2.2

variable (m : (ℓ : Loc nD τ sig) → Buf (Elt Ideal) ℓ)

/-- The first mixer's rows staged at a grid point. -/
theorem iblk0 (c : Dev nD) (t : Fin cfg0.N) (r : Fin 1024) (k : Fin 512) : iblk (F := Ideal) m c 0 t (ix3 0 r k) =
    m ((c : Thread nD τ).loc main_arg0)
      (ix3 (⟨t.val / 2, by have := point_lt t; omega⟩ : Fin 16) (⟨1024 * (t.val % 2) + r.val, by omega⟩ : Fin 2048) k) := by
  blk_simp [iblk]
  unfold V
  after_reads_at
  blk_ext [idx t]

/-- The second mixer's rows staged at a grid point. -/
theorem iblk1 (c : Dev nD) (t : Fin cfg0.N) (r : Fin 1024) (k : Fin 512) : iblk (F := Ideal) m c 1 t (ix3 0 r k) =
    m ((c : Thread nD τ).loc main_arg1)
      (ix3 (⟨t.val / 2, by have := point_lt t; omega⟩ : Fin 16) (⟨1024 * (t.val % 2) + r.val, by omega⟩ : Fin 2048) k) := by
  blk_simp [iblk]
  unfold V
  after_reads_at
  blk_ext [idx t]

/-- The residual's rows staged at a grid point. -/
theorem iblk2 (c : Dev nD) (t : Fin cfg0.N) (r : Fin 1024) (k : Fin 1024) : iblk (F := Ideal) m c 2 t (ix3 0 r k) =
    m ((c : Thread nD τ).loc main_arg2)
      (ix3 (⟨t.val / 2, by have := point_lt t; omega⟩ : Fin 16) (⟨1024 * (t.val % 2) + r.val, by omega⟩ : Fin 2048) k) := by
  blk_simp [iblk]
  unfold V
  after_reads_at
  blk_ext [idx t]

/-- The per-layer embeddings' rows staged at a grid point. -/
theorem iblk3 (c : Dev nD) (t : Fin cfg0.N) (r : Fin 1024) (k : Fin 256) : iblk (F := Ideal) m c 3 t (ix3 0 r k) =
    m ((c : Thread nD τ).loc main_arg3)
      (ix3 (⟨t.val / 2, by have := point_lt t; omega⟩ : Fin 16) (⟨1024 * (t.val % 2) + r.val, by omega⟩ : Fin 2048) k) := by
  blk_simp [iblk]
  unfold V
  after_reads_at
  blk_ext [idx t]

/-- The output projection staged at a grid point. -/
theorem iblk4 (c : Dev nD) (t : Fin cfg0.N) (r : Fin 1024) (k : Fin 1024) : iblk (F := Ideal) m c 4 t (ix2 r k) =
    m ((c : Thread nD τ).loc main_arg4) (ix2 r k) := by
  blk_simp [iblk]
  unfold V
  after_reads_at
  blk_ext [idxWeights t]

/-- The first feed-forward matrix staged at a grid point. -/
theorem iblk7 (c : Dev nD) (t : Fin cfg0.N) (r : Fin 1024) (k : Fin 4096) : iblk (F := Ideal) m c 7 t (ix2 r k) =
    m ((c : Thread nD τ).loc main_arg8) (ix2 r k) := by
  blk_simp [iblk]
  unfold V
  after_reads_at
  blk_ext [idxWeights t]

/-- The second feed-forward matrix staged at a grid point. -/
theorem iblk8 (c : Dev nD) (t : Fin cfg0.N) (r : Fin 4096) (k : Fin 1024) : iblk (F := Ideal) m c 8 t (ix2 r k) =
    m ((c : Thread nD τ).loc main_arg9) (ix2 r k) := by
  blk_simp [iblk]
  unfold V
  after_reads_at
  blk_ext [idxWeights t]

/-- The gate's matrix staged at a grid point. -/
theorem iblk10 (c : Dev nD) (t : Fin cfg0.N) (r : Fin 1024) (k : Fin 1024) : iblk (F := Ideal) m c 10 t (ix2 r k) =
    m ((c : Thread nD τ).loc main_arg11) (ix2 r k) := by
  blk_simp [iblk]
  unfold V
  after_reads_at
  blk_ext [idxWeights t]

/-- The per-layer embedding's matrix staged at a grid point. -/
theorem iblk11 (c : Dev nD) (t : Fin cfg0.N) (r : Fin 256) (k : Fin 1024) : iblk (F := Ideal) m c 11 t (ix2 r k) =
    m ((c : Thread nD τ).loc main_arg10) (ix2 r k) := by
  blk_simp [iblk]
  unfold V
  after_reads_at
  blk_ext [idxWeights t]

/-- The first norm's weights staged at a grid point. -/
theorem iblk5 (c : Dev nD) (t : Fin cfg0.N) (k : Fin 1024) : iblk (F := Ideal) m c 5 t (ix2 0 k) =
    m ((c : Thread nD τ).loc main_arg5) (ix1 k) := by
  blk_simp [iblk]
  unfold V
  after_reads_at
  blk_ext [idxWeights t]

/-- The second norm's weights staged at a grid point. -/
theorem iblk6 (c : Dev nD) (t : Fin cfg0.N) (k : Fin 1024) : iblk (F := Ideal) m c 6 t (ix2 0 k) =
    m ((c : Thread nD τ).loc main_arg6) (ix1 k) := by
  blk_simp [iblk]
  unfold V
  after_reads_at
  blk_ext [idxWeights t]

/-- The third norm's weights staged at a grid point. -/
theorem iblk9 (c : Dev nD) (t : Fin cfg0.N) (k : Fin 1024) : iblk (F := Ideal) m c 9 t (ix2 0 k) =
    m ((c : Thread nD τ).loc main_arg7) (ix1 k) := by
  blk_simp [iblk]
  unfold V
  after_reads_at
  blk_ext [idxWeights t]

/-- The array after the run. -/
theorem final (c : Dev nD) : (dats (F := Ideal) m 0 c).arrAt 12 (cfgs 0).N =
    result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ (by decide +kernel) fun t _ y => ?_
  blk_simp
  rw [after0_12, out_eq]
  have ht := point_lt t
  have hy : (y 1).val < 1024 := (y 1).isLt
  have e : ((cfg0.win 12).blk t).view.emb y = (ix3 (⟨t.val / 2, by omega⟩ : Fin 16)
      (⟨1024 * (t.val % 2) + (y 1).val, by omega⟩ : Fin 2048) (y 2) : S16x2048x1024.Idx) := by
    blk_ext [idx t]
  rw [e]
  unfold outOf result
  simp only [iblk4, iblk5, iblk6, iblk7, iblk8, iblk9, iblk10, iblk11]
  have e0 := fun k => iblk0 m c t ⟨(y 1).val, hy⟩ k
  have e1 := fun k => iblk1 m c t ⟨(y 1).val, hy⟩ k
  have e2 := fun k => iblk2 m c t ⟨(y 1).val, hy⟩ k
  have e3 := fun k => iblk3 m c t ⟨(y 1).val, hy⟩ k
  congr 1 <;> first | exact funext e0 | exact funext e1 | exact funext e2 | exact funext e3

end Cert.Kernel2Ideal.Mlp

end
-- ==== Proof.Mlp.Ref.lean ====
/- The reference, read one row at a time. -/
module

public import proofs.«01_k».proof.Proof.Gen.Reference2Ideal.Read
public import proofs.«01_k».proof.Proof.Mlp.Spec
public import Idealize.ShloMosaic.Lib.Pointwise

@[expose] public section

noncomputable section

namespace Cert.Reference2Ideal.Mlp

open Cert.Reference2Ideal Cert.Reference2Ideal.Gen Cert.Reference2Ideal.Read Idealize.ShloMosaic Idealize.ShloMosaic.TcCoe Cert.Mlp
open scoped BigOperators

/-- The sums of the squares of the rows. -/
def squares (y : FVec Ideal S16x2048x1024 .f32) : FVec Ideal S16x2048 .f32 :=
  Host.reduceAdd (mulf y y) (val_main_cst (F := Ideal)) reducesTo_S16x2048x1024_S16x2048_d2 h_S_

/-- The factor each row is scaled by. -/
def factor (y : FVec Ideal S16x2048x1024 .f32) : FVec Ideal S16x2048x1 .f32 :=
  Host.rsqrt (addf (Host.divf (broadcastInDim S16x2048x1 ![0, 1] bcast_S16x2048_S16x2048x1_0_1 (squares y)) (val_main_v5 (F := Ideal)))
    (val_main_v7 (F := Ideal)))

/-- The reference's norm of an array of rows. -/
def normArr (y : FVec Ideal S16x2048x1024 .f32) (w : FVec Ideal S1024 .f32) : FVec Ideal S16x2048x1024 .f32 :=
  mulf (mulf y (broadcastInDim S16x2048x1024 ![0, 1, 2] bcast_S16x2048x1_S16x2048x1024_0_1_2 (factor y))) (val_main_v13 (F := Ideal) w)

/-- The sum of the squares of a row. -/
theorem squares_apply (y : FVec Ideal S16x2048x1024 .f32) (b : Fin 16) (t : Fin 2048) :
    squares y (ix2 b t) = ∑ c : Fin 1024, (y (ix3 b t c) * y (ix3 b t c) : EReal) := by
  unfold squares val_main_cst
  pointwise

/-- The factor of a row. -/
theorem factor_apply (y : FVec Ideal S16x2048x1024 .f32) (b : Fin 16) (t : Fin 2048) :
    factor y (ix3 b t 0) = Ideal.rsqrt (Ideal.div (squares y (ix2 b t)) (Ideal.ofBits .f32 0x44800000#32)
      + Ideal.ofBits .f32 0x358637BD#32) := by
  unfold factor val_main_v5 val_main_v7 val_main_cst_0 val_main_cst_1
  generalize squares y = s
  pointwise

/-- A normed row. -/
theorem normArr_apply (y : FVec Ideal S16x2048x1024 .f32) (w : FVec Ideal S1024 .f32) (b : Fin 16) (t : Fin 2048) (e : Fin 1024) :
    normArr y w (ix3 b t e) = rmsNorm (fun c => y (ix3 b t c)) (fun c => w (ix1 c)) e := by
  unfold rmsNorm
  rw [← squares_apply, ← factor_apply]
  unfold normArr val_main_v13 val_main_v12
  generalize factor y = s
  pointwise

/-- An array of rows times a square matrix. -/
def prodArr (y : FVec Ideal S16x2048x1024 .f32) (w : FVec Ideal S1024x1024 .f32) : FVec Ideal S16x2048x1024 .f32 :=
  Host.dotGeneral dot_S16x2048x1024_S1024x1024_S16x2048x1024_2_0_01_1_n_n none y w

/-- A row times a square matrix. -/
theorem prodArr_apply (y : FVec Ideal S16x2048x1024 .f32) (w : FVec Ideal S1024x1024 .f32) (b : Fin 16) (t : Fin 2048) (e : Fin 1024) :
    prodArr y w (ix3 b t e) = times (fun c => y (ix3 b t c)) (fun c e => w (ix2 c e)) e := by
  unfold prodArr times
  pointwise

/-- An array of rows times the first matrix of the feed-forward. -/
def upArr (y : FVec Ideal S16x2048x1024 .f32) (w : FVec Ideal S1024x4096 .f32) : FVec Ideal S16x2048x4096 .f32 :=
  Host.dotGeneral dot_S16x2048x1024_S1024x4096_S16x2048x4096_2_0_01_1_n_n none y w

/-- A row times the first matrix. -/
theorem upArr_apply (y : FVec Ideal S16x2048x1024 .f32) (w : FVec Ideal S1024x4096 .f32) (b : Fin 16) (t : Fin 2048) (e : Fin 4096) :
    upArr y w (ix3 b t e) = times (fun c => y (ix3 b t c)) (fun c e => w (ix2 c e)) e := by
  unfold upArr times
  pointwise

/-- The squares of the positive parts. -/
def reluArr (u : FVec Ideal S16x2048x4096 .f32) : FVec Ideal S16x2048x4096 .f32 :=
  mulf (maximumf u (val_main_call0_v0 (F := Ideal))) (maximumf u (val_main_call0_v0 (F := Ideal)))

/-- The squared positive part of an element. -/
theorem reluArr_apply (u : FVec Ideal S16x2048x4096 .f32) (b : Fin 16) (t : Fin 2048) (e : Fin 4096) :
    reluArr u (ix3 b t e) = relu2 (u (ix3 b t e)) := by
  unfold reluArr relu2 val_main_call0_v0 val_main_call0_cst
  pointwise

/-- An array of rows times the second matrix of the feed-forward. -/
def downArr (y : FVec Ideal S16x2048x4096 .f32) (w : FVec Ideal S4096x1024 .f32) : FVec Ideal S16x2048x1024 .f32 :=
  Host.dotGeneral dot_S16x2048x4096_S4096x1024_S16x2048x1024_2_0_01_1_n_n none y w

/-- A row times the second matrix. -/
theorem downArr_apply (y : FVec Ideal S16x2048x4096 .f32) (w : FVec Ideal S4096x1024 .f32) (b : Fin 16) (t : Fin 2048) (e : Fin 1024) :
    downArr y w (ix3 b t e) = times (fun c => y (ix3 b t c)) (fun c e => w (ix2 c e)) e := by
  unfold downArr times
  pointwise

/-- The feed-forward of a row is the sum of its quarters. -/
theorem feedArr_apply (y : FVec Ideal S16x2048x1024 .f32) (wu : FVec Ideal S1024x4096 .f32) (wd : FVec Ideal S4096x1024 .f32)
    (b : Fin 16) (t : Fin 2048) (e : Fin 1024) :
    downArr (reluArr (upArr y wu)) wd (ix3 b t e)
      = feed (fun c => y (ix3 b t c)) (columns fun c e => wu (ix2 c e)) (rows fun c e => wd (ix2 c e)) e := by
  rw [downArr_apply]
  simp only [reluArr_apply, upArr_apply]
  unfold times
  rw [sum_runs 4 1024 4096 (by norm_num)]
  rfl

/-- The logistic function of every element. -/
def gateArr (u : FVec Ideal S16x2048x1024 .f32) : FVec Ideal S16x2048x1024 .f32 :=
  Host.divf (val_main_v52 (F := Ideal)) (addf (val_main_v50 (F := Ideal)) (Host.exp (Host.negf u)))

/-- The gate of an element. -/
theorem gateArr_apply (u : FVec Ideal S16x2048x1024 .f32) (b : Fin 16) (t : Fin 2048) (e : Fin 1024) :
    gateArr u (ix3 b t e) = sigmoid (u (ix3 b t e)) := by
  unfold gateArr sigmoid val_main_v52 val_main_v50 val_main_cst_9 val_main_cst_8
  pointwise

section
variable (x0 x1 : FVec Ideal S16x2048x512 .f32) (x2 : FVec Ideal S16x2048x1024 .f32) (x3 : FVec Ideal S16x2048x256 .f32)
  (x4 : FVec Ideal S1024x1024 .f32) (x5 x6 x7 : FVec Ideal S1024 .f32) (x8 : FVec Ideal S1024x4096 .f32)
  (x9 : FVec Ideal S4096x1024 .f32) (x10 : FVec Ideal S256x1024 .f32) (x11 : FVec Ideal S1024x1024 .f32)
  (b : Fin 16) (t : Fin 2048) (e : Fin 1024)

/-- The per-layer embedding of a row. -/
theorem ple_apply : val_main_v54 (F := Ideal) x3 x10 (ix3 b t e) = times (fun c => x3 (ix3 b t c)) (fun c e => x10 (ix2 c e)) e := by
  unfold val_main_v54 times
  pointwise

/-- The first half of a joined row. -/
theorem join_left (c : Fin 512) : val_main_v0 (F := Ideal) x0 x1 (ix3 b t ⟨c.val, by omega⟩) = x0 (ix3 b t c) := by
  unfold val_main_v0
  pointwise

/-- The second half of a joined row. -/
theorem join_right (c : Fin 512) : val_main_v0 (F := Ideal) x0 x1 (ix3 b t ⟨512 + c.val, by omega⟩) = x1 (ix3 b t c) := by
  unfold val_main_v0
  pointwise

/-- The joined mixers through the output projection. -/
theorem mix_apply : val_main_v1 (F := Ideal) x0 x1 x4 (ix3 b t e)
    = mix (fun c => x0 (ix3 b t c)) (fun c => x1 (ix3 b t c)) (top fun c e => x4 (ix2 c e)) (bottom fun c e => x4 (ix2 c e)) e := by
  refine (prodArr_apply (val_main_v0 (F := Ideal) x0 x1) x4 b t e).trans ?_
  unfold mix times
  rw [sum_runs 2 512 1024 (by norm_num), Fin.sum_univ_two]
  refine congrArg₂ (· + ·) (Finset.sum_congr rfl fun c _ => ?_) (Finset.sum_congr rfl fun c _ => ?_)
  · refine (congrArg (fun i => (val_main_v0 (F := Ideal) x0 x1 (ix3 b t i) * x4 (ix2 i e) : EReal))
      (show _ = (⟨c.val, by omega⟩ : Fin 1024) from Fin.ext (by show 512 * 0 + c.val = c.val; omega))).trans ?_
    exact congrArg (fun z : EReal => z * x4 (ix2 ⟨c.val, by omega⟩ e)) (join_left x0 x1 b t c)
  · exact congrArg (fun z : EReal => z * x4 (ix2 ⟨512 + c.val, by omega⟩ e)) (join_right x0 x1 b t c)

/-- The row after the mixers. -/
theorem mixed_apply : val_main_v15 (F := Ideal) x0 x1 x2 x4 x5 (ix3 b t e)
    = mixed (fun c => x0 (ix3 b t c)) (fun c => x1 (ix3 b t c)) (fun c => x2 (ix3 b t c)) (top fun c e => x4 (ix2 c e))
      (bottom fun c e => x4 (ix2 c e)) (fun c => x5 (ix1 c)) e := by
  show (x2 (ix3 b t e) : EReal) + normArr (val_main_v1 (F := Ideal) x0 x1 x4) x5 (ix3 b t e) = _
  rw [normArr_apply]
  simp only [mix_apply]
  rfl

/-- The row after the feed-forward. -/
theorem fed_apply : val_main_v46 (F := Ideal) x0 x1 x2 x4 x5 x6 x7 x8 x9 (ix3 b t e)
    = fed (fun c => val_main_v15 (F := Ideal) x0 x1 x2 x4 x5 (ix3 b t c)) (fun c => x6 (ix1 c)) (columns fun c e => x8 (ix2 c e))
      (rows fun c e => x9 (ix2 c e)) (fun c => x7 (ix1 c)) e := by
  show (val_main_v15 (F := Ideal) x0 x1 x2 x4 x5 (ix3 b t e) : EReal)
    + normArr (downArr (reluArr (upArr (normArr (val_main_v15 (F := Ideal) x0 x1 x2 x4 x5) x6) x8)) x9) x7 (ix3 b t e) = _
  rw [normArr_apply]
  simp only [feedArr_apply, normArr_apply]
  rfl

/-- The row the reference ends with. -/
theorem result_apply : val_main_v56 (F := Ideal) x0 x1 x2 x3 x4 x5 x6 x7 x8 x9 x10 x11 (ix3 b t e)
    = layer (fun c => x0 (ix3 b t c)) (fun c => x1 (ix3 b t c)) (fun c => x2 (ix3 b t c)) (fun c => x3 (ix3 b t c))
      (fun c e => x4 (ix2 c e)) (fun c => x5 (ix1 c)) (fun c => x6 (ix1 c)) (fun c => x7 (ix1 c)) (fun c e => x8 (ix2 c e))
      (fun c e => x9 (ix2 c e)) (fun c e => x10 (ix2 c e)) (fun c e => x11 (ix2 c e)) e := by
  show (val_main_v46 (F := Ideal) x0 x1 x2 x4 x5 x6 x7 x8 x9 (ix3 b t e) : EReal)
    + gateArr (prodArr (val_main_v46 (F := Ideal) x0 x1 x2 x4 x5 x6 x7 x8 x9) x11) (ix3 b t e)
      * val_main_v54 (F := Ideal) x3 x10 (ix3 b t e) = _
  rw [gateArr_apply, prodArr_apply, ple_apply]
  simp only [fed_apply, mixed_apply]
  rfl
end

end Cert.Reference2Ideal.Mlp

end
-- ==== Proof.Mlp.Result.lean ====
/- The reference's result and the feed-forward kernel's are one array. -/
module

public import proofs.«01_k».proof.Proof.Mlp.Arrays
public import proofs.«01_k».proof.Proof.Mlp.Ref

@[expose] public section

noncomputable section

namespace Cert.Mlp

open Idealize.ShloMosaic Cert.Kernel2Ideal.Mlp

/-- The two results are one array. -/
theorem results_eq (x0 x1 : FVec Ideal Cert.Kernel2Ideal.S16x2048x512 .f32) (x2 : FVec Ideal Cert.Kernel2Ideal.S16x2048x1024 .f32)
    (x3 : FVec Ideal Cert.Kernel2Ideal.S16x2048x256 .f32) (x4 : FVec Ideal Cert.Kernel2Ideal.S1024x1024 .f32)
    (x5 x6 x7 : FVec Ideal Cert.Kernel2Ideal.S1024 .f32) (x8 : FVec Ideal Cert.Kernel2Ideal.S1024x4096 .f32)
    (x9 : FVec Ideal Cert.Kernel2Ideal.S4096x1024 .f32) (x10 : FVec Ideal Cert.Kernel2Ideal.S256x1024 .f32)
    (x11 : FVec Ideal Cert.Kernel2Ideal.S1024x1024 .f32) :
    result x0 x1 x2 x3 x4 x5 x6 x7 x8 x9 x10 x11
      = Cert.Reference2Ideal.Read.val_main_v56 (F := Ideal) x0 x1 x2 x3 x4 x5 x6 x7 x8 x9 x10 x11 := by
  funext i
  obtain ⟨b, t, e, rfl⟩ : ∃ (b : Fin 16) (t : Fin 2048) (e : Fin 1024), i = ix3 b t e :=
    ⟨i 0, i 1, i 2, by funext a; fin_cases a <;> rfl⟩
  exact (Cert.Reference2Ideal.Mlp.result_apply x0 x1 x2 x3 x4 x5 x6 x7 x8 x9 x10 x11 b t e).symm

end Cert.Mlp

end
-- ==== Proof.Inproj.Body.lean ====
/- One part of the input projection's kernel — 128 tokens — as functions of the blocks it loads, the same for each of the eight. -/
module

public import proofs.«01_k».proof.Proof.Gen.Kernel3Ideal.Value

@[expose] public section

noncomputable section

namespace Cert.Kernel3Ideal.Inproj

open Cert.Kernel3Ideal Cert.Kernel3Ideal.Gen Idealize.ShloMosaic Idealize.ShloMosaic.TcCoe

variable {F : FTy → Type} [FloatOps F]

/-- The sums of the squares of the rows, as a column. -/
def squares (y : FVec F S128x1024 .f32) : FVec F S128x1 .f32 :=
  shapeCast S128x1 (multiReduction .add [1] S128 (mulf y y) 0x00000000#32 reduces_S128x1024_S128 (.inl rfl) rfl) shapeCasts_S128_S128x1

/-- The factor each row is scaled by: one over its root mean square. -/
def factor (y : FVec F S128x1024 .f32) : FVec F S128x1 .f32 :=
  rsqrt (addf (divf (squares y) (broadcast S128x1 (Scalar.ofBits .f32 0x44800000#32))) (broadcast S128x1 (Scalar.ofBits .f32 0x358637BD#32)))

/-- The rows over their root mean squares, times a weight per feature. -/
def normBlk (y : FVec F S128x1024 .f32) (w : Vec F S1x1024 .f32) : FVec F S128x1024 .bf16 :=
  truncf .bf16 (mulf (mulf y (broadcastTo S128x1024 (factor y) broadcasts_S128x1_S128x1024))
    (broadcastTo S128x1024 (shapeCast S1x1024 w shapeCasts_S1x1024_S1x1024) broadcasts_S1x1024_S128x1024)) bitsLt_bf16_f32

/-- The normed rows of a block of tokens. -/
def normedBlk (x : Vec F S1x128x1024 .f32) (w : Vec F S1x1024 .f32) : FVec F S128x1024 .bf16 :=
  normBlk (shapeCast S128x1024 x shapeCasts_S1x128x1024_S128x1024) w

/-- The normed rows times 256 columns of the projection. -/
def prodBlk (u : FVec F S128x1024 .bf16) (w : Vec F S1024x256 .bf16) : FVec F S128x256 .f32 :=
  matmul dot_S128x1024_S1024x256_S128x256_1_0_0_1_n_n none u w (constant S128x256 .f32 0x00000000#32)

/-- 256 projected columns, stored as they are. -/
def plainBlk (u : FVec F S128x1024 .bf16) (w : Vec F S1024x256 .bf16) : FVec F S1x128x256 .bf16 :=
  shapeCast S1x128x256 (truncf .bf16 (prodBlk u w) bitsLt_bf16_f32) shapeCasts_S128x256_S1x128x256

/-- Half of 256 columns can be sliced out. -/
theorem slices_half (k : ℕ) : S128x256.Slices ![0, 128 * (k % 2)] S128x128 := by
  rcases Nat.mod_two_eq_zero_or_one k with h | h <;> rw [h]
  · exact slices_S128x256_o0_0_S128x128
  · exact slices_S128x256_o0_128_S128x128

/-- One head out of two. -/
def headBlk (y : FVec F S128x256 .f32) (k : ℕ) : FVec F S128x128 .f32 :=
  extractStridedSlice S128x128 ![0, 128 * (k % 2)] y (slices_half k)

/-- The rotation of one head by its three tables. -/
def turnBlk (y : FVec F S128x128 .f32) (c a b : Vec F S128x128 .f32) : FVec F S128x128 .f32 :=
  addf (addf (mulf y (shapeCast S128x128 c shapeCasts_S128x128_S128x128))
      (mulf (dynamicRotate 1 112#32 none y rotates_S128x128_d1) (shapeCast S128x128 a shapeCasts_S128x128_S128x128)))
    (mulf (dynamicRotate 1 16#32 none y rotates_S128x128_d1) (shapeCast S128x128 b shapeCasts_S128x128_S128x128))

/-- A head of the keys. -/
def keyBlk (u : FVec F S128x1024 .bf16) (w : Vec F S1024x256 .bf16) (k : ℕ) (c a b : Vec F S128x128 .f32) : FVec F S1x128x128 .bf16 :=
  shapeCast S1x128x128 (truncf .bf16 (turnBlk (headBlk (prodBlk u w) k) c a b) bitsLt_bf16_f32) shapeCasts_S128x128_S1x128x128

/-- A head of the queries, scaled. -/
def queryBlk (u : FVec F S128x1024 .bf16) (w : Vec F S1024x256 .bf16) (k : ℕ) (c a b : Vec F S128x128 .f32) : FVec F S1x128x128 .bf16 :=
  shapeCast S1x128x128 (truncf .bf16 (mulf (turnBlk (headBlk (prodBlk u w) k) c a b)
    (broadcast S128x128 (Scalar.ofBits .f32 0x3E0293EE#32))) bitsLt_bf16_f32) shapeCasts_S128x128_S1x128x128

/-- 128 columns of the projection's weights, from the rows they are stored as. -/
def columnsBlk (v : Vec F S1x128x1024 .f32) : FVec F S1024x128 .bf16 :=
  shapeCast S1024x128 (truncf .bf16 (transpose S1024x128 [1, 0] (shapeCast S128x1024 v shapeCasts_S1x128x1024_S128x1024)
    transposes_S128x1024_p1_0_S1024x128 : FVec F S1024x128 .f32) bitsLt_bf16_f32) shapeCasts_S1024x128_S1024x128

/-- The eight gate columns, with 120 columns of zeros after them. -/
def gatesBlk (v : Vec F S1x8x1024 .f32) : FVec F S1024x128 .bf16 := k0_pay34 v

/-- 128 rows of tokens fit. -/
theorem inb_rows (p : ℕ) (a) : (![0, 128 * (p % 8), 0] : Fin 3 → ℕ) a + S1x128x1024.size a ≤ S1x1024x1024.size a := by
  fin_cases a
  · show 0 + 1 ≤ 1; omega
  · show 128 * (p % 8) + 128 ≤ 1024; omega
  · show 0 + 1024 ≤ 1024; omega

/-- The rows of part `p`. -/
def rowsRect (p : ℕ) : Rect S1x1024x1024 := Rect.unit ![0, 128 * (p % 8), 0] S1x128x1024.size (inb_rows p)

/-- 128 rows of a table fit. -/
theorem inb_table (p : ℕ) (a) : (![128 * (p % 8), 0] : Fin 2 → ℕ) a + S128x128.size a ≤ S1024x128.size a := by
  fin_cases a
  · show 128 * (p % 8) + 128 ≤ 1024; omega
  · show 0 + 128 ≤ 128; omega

/-- The rows of a table for part `p`. -/
def tableRect (p : ℕ) : Rect S1024x128 := Rect.unit ![128 * (p % 8), 0] S128x128.size (inb_table p)

/-- The norm's weights fit. -/
theorem inb_norm (a) : (![0, 0] : Fin 2 → ℕ) a + S1x1024.size a ≤ S1x1024.size a := by
  fin_cases a
  · show 0 + 1 ≤ 1; omega
  · show 0 + 1024 ≤ 1024; omega

/-- The norm's weights. -/
def normRect : Rect S1x1024 := Rect.unit ![0, 0] S1x1024.size inb_norm

/-- 256 columns of the packed weights fit. -/
theorem inb_pair (j : ℕ) (a) : (![0, 256 * (j % 14)] : Fin 2 → ℕ) a + S1024x256.size a ≤ S1024x3712.size a := by
  fin_cases a
  · show 0 + 1024 ≤ 1024; omega
  · show 256 * (j % 14) + 256 ≤ 3712; omega

/-- The packed weights' columns from `256 j` on. -/
def pairRect (j : ℕ) : Rect S1024x3712 := Rect.unit ![0, 256 * (j % 14)] S1024x256.size (inb_pair j)

/-- 256 columns of an output fit. -/
theorem inb_plain (p h : ℕ) (a) : (![0, 128 * (p % 8), 256 * (h % 2)] : Fin 3 → ℕ) a + S1x128x256.size a ≤ S1x1024x512.size a := by
  fin_cases a
  · show 0 + 1 ≤ 1; omega
  · show 128 * (p % 8) + 128 ≤ 1024; omega
  · show 256 * (h % 2) + 256 ≤ 512; omega

/-- The rows of part `p`, half `h` of the columns. -/
def plainRect (p h : ℕ) : Rect S1x1024x512 := Rect.unit ![0, 128 * (p % 8), 256 * (h % 2)] S1x128x256.size (inb_plain p h)

/-- One head of an output fits. -/
theorem inb_head (p n : ℕ) (a) : (![0, 128 * (p % 8), 128 * (n % 4)] : Fin 3 → ℕ) a + S1x128x128.size a ≤ S1x1024x512.size a := by
  fin_cases a
  · show 0 + 1 ≤ 1; omega
  · show 128 * (p % 8) + 128 ≤ 1024; omega
  · show 128 * (n % 4) + 128 ≤ 512; omega

/-- The rows of part `p`, head `n` of the columns. -/
def headRect (p n : ℕ) : Rect S1x1024x512 := Rect.unit ![0, 128 * (p % 8), 128 * (n % 4)] S1x128x128.size (inb_head p n)

/-- The stores of an output left as projected, last first, from the normed rows of each part and the packed columns. -/
def plainPieces (u : ℕ → FVec F S128x1024 .bf16) (w : ℕ → Vec F S1024x256 .bf16) (j : ℕ) : List (View.Piece (Elt F) S1x1024x512 .bf16) :=
  (List.finRange 16).reverse.map fun t => ⟨plainRect (t.val / 2) (t.val % 2), plainBlk (u (t.val / 2)) (w (j + t.val % 2))⟩

/-- The stores of the keys, last first. -/
def keyPieces (u : ℕ → FVec F S128x1024 .bf16) (w : ℕ → Vec F S1024x256 .bf16) (c a b : ℕ → Vec F S128x128 .f32) :
    List (View.Piece (Elt F) S1x1024x512 .bf16) :=
  (List.finRange 32).reverse.map fun t => ⟨headRect (t.val / 4) (t.val % 4),
    keyBlk (u (t.val / 4)) (w (10 + t.val % 4 / 2)) (t.val % 4) (c (t.val / 4)) (a (t.val / 4)) (b (t.val / 4))⟩

/-- The stores of the queries, last first. -/
def queryPieces (u : ℕ → FVec F S128x1024 .bf16) (w : ℕ → Vec F S1024x256 .bf16) (c a b : ℕ → Vec F S128x128 .f32) :
    List (View.Piece (Elt F) S1x1024x512 .bf16) :=
  (List.finRange 32).reverse.map fun t => ⟨headRect (t.val / 4) (t.val % 4),
    queryBlk (u (t.val / 4)) (w (8 + t.val % 4 / 2)) (t.val % 4) (c (t.val / 4)) (a (t.val / 4)) (b (t.val / 4))⟩

/-- 128 columns of the packed weights fit. -/
theorem inb_column (j : ℕ) (a) : (![0, 128 * (j % 29)] : Fin 2 → ℕ) a + S1024x128.size a ≤ S1024x3712.size a := by
  fin_cases a
  · show 0 + 1024 ≤ 1024; omega
  · show 128 * (j % 29) + 128 ≤ 3712; omega

/-- The packed weights' columns from `128 j` on. -/
def columnRect (j : ℕ) : Rect S1024x3712 := Rect.unit ![0, 128 * (j % 29)] S1024x128.size (inb_column j)

/-- 128 rows of the stored weights fit: the eight gate rows, from row 2048 on, are passed over. -/
theorem inb_source (j : ℕ) (a) : (![0, 128 * (j % 28) + 8 * (j % 28 / 16), 0] : Fin 3 → ℕ) a + S1x128x1024.size a ≤ S1x3592x1024.size a := by
  fin_cases a
  · show 0 + 1 ≤ 1; omega
  · show 128 * (j % 28) + 8 * (j % 28 / 16) + 128 ≤ 3592; omega
  · show 0 + 1024 ≤ 1024; omega

/-- The stored weights' rows packed as columns from `128 j` on. -/
def sourceRect (j : ℕ) : Rect S1x3592x1024 := Rect.unit ![0, 128 * (j % 28) + 8 * (j % 28 / 16), 0] S1x128x1024.size (inb_source j)

/-- The eight gate rows fit. -/
theorem inb_gates (a) : (![0, 2048, 0] : Fin 3 → ℕ) a + S1x8x1024.size a ≤ S1x3592x1024.size a := by
  fin_cases a
  · show 0 + 1 ≤ 1; omega
  · show 2048 + 8 ≤ 3592; omega
  · show 0 + 1024 ≤ 1024; omega

/-- The eight gate rows. -/
def gatesRect : Rect S1x3592x1024 := Rect.unit ![0, 2048, 0] S1x8x1024.size inb_gates

/-- The stores of the packed weights, last first. -/
def packPieces (v : ℕ → Vec F S1x128x1024 .f32) (g : Vec F S1x8x1024 .f32) : List (View.Piece (Elt F) S1024x3712 .bf16) :=
  ⟨columnRect 28, gatesBlk g⟩ :: (List.finRange 28).reverse.map fun t => ⟨columnRect t.val, columnsBlk (v t.val)⟩

section
variable (arg2 : Memref sig .tc .vmem S1x1024x1024 .f32) (harg2 : arg2.IsWhole) (arg3 : Memref sig .tc .vmem S1x1024 .f32)
  (harg3 : arg3.IsWhole) (arg4 : Memref sig .tc .vmem S1x3592x1024 .f32) (harg4 : arg4.IsWhole)
  (arg7 : Memref sig .tc .vmem S1024x128 .f32) (harg7 : arg7.IsWhole) (arg19 : Memref sig .tc .vmem S1024x3712 .bf16) (harg19 : arg19.IsWhole)

/-- The normed rows of part `p`, as the body loads them. -/
def loadNormed (x0 : Vec F S1x1024x1024 .f32) (x1 : Vec F S1x1024 .f32) (p : ℕ) : FVec F S128x1024 .bf16 :=
  normedBlk (View.readAt (Elt F) arg2.view (rowsRect p).toLoadRect (harg2.unread x0))
    (View.readAt (Elt F) arg3.view normRect.toLoadRect (harg3.unread x1))

/-- The rows of a table for part `p`, as the body loads them. -/
def loadTable (x : Vec F S1024x128 .f32) (p : ℕ) : Vec F S128x128 .f32 :=
  View.readAt (Elt F) arg7.view (tableRect p).toLoadRect (harg7.unread x)

/-- The packed columns from `256 j` on, as the body loads them when an earlier grid point packed them. -/
def loadPair (xs : Vec F S1024x3712 .bf16) (j : ℕ) : Vec F S1024x256 .bf16 :=
  View.readAt (Elt F) arg19.view (pairRect j).toLoadRect (harg19.unread xs)

/-- The stored weights' rows, as the body loads them. -/
def loadSource (x2 : Vec F S1x3592x1024 .f32) (j : ℕ) : Vec F S1x128x1024 .f32 :=
  View.readAt (Elt F) arg4.view (sourceRect j).toLoadRect (harg4.unread x2)

/-- The eight gate rows, as the body loads them. -/
def loadGates (x2 : Vec F S1x3592x1024 .f32) : Vec F S1x8x1024 .f32 :=
  View.readAt (Elt F) arg4.view gatesRect.toLoadRect (harg4.unread x2)
end

end Cert.Kernel3Ideal.Inproj

end
-- ==== Proof.Inproj.Spec.lean ====
/- The mixers' inputs for one token, over the extended reals: its normed row projected, and rotated by its position. -/
module

public import proofs.«01_k».proof.Proof.Mlp.Spec

@[expose] public section

noncomputable section

namespace Cert.Inproj

open Idealize.ShloMosaic Cert.Mlp
open scoped BigOperators

/-- 512 columns of the projection of a normed row, from column `o` on. -/
def projected (x n : Fin 1024 → EReal) (w : Fin 1024 → Fin 3592 → EReal) (o : ℕ) (h : o + 512 ≤ 3592) (e : Fin 512) : EReal :=
  times (rmsNorm x n) (fun c (e : Fin 512) => w c ⟨o + e.val, by omega⟩) e

/-- The partial rotation of one head: its first 16 features and the next 16 turn by the angles, the rest stay. -/
def rotate (cos sin : Fin 16 → EReal) (y : Fin 128 → EReal) (d : Fin 128) : EReal :=
  if h : d.val < 16 then y d * cos ⟨d.val, h⟩ - y ⟨16 + d.val, by omega⟩ * sin ⟨d.val, h⟩
  else if h' : d.val < 32 then y d * cos ⟨d.val - 16, by omega⟩ + y ⟨d.val - 16, by omega⟩ * sin ⟨d.val - 16, by omega⟩
  else y d

/-- A head of a row. -/
def head (y : Fin 512 → EReal) (n : Fin 4) (d : Fin 128) : EReal := y ⟨128 * n.val + d.val, by omega⟩

/-- The partial rotation of the four heads of a row. -/
def rotated (cos sin : Fin 16 → EReal) (y : Fin 512 → EReal) (e : Fin 512) : EReal :=
  rotate cos sin (head y ⟨e.val / 128, by omega⟩) ⟨e.val % 128, by omega⟩

end Cert.Inproj

end
-- ==== Proof.Inproj.Turn.lean ====
/- The rotation of a head as a kernel spells it, by three tables, and what it has to do with the rotation by angles. -/
module

public import proofs.«01_k».proof.Proof.Inproj.Spec

@[expose] public section

noncomputable section

namespace Cert.Inproj

open Idealize.ShloMosaic

/-- The angle of a position's feature: the position times a power of the base. -/
def angle (p k : ℕ) : EReal :=
  (FloatOps.sitofp (F := Ideal) .f32 (BitVec.ofNat 32 p) : EReal) * Ideal.pow (Ideal.ofBits .f32 1223959552#32)
    (-(FloatOps.sitofp (F := Ideal) .f32 (BitVec.ofNat 32 k) : EReal) * Ideal.ofBits .f32 1031798784#32)

/-- The rotation of one head by three tables: its features, those 16 after and those 16 before, cyclically. -/
def turn (c a b y : Fin 128 → EReal) (d : Fin 128) : EReal :=
  y d * c d + y ⟨(d.val + 16) % 128, by omega⟩ * a d + y ⟨(d.val + 112) % 128, by omega⟩ * b d

/-- The three tables that turn the first 16 features and the next 16 by the angles and keep the rest. -/
theorem turn_eq_rotate (cos sin : Fin 16 → EReal) (c a b y : Fin 128 → EReal)
    (hc : ∀ d, c d = if h : d.val < 16 then cos ⟨d.val, h⟩ else if h' : d.val < 32 then cos ⟨d.val - 16, by omega⟩ else 1)
    (ha : ∀ d, a d = if h : d.val < 16 then -sin ⟨d.val, h⟩ else 0)
    (hb : ∀ d, b d = if h : d.val < 16 then 0 else if h' : d.val < 32 then sin ⟨d.val - 16, by omega⟩ else 0) (d : Fin 128) :
    turn c a b y d = rotate cos sin y d := by
  unfold turn rotate
  rw [hc, ha, hb]
  by_cases h : d.val < 16
  · rw [dif_pos h, dif_pos h, dif_pos h, dif_pos h, mul_zero, add_zero, mul_neg, sub_eq_add_neg]
    rw [show (⟨(d.val + 16) % 128, by omega⟩ : Fin 128) = ⟨16 + d.val, by omega⟩ from Fin.ext (by show (d.val + 16) % 128 = 16 + d.val; omega)]
  · by_cases h' : d.val < 32
    · rw [dif_neg h, dif_neg h, dif_neg h, dif_neg h, dif_pos h', dif_pos h', dif_pos h', mul_zero, add_zero]
      rw [show (⟨(d.val + 112) % 128, by omega⟩ : Fin 128) = ⟨d.val - 16, by omega⟩ from
        Fin.ext (by show (d.val + 112) % 128 = d.val - 16; omega)]
    · rw [dif_neg h, dif_neg h, dif_neg h, dif_neg h, dif_neg h', dif_neg h', dif_neg h', mul_zero, mul_zero, add_zero, add_zero, mul_one]

end Cert.Inproj

end
-- ==== Proof.Inproj.Point.lean ====
/- The operations of one part of the input projection's kernel, each at an index, over the extended reals. -/
module

public import proofs.«01_k».proof.Proof.Inproj.Body
public import proofs.«01_k».proof.Proof.Inproj.Turn
public import Idealize.ShloMosaic.Lib.Pointwise

@[expose] public section

noncomputable section

namespace Cert.Kernel3Ideal.Inproj

open Cert.Kernel3Ideal Cert.Kernel3Ideal.Gen Idealize.ShloMosaic Idealize.ShloMosaic.TcCoe Cert.Mlp Cert.Inproj
open scoped BigOperators

/-- The sum of the squares of a row. -/
theorem squares_apply (y : FVec Ideal S128x1024 .f32) (r : Fin 128) :
    squares (F := Ideal) y (ix2 r 0) = ∑ c : Fin 1024, (y (ix2 r c) * y (ix2 r c) : EReal) := by
  unfold squares
  pointwise

/-- The factor of a row. -/
theorem factor_apply (y : FVec Ideal S128x1024 .f32) (r : Fin 128) :
    factor (F := Ideal) y (ix2 r 0) = Ideal.rsqrt (Ideal.div (squares (F := Ideal) y (ix2 r 0)) (Ideal.ofBits .f32 0x44800000#32)
      + Ideal.ofBits .f32 0x358637BD#32) := by
  unfold factor
  generalize squares (F := Ideal) y = s
  pointwise

/-- A normed row. -/
theorem normBlk_apply (y : FVec Ideal S128x1024 .f32) (w : Vec Ideal S1x1024 .f32) (r : Fin 128) (e : Fin 1024) :
    normBlk (F := Ideal) y w (ix2 r e) = rmsNorm (fun c => y (ix2 r c)) (fun c => w (ix2 0 c)) e := by
  unfold rmsNorm
  rw [← squares_apply, ← factor_apply]
  unfold normBlk
  generalize factor (F := Ideal) y = s
  pointwise

/-- A row without its block's leading axis. -/
theorem rowBlk_apply (x : Vec Ideal S1x128x1024 .f32) (r : Fin 128) (e : Fin 1024) :
    (shapeCast S128x1024 x shapeCasts_S1x128x1024_S128x1024 : FVec Ideal S128x1024 .f32) (ix2 r e) = x (ix3 0 r e) := by
  pointwise

/-- A normed row of a block. -/
theorem normedBlk_apply (x : Vec Ideal S1x128x1024 .f32) (w : Vec Ideal S1x1024 .f32) (r : Fin 128) (e : Fin 1024) :
    normedBlk (F := Ideal) x w (ix2 r e) = rmsNorm (fun c => x (ix3 0 r c)) (fun c => w (ix2 0 c)) e := by
  unfold normedBlk
  rw [normBlk_apply]
  simp only [rowBlk_apply]

/-- A row times 256 columns. -/
theorem prodBlk_apply (u : FVec Ideal S128x1024 .bf16) (w : Vec Ideal S1024x256 .bf16) (r : Fin 128) (e : Fin 256) :
    prodBlk (F := Ideal) u w (ix2 r e) = times (fun c => u (ix2 r c)) (fun c e => w (ix2 c e)) e := by
  unfold prodBlk times
  pointwise

/-- A row times 256 columns, stored. -/
theorem plainBlk_apply (u : FVec Ideal S128x1024 .bf16) (w : Vec Ideal S1024x256 .bf16) (r : Fin 128) (e : Fin 256) :
    plainBlk (F := Ideal) u w (ix3 0 r e) = prodBlk (F := Ideal) u w (ix2 r e) := by
  unfold plainBlk
  generalize prodBlk (F := Ideal) u w = y
  pointwise

/-- A feature of a head. -/
theorem headBlk_apply (y : FVec Ideal S128x256 .f32) (k : ℕ) (r d : Fin 128) :
    headBlk (F := Ideal) y k (ix2 r d) = y (ix2 r ⟨128 * (k % 2) + d.val, by omega⟩) := by
  unfold headBlk
  pointwise

/-- A turned feature. -/
theorem turnBlk_apply (y : FVec Ideal S128x128 .f32) (c a b : Vec Ideal S128x128 .f32) (r d : Fin 128) :
    turnBlk (F := Ideal) y c a b (ix2 r d)
      = turn (fun d => c (ix2 r d)) (fun d => a (ix2 r d)) (fun d => b (ix2 r d)) (fun d => y (ix2 r d)) d := by
  unfold turnBlk turn
  pointwise
  rw [show (⟨(d.val + 128 - 112) % 128, by omega⟩ : Fin 128) = ⟨(d.val + 16) % 128, by omega⟩ from
      Fin.ext (by show (d.val + 128 - 112) % 128 = (d.val + 16) % 128; omega),
    show (⟨(d.val + 128 - 16) % 128, by omega⟩ : Fin 128) = ⟨(d.val + 112) % 128, by omega⟩ from
      Fin.ext (by show (d.val + 128 - 16) % 128 = (d.val + 112) % 128; omega)]

/-- A head of the keys, stored. -/
theorem keyBlk_apply (u : FVec Ideal S128x1024 .bf16) (w : Vec Ideal S1024x256 .bf16) (k : ℕ) (c a b : Vec Ideal S128x128 .f32) (r d : Fin 128) :
    keyBlk (F := Ideal) u w k c a b (ix3 0 r d) = turnBlk (F := Ideal) (headBlk (prodBlk u w) k) c a b (ix2 r d) := by
  unfold keyBlk
  generalize turnBlk (F := Ideal) (headBlk (prodBlk u w) k) c a b = y
  pointwise

/-- A head of the queries, stored. -/
theorem queryBlk_apply (u : FVec Ideal S128x1024 .bf16) (w : Vec Ideal S1024x256 .bf16) (k : ℕ) (c a b : Vec Ideal S128x128 .f32) (r d : Fin 128) :
    queryBlk (F := Ideal) u w k c a b (ix3 0 r d)
      = (turnBlk (F := Ideal) (headBlk (prodBlk u w) k) c a b (ix2 r d) * Ideal.ofBits .f32 0x3E0293EE#32 : EReal) := by
  unfold queryBlk
  generalize turnBlk (F := Ideal) (headBlk (prodBlk u w) k) c a b = y
  pointwise

/-- A packed column. -/
theorem columnsBlk_apply (v : Vec Ideal S1x128x1024 .f32) (c : Fin 1024) (e : Fin 128) :
    columnsBlk (F := Ideal) v (ix2 c e) = v (ix3 0 e c) := by
  unfold columnsBlk
  pointwise

end Cert.Kernel3Ideal.Inproj

end
-- ==== Proof.Inproj.Cells.lean ====
/- What the stores of the input projection's body leave, element by element, from the blocks it stages and the packed weights. -/
module

public import proofs.«01_k».proof.Proof.Inproj.Point
public import Idealize.ShloMosaic.Lib.Pipeline.ValueKit.Tiles

@[expose] public section

noncomputable section

namespace Cert.Kernel3Ideal.Inproj

open Cert.Kernel3Ideal Cert.Kernel3Ideal.Gen Idealize.ShloMosaic Idealize.ShloMosaic.TcCoe Cert.Mlp Cert.Inproj
open scoped BigOperators

/-- Pieces that cover their array and each hold a function's values read back as the function. -/
theorem canon_of {S : Shape} {e : EltTy} (L L' : List (View.Piece (Elt Ideal) S e)) (hL : L = L') (f : S.Idx → Elt Ideal e)
    (h : ∀ p ∈ L', ∀ y, p.2 y = f (p.1.emb y)) (hc : ∀ y, ∃ p ∈ L, y ∈ p.1.set) : View.canon L = f := by
  subst hL
  funext y
  exact View.canon_apply_of_pieces (Val := Elt Ideal) f L h y (hc y)

/-- 256 columns loaded back from pieces that read back as the function given. -/
theorem pair_of (arg19 : Memref sig .tc .vmem S1024x3712 .bf16) (L : List (View.Piece (Elt Ideal) S1024x3712 .bf16))
    (f : Vec Ideal S1024x3712 .bf16) (h : View.canon L = f) (j : ℕ) (k : Fin 1024) (e : Fin 256) :
    (arg19.view.readCov L (pairRect j).toLoadRect : Vec Ideal S1024x256 .bf16) (ix2 k e)
      = f (ix2 k ⟨256 * (j % 14) + e.val, by omega⟩) := by
  rw [View.readCov_eq_canon', h]
  refine congrArg f ?_
  funext a; fin_cases a
  · exact Fin.ext (by show 0 + 1 * k.val = k.val; omega)
  · exact Fin.ext (by show 256 * (j % 14) + 1 * e.val = 256 * (j % 14) + e.val; omega)

/-- The packed weights: the stored weights transposed, the eight gate rows moved behind the rest. -/
def packed (x2 : Vec Ideal S1x3592x1024 .f32) : Vec Ideal S1024x3712 .bf16 := fun y =>
  if h : (y 1).val < 3584 then x2 (ix3 0 ⟨(y 1).val + (if (y 1).val < 2048 then 0 else 8), by split <;> omega⟩ (y 0))
  else gatesBlk (F := Ideal) (View.ld x2 gatesRect) (ix2 (y 0) ⟨(y 1).val - 3584, by have h2 : (y 1).val < 3712 := (y 1).isLt; omega⟩)

section
variable (arg2 : Memref sig .tc .vmem S1x1024x1024 .f32) (harg2 : arg2.IsWhole) (arg3 : Memref sig .tc .vmem S1x1024 .f32)
  (harg3 : arg3.IsWhole) (arg4 : Memref sig .tc .vmem S1x3592x1024 .f32) (harg4 : arg4.IsWhole)
  (arg7 : Memref sig .tc .vmem S1024x128 .f32) (harg7 : arg7.IsWhole) (arg19 : Memref sig .tc .vmem S1024x3712 .bf16) (harg19 : arg19.IsWhole)

/-- A row of the normed rows a part loads. -/
theorem loadNormed_apply (x0 : Vec Ideal S1x1024x1024 .f32) (x1 : Vec Ideal S1x1024 .f32) (p : ℕ) (r : Fin 128) (e : Fin 1024) :
    loadNormed (F := Ideal) arg2 harg2 arg3 harg3 x0 x1 p (ix2 r e)
      = rmsNorm (fun c => x0 (ix3 0 ⟨128 * (p % 8) + r.val, by omega⟩ c)) (fun c => x1 (ix2 0 c)) e := by
  unfold loadNormed
  refine (normedBlk_apply _ _ _ _).trans ?_
  rw [View.readAt_eq_ld, View.readAt_eq_ld, Memref.IsWhole.read_unread, Memref.IsWhole.read_unread]
  have e0 : ∀ c : Fin 1024, View.ld x0 (rowsRect p) (ix3 (0 : Fin 1) r c) = x0 (ix3 0 ⟨128 * (p % 8) + r.val, by omega⟩ c) := fun c => by
    refine View.ld_unit_apply_of x0 _ _ _ _ _ fun a => ?_
    fin_cases a
    · rfl
    · rfl
    · show c.val = 0 + c.val; omega
  have e1 : ∀ c : Fin 1024, View.ld x1 normRect (ix2 (0 : Fin 1) c) = x1 (ix2 0 c) := fun c => by
    refine View.ld_unit_apply_of x1 _ _ _ _ _ fun a => ?_
    fin_cases a
    · rfl
    · show c.val = 0 + c.val; omega
  rw [show (fun c : Fin 1024 => View.ld x0 (rowsRect p) (ix3 (0 : Fin 1) r c)) = _ from funext e0,
    show (fun c : Fin 1024 => View.ld x1 normRect (ix2 (0 : Fin 1) c)) = _ from funext e1]

/-- A row of a table a part loads. -/
theorem loadTable_apply (x : Vec Ideal S1024x128 .f32) (p : ℕ) (r d : Fin 128) :
    loadTable (F := Ideal) arg7 harg7 x p (ix2 r d) = x (ix2 ⟨128 * (p % 8) + r.val, by omega⟩ d) := by
  unfold loadTable
  rw [View.readAt_eq_ld, Memref.IsWhole.read_unread]
  refine View.ld_unit_apply_of x _ _ _ _ _ fun a => ?_
  fin_cases a
  · rfl
  · show d.val = 0 + d.val; omega

/-- A column of the packed weights. -/
theorem loadPair_apply (xs : Vec Ideal S1024x3712 .bf16) (j : ℕ) (c : Fin 1024) (e : Fin 256) :
    loadPair (F := Ideal) arg19 harg19 xs j (ix2 c e) = xs (ix2 c ⟨256 * (j % 14) + e.val, by omega⟩) := by
  unfold loadPair
  rw [View.readAt_eq_ld, Memref.IsWhole.read_unread]
  refine View.ld_unit_apply_of xs _ _ _ _ _ fun a => ?_
  fin_cases a
  · show c.val = 0 + c.val; omega
  · rfl

/-- A row of the stored weights. -/
theorem loadSource_apply (x2 : Vec Ideal S1x3592x1024 .f32) (j : ℕ) (e : Fin 128) (c : Fin 1024) :
    loadSource (F := Ideal) arg4 harg4 x2 j (ix3 0 e c) = x2 (ix3 0 ⟨128 * (j % 28) + 8 * (j % 28 / 16) + e.val, by omega⟩ c) := by
  unfold loadSource
  rw [View.readAt_eq_ld, Memref.IsWhole.read_unread]
  refine View.ld_unit_apply_of x2 _ _ _ _ _ fun a => ?_
  fin_cases a
  · rfl
  · rfl
  · show c.val = 0 + c.val; omega

/-- The gate rows loaded. -/
theorem loadGates_eq (x2 : Vec Ideal S1x3592x1024 .f32) : loadGates (F := Ideal) arg4 harg4 x2 = View.ld x2 gatesRect := by
  unfold loadGates
  rw [View.readAt_eq_ld, Memref.IsWhole.read_unread]

/-- Every store into the packed weights stores there the value named above. -/
theorem packPieces_apply (x2 : Vec Ideal S1x3592x1024 .f32) :
    ∀ p ∈ packPieces (F := Ideal) (loadSource arg4 harg4 x2) (loadGates arg4 harg4 x2), ∀ y, p.2 y = packed x2 (p.1.emb y) := by
  intro p hp
  rcases List.mem_cons.mp hp with rfl | hp
  · intro y
    have h0 : (y 0).val < 1024 := (y 0).isLt
    have h1 : (y 1).val < 128 := (y 1).isLt
    show gatesBlk (F := Ideal) (loadGates arg4 harg4 x2) y = _
    rw [loadGates_eq, packed, dif_neg (by show ¬ 128 * (28 % 29) + 1 * (y 1).val < 3584; omega)]
    refine congrArg _ ?_
    funext a; fin_cases a
    · exact Fin.ext (by show (y 0).val = 0 + 1 * (y 0).val; omega)
    · exact Fin.ext (by show (y 1).val = 128 * (28 % 29) + 1 * (y 1).val - 3584; omega)
  · obtain ⟨t, -, rfl⟩ := List.mem_map.mp hp
    intro y
    have ht : t.val < 28 := t.isLt
    have h0 : (y 0).val < 1024 := (y 0).isLt
    have h1 : (y 1).val < 128 := (y 1).isLt
    show columnsBlk (F := Ideal) (loadSource arg4 harg4 x2 t.val) y = _
    have ey : y = ix2 (⟨(y 0).val, h0⟩ : Fin 1024) (⟨(y 1).val, h1⟩ : Fin 128) := by
      funext a; fin_cases a <;> rfl
    rw [ey, columnsBlk_apply, loadSource_apply, packed, dif_pos (by show 128 * (t.val % 29) + 1 * (y 1).val < 3584; omega)]
    refine congrArg _ ?_
    funext a; fin_cases a
    · rfl
    · refine Fin.ext ?_
      show 128 * (t.val % 28) + 8 * (t.val % 28 / 16) + (y 1).val
        = 128 * (t.val % 29) + 1 * (y 1).val + (if 128 * (t.val % 29) + 1 * (y 1).val < 2048 then 0 else 8)
      split <;> omega
    · exact Fin.ext (by show (y 0).val = 0 + 1 * (y 0).val; omega)
end

section
variable (x0 : Vec Ideal S1x1024x1024 .f32) (x1 : Vec Ideal S1x1024 .f32) (W : Vec Ideal S1024x3712 .bf16)
  (x5 x6 x7 : Vec Ideal S1024x128 .f32)

/-- A normed row of the staged block. -/
def rowOf (r : Fin 1024) : Fin 1024 → EReal := rmsNorm (fun c => x0 (ix3 0 r c)) (fun c => x1 (ix2 0 c))

/-- 512 packed columns, from column `256 j` on. -/
def colsOf (j : ℕ) (h : j < 13) (c : Fin 1024) (e : Fin 512) : EReal := W (ix2 c ⟨256 * j + e.val, by omega⟩)

/-- The projection of a row of the staged block on 512 packed columns. -/
def projOf (j : ℕ) (h : j < 13) (r : Fin 1024) : Fin 512 → EReal := times (rowOf x0 x1 r) (colsOf W j h)

/-- A block of projected rows. -/
def plainOf (j : ℕ) (h : j < 13) : Vec Ideal S1x1024x512 .bf16 := fun y => projOf x0 x1 W j h (y 1) (y 2)

/-- A projected row's heads turned by the rows of three tables. -/
def turnedOf (j : ℕ) (h : j < 13) (r : Fin 1024) (e : Fin 512) : EReal :=
  turn (fun d => x5 (ix2 r d)) (fun d => x6 (ix2 r d)) (fun d => x7 (ix2 r d)) (head (projOf x0 x1 W j h r) ⟨e.val / 128, by omega⟩)
    ⟨e.val % 128, by omega⟩

/-- A block of keys. -/
def keyOf : Vec Ideal S1x1024x512 .bf16 := fun y => turnedOf x0 x1 W x5 x6 x7 10 (by omega) (y 1) (y 2)

/-- A block of queries. -/
def queryOf : Vec Ideal S1x1024x512 .bf16 := fun y =>
  (turnedOf x0 x1 W x5 x6 x7 8 (by omega) (y 1) (y 2) * Ideal.ofBits .f32 0x3E0293EE#32 : EReal)

variable (u : ℕ → FVec Ideal S128x1024 .bf16) (w : ℕ → Vec Ideal S1024x256 .bf16) (cT aT bT : ℕ → Vec Ideal S128x128 .f32)
  (hu : ∀ (p : ℕ) (r : Fin 128) (e : Fin 1024), u p (ix2 r e) = rowOf x0 x1 ⟨128 * (p % 8) + r.val, by omega⟩ e)
  (hw : ∀ (j : ℕ) (c : Fin 1024) (e : Fin 256), w j (ix2 c e) = W (ix2 c ⟨256 * (j % 14) + e.val, by omega⟩))

include hu hw in
/-- A product of a part, at an index: one column of the projection. -/
theorem prod_eq (p k j : ℕ) (hj : j < 13) (hk : k < 2) (r : Fin 128) (e : Fin 256) :
    prodBlk (F := Ideal) (u p) (w (j + k)) (ix2 r e)
      = projOf x0 x1 W j hj ⟨128 * (p % 8) + r.val, by omega⟩ ⟨256 * k + e.val, by omega⟩ := by
  rw [prodBlk_apply]
  unfold projOf times
  refine Finset.sum_congr rfl fun c _ => ?_
  show (u p (ix2 r c) * w (j + k) (ix2 c e) : EReal) = rowOf x0 x1 _ c * W _
  rw [hu, hw]
  refine congrArg _ (congrArg _ ?_)
  funext a; fin_cases a
  · rfl
  · exact Fin.ext (by show 256 * ((j + k) % 14) + e.val = 256 * j + (256 * k + e.val); omega)

include hu hw in
/-- Every store of an output left as projected stores there the value named above. -/
theorem plainPieces_apply (j : ℕ) (hj : j < 13) :
    ∀ p ∈ plainPieces (F := Ideal) u w j, ∀ y, p.2 y = plainOf x0 x1 W j hj (p.1.emb y) := by
  intro p hp
  obtain ⟨t, -, rfl⟩ := List.mem_map.mp hp
  intro y
  have ht : t.val < 16 := t.isLt
  have h0 : (y 0).val < 1 := (y 0).isLt
  have h1 : (y 1).val < 128 := (y 1).isLt
  have h2 : (y 2).val < 256 := (y 2).isLt
  show plainBlk (F := Ideal) (u (t.val / 2)) (w (j + t.val % 2)) y = _
  have ey : y = ix3 (0 : Fin 1) (⟨(y 1).val, h1⟩ : Fin 128) (⟨(y 2).val, h2⟩ : Fin 256) := by
    funext a; fin_cases a
    · exact Fin.ext (by show (y 0).val = 0; omega)
    · rfl
    · rfl
  rw [ey, plainBlk_apply, prod_eq x0 x1 W u w hu hw _ _ j hj (by omega), plainOf]
  refine congr (congrArg _ ?_) ?_
  · exact Fin.ext (by show 128 * (t.val / 2 % 8) + (y 1).val = 128 * (t.val / 2 % 8) + 1 * (y 1).val; omega)
  · exact Fin.ext (by show 256 * (t.val % 2) + (y 2).val = 256 * (t.val % 2 % 2) + 1 * (y 2).val; omega)

variable (hc : ∀ (p : ℕ) (r d : Fin 128), cT p (ix2 r d) = x5 (ix2 ⟨128 * (p % 8) + r.val, by omega⟩ d))
  (ha : ∀ (p : ℕ) (r d : Fin 128), aT p (ix2 r d) = x6 (ix2 ⟨128 * (p % 8) + r.val, by omega⟩ d))
  (hb : ∀ (p : ℕ) (r d : Fin 128), bT p (ix2 r d) = x7 (ix2 ⟨128 * (p % 8) + r.val, by omega⟩ d))

include hu hw hc ha hb in
/-- A turned head of a part, at an index. -/
theorem turned_eq (p n j : ℕ) (hj : j < 13) (hn : n < 4) (r d : Fin 128) :
    turnBlk (F := Ideal) (headBlk (prodBlk (u p) (w (j + n / 2))) n) (cT p) (aT p) (bT p) (ix2 r d)
      = turnedOf x0 x1 W x5 x6 x7 j hj ⟨128 * (p % 8) + r.val, by omega⟩ ⟨128 * n + d.val, by omega⟩ := by
  rw [turnBlk_apply]
  unfold turnedOf
  have e : (fun d : Fin 128 => headBlk (F := Ideal) (prodBlk (u p) (w (j + n / 2))) n (ix2 r d))
      = head (projOf x0 x1 W j hj ⟨128 * (p % 8) + r.val, by omega⟩) ⟨(128 * n + d.val) / 128, by omega⟩ := funext fun d' => by
    rw [headBlk_apply, prod_eq x0 x1 W u w hu hw p (n / 2) j hj (by omega), head]
    refine congrArg _ (Fin.ext ?_)
    show 256 * (n / 2) + (128 * (n % 2) + d'.val) = 128 * ((128 * n + d.val) / 128) + d'.val
    omega
  have ed : d = (⟨(128 * n + d.val) % 128, by omega⟩ : Fin 128) := Fin.ext (by show d.val = (128 * n + d.val) % 128; omega)
  rw [e, show (fun d : Fin 128 => cT p (ix2 r d)) = _ from funext (hc p r), show (fun d : Fin 128 => aT p (ix2 r d)) = _ from funext (ha p r),
    show (fun d : Fin 128 => bT p (ix2 r d)) = _ from funext (hb p r)]
  exact congrArg _ ed

include hu hw hc ha hb in
/-- Every store of the keys stores there the value named above. -/
theorem keyPieces_apply : ∀ p ∈ keyPieces (F := Ideal) u w cT aT bT, ∀ y, p.2 y = keyOf x0 x1 W x5 x6 x7 (p.1.emb y) := by
  intro p hp
  obtain ⟨t, -, rfl⟩ := List.mem_map.mp hp
  intro y
  have ht : t.val < 32 := t.isLt
  have h0 : (y 0).val < 1 := (y 0).isLt
  have h1 : (y 1).val < 128 := (y 1).isLt
  have h2 : (y 2).val < 128 := (y 2).isLt
  show keyBlk (F := Ideal) (u (t.val / 4)) (w (10 + t.val % 4 / 2)) (t.val % 4) (cT (t.val / 4)) (aT (t.val / 4)) (bT (t.val / 4)) y = _
  have ey : y = ix3 (0 : Fin 1) (⟨(y 1).val, h1⟩ : Fin 128) (⟨(y 2).val, h2⟩ : Fin 128) := by
    funext a; fin_cases a
    · exact Fin.ext (by show (y 0).val = 0; omega)
    · rfl
    · rfl
  rw [ey, keyBlk_apply, turned_eq x0 x1 W x5 x6 x7 u w cT aT bT hu hw hc ha hb _ _ 10 (by omega) (by omega), keyOf]
  refine congr (congrArg _ ?_) ?_
  · exact Fin.ext (by show 128 * (t.val / 4 % 8) + (y 1).val = 128 * (t.val / 4 % 8) + 1 * (y 1).val; omega)
  · exact Fin.ext (by show 128 * (t.val % 4) + (y 2).val = 128 * (t.val % 4 % 4) + 1 * (y 2).val; omega)

include hu hw hc ha hb in
/-- Every store of the queries stores there the value named above. -/
theorem queryPieces_apply : ∀ p ∈ queryPieces (F := Ideal) u w cT aT bT, ∀ y, p.2 y = queryOf x0 x1 W x5 x6 x7 (p.1.emb y) := by
  intro p hp
  obtain ⟨t, -, rfl⟩ := List.mem_map.mp hp
  intro y
  have ht : t.val < 32 := t.isLt
  have h0 : (y 0).val < 1 := (y 0).isLt
  have h1 : (y 1).val < 128 := (y 1).isLt
  have h2 : (y 2).val < 128 := (y 2).isLt
  show queryBlk (F := Ideal) (u (t.val / 4)) (w (8 + t.val % 4 / 2)) (t.val % 4) (cT (t.val / 4)) (aT (t.val / 4)) (bT (t.val / 4)) y = _
  have ey : y = ix3 (0 : Fin 1) (⟨(y 1).val, h1⟩ : Fin 128) (⟨(y 2).val, h2⟩ : Fin 128) := by
    funext a; fin_cases a
    · exact Fin.ext (by show (y 0).val = 0; omega)
    · rfl
    · rfl
  rw [ey, queryBlk_apply, turned_eq x0 x1 W x5 x6 x7 u w cT aT bT hu hw hc ha hb _ _ 8 (by omega) (by omega), queryOf]
  refine congrArg (fun z : EReal => z * Ideal.ofBits .f32 0x3E0293EE#32) (congr (congrArg _ ?_) ?_)
  · exact Fin.ext (by show 128 * (t.val / 4 % 8) + (y 1).val = 128 * (t.val / 4 % 8) + 1 * (y 1).val; omega)
  · exact Fin.ext (by show 128 * (t.val % 4) + (y 2).val = 128 * (t.val % 4 % 4) + 1 * (y 2).val; omega)
end

end Cert.Kernel3Ideal.Inproj

end
-- ==== Proof.Inproj.PiecesA.lean ====
/- The pieces the input projection's body stores at the first grid point, which packs the weights. -/
module

public import proofs.«01_k».proof.Proof.Inproj.Body

@[expose] public section

noncomputable section

namespace Cert.Kernel3Ideal.Inproj

open Cert.Kernel3Ideal Cert.Kernel3Ideal.Gen Idealize.ShloMosaic Idealize.ShloMosaic.TcCoe

variable {F : FTy → Type} [FloatOps F]

section
variable (c : Dev nD) (i : grid0.Coords) (arg2 : Memref sig .tc .vmem S1x1024x1024 .f32) (harg2 : arg2.IsWhole)
  (arg3 : Memref sig .tc .vmem S1x1024 .f32) (harg3 : arg3.IsWhole) (arg4 : Memref sig .tc .vmem S1x3592x1024 .f32) (harg4 : arg4.IsWhole)
  (arg5 : Memref sig .tc .vmem S4x1536 .f32) (harg5 : arg5.IsWhole) (arg6 : Memref sig .tc .vmem S2x128 .f32) (harg6 : arg6.IsWhole)
  (arg7 : Memref sig .tc .vmem S1024x128 .f32) (harg7 : arg7.IsWhole) (arg8 : Memref sig .tc .vmem S1024x128 .f32) (harg8 : arg8.IsWhole)
  (arg9 : Memref sig .tc .vmem S1024x128 .f32) (harg9 : arg9.IsWhole) (arg10 : Memref sig .tc .vmem S1x1024x512 .bf16)
  (harg10 : arg10.IsWhole) (arg11 : Memref sig .tc .vmem S1x1024x512 .bf16) (harg11 : arg11.IsWhole)
  (arg12 : Memref sig .tc .vmem S1x1024x512 .bf16) (harg12 : arg12.IsWhole) (arg13 : Memref sig .tc .vmem S1x1024x512 .bf16)
  (harg13 : arg13.IsWhole) (arg14 : Memref sig .tc .vmem S1x1024x128 .f32) (harg14 : arg14.IsWhole)
  (arg15 : Memref sig .tc .vmem S1x1024x512 .bf16) (harg15 : arg15.IsWhole) (arg16 : Memref sig .tc .vmem S1x1024x512 .bf16)
  (harg16 : arg16.IsWhole) (arg17 : Memref sig .tc .vmem S1x1024x512 .bf16) (harg17 : arg17.IsWhole)
  (arg18 : Memref sig .tc .vmem S8x1536 .f32) (harg18 : arg18.IsWhole) (arg19 : Memref sig .tc .vmem S1024x3712 .bf16)
  (harg19 : arg19.IsWhole) (hc0 : cond0_0 i) (hc1 : cond0_1 i) (x0 : Vec F S1x1024x1024 .f32) (x1 : Vec F S1x1024 .f32)
  (x2 : Vec F S1x3592x1024 .f32) (x3 : Vec F S4x1536 .f32) (x4 : Vec F S2x128 .f32) (x5 : Vec F S1024x128 .f32) (x6 : Vec F S1024x128 .f32)
  (x7 : Vec F S1024x128 .f32)

/-- The packed columns from `256 j` on, as the body loads them at the grid point that packs them. -/
def freshPair (j : ℕ) : Vec F S1024x256 .bf16 :=
  arg19.view.readCov
    (kernelRun0_A c i arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 hc0 hc1 x0 x1 x2 x3 x4 x5 x6 x7).2.2.2.2.2.2.2.2.2.1 (pairRect j).toLoadRect

set_option maxHeartbeats 0 in
set_option maxRecDepth 100000 in
/-- The stores of the packed weights. -/
theorem pack_A :
    (kernelRun0_A c i arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 hc0 hc1 x0 x1 x2 x3 x4 x5 x6 x7).2.2.2.2.2.2.2.2.2.1
      = packPieces (loadSource arg4 harg4 x2) (loadGates arg4 harg4 x2) := by
  sl_kernel_rfl

set_option maxHeartbeats 0 in
set_option maxRecDepth 100000 in
/-- The stores of the gate. -/
theorem gz_A :
    (kernelRun0_A c i arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 hc0 hc1 x0 x1 x2 x3 x4 x5 x6 x7).2.2.2.1
      = plainPieces (loadNormed arg2 harg2 arg3 harg3 x0 x1) (freshPair c i arg2 harg2 arg3 harg3 arg4 harg4 arg5 harg5 arg6 harg6 arg7 harg7
      arg8 harg8 arg9 harg9 arg10 harg10 arg11 harg11 arg12 harg12 arg13 harg13 arg14 harg14 arg15 harg15 arg16 harg16 arg17 harg17 arg18
      harg18 arg19 harg19 hc0 hc1 x0 x1 x2 x3 x4 x5 x6 x7) 6 := by
  sl_kernel_rfl

set_option maxHeartbeats 0 in
set_option maxRecDepth 100000 in
/-- The stores of the queries. -/
theorem mq_A :
    (kernelRun0_A c i arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 hc0 hc1 x0 x1 x2 x3 x4 x5 x6 x7).2.2.2.2.2.1
      = queryPieces (loadNormed arg2 harg2 arg3 harg3 x0 x1) (freshPair c i arg2 harg2 arg3 harg3 arg4 harg4 arg5 harg5 arg6 harg6 arg7 harg7
      arg8 harg8 arg9 harg9 arg10 harg10 arg11 harg11 arg12 harg12 arg13 harg13 arg14 harg14 arg15 harg15 arg16 harg16 arg17 harg17 arg18
      harg18 arg19 harg19 hc0 hc1 x0 x1 x2 x3 x4 x5 x6 x7) (loadTable arg7 harg7 x5) (loadTable arg8 harg8 x6) (loadTable arg9 harg9 x7) := by
  sl_kernel_rfl

set_option maxHeartbeats 0 in
set_option maxRecDepth 100000 in
/-- The stores of the keys. -/
theorem mk_A :
    (kernelRun0_A c i arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 hc0 hc1 x0 x1 x2 x3 x4 x5 x6 x7).2.2.2.2.2.2.1
      = keyPieces (loadNormed arg2 harg2 arg3 harg3 x0 x1) (freshPair c i arg2 harg2 arg3 harg3 arg4 harg4 arg5 harg5 arg6 harg6 arg7 harg7
      arg8 harg8 arg9 harg9 arg10 harg10 arg11 harg11 arg12 harg12 arg13 harg13 arg14 harg14 arg15 harg15 arg16 harg16 arg17 harg17 arg18
      harg18 arg19 harg19 hc0 hc1 x0 x1 x2 x3 x4 x5 x6 x7) (loadTable arg7 harg7 x5) (loadTable arg8 harg8 x6) (loadTable arg9 harg9 x7) := by
  sl_kernel_rfl

set_option maxHeartbeats 0 in
set_option maxRecDepth 100000 in
/-- The stores of the values. -/
theorem mv_A :
    (kernelRun0_A c i arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 hc0 hc1 x0 x1 x2 x3 x4 x5 x6 x7).2.2.2.2.2.2.2.1
      = plainPieces (loadNormed arg2 harg2 arg3 harg3 x0 x1) (freshPair c i arg2 harg2 arg3 harg3 arg4 harg4 arg5 harg5 arg6 harg6 arg7 harg7
      arg8 harg8 arg9 harg9 arg10 harg10 arg11 harg11 arg12 harg12 arg13 harg13 arg14 harg14 arg15 harg15 arg16 harg16 arg17 harg17 arg18
      harg18 arg19 harg19 hc0 hc1 x0 x1 x2 x3 x4 x5 x6 x7) 12 := by
  sl_kernel_rfl
end

end Cert.Kernel3Ideal.Inproj

end
-- ==== Proof.Inproj.OutsA.lean ====
/- What the input projection's body leaves in each output block at the first grid point. -/
module

public import proofs.«01_k».proof.Proof.Inproj.Cells
public import proofs.«01_k».proof.Proof.Inproj.PiecesA

@[expose] public section

noncomputable section

namespace Cert.Kernel3Ideal.Inproj

open Cert.Kernel3Ideal Cert.Kernel3Ideal.Gen Idealize.ShloMosaic Idealize.ShloMosaic.TcCoe

section
variable (c : Dev nD) (i : grid0.Coords) (arg2 : Memref sig .tc .vmem S1x1024x1024 .f32) (harg2 : arg2.IsWhole)
  (arg3 : Memref sig .tc .vmem S1x1024 .f32) (harg3 : arg3.IsWhole) (arg4 : Memref sig .tc .vmem S1x3592x1024 .f32) (harg4 : arg4.IsWhole)
  (arg5 : Memref sig .tc .vmem S4x1536 .f32) (harg5 : arg5.IsWhole) (arg6 : Memref sig .tc .vmem S2x128 .f32) (harg6 : arg6.IsWhole)
  (arg7 : Memref sig .tc .vmem S1024x128 .f32) (harg7 : arg7.IsWhole) (arg8 : Memref sig .tc .vmem S1024x128 .f32) (harg8 : arg8.IsWhole)
  (arg9 : Memref sig .tc .vmem S1024x128 .f32) (harg9 : arg9.IsWhole) (arg10 : Memref sig .tc .vmem S1x1024x512 .bf16)
  (harg10 : arg10.IsWhole) (arg11 : Memref sig .tc .vmem S1x1024x512 .bf16) (harg11 : arg11.IsWhole)
  (arg12 : Memref sig .tc .vmem S1x1024x512 .bf16) (harg12 : arg12.IsWhole) (arg13 : Memref sig .tc .vmem S1x1024x512 .bf16)
  (harg13 : arg13.IsWhole) (arg14 : Memref sig .tc .vmem S1x1024x128 .f32) (harg14 : arg14.IsWhole)
  (arg15 : Memref sig .tc .vmem S1x1024x512 .bf16) (harg15 : arg15.IsWhole) (arg16 : Memref sig .tc .vmem S1x1024x512 .bf16)
  (harg16 : arg16.IsWhole) (arg17 : Memref sig .tc .vmem S1x1024x512 .bf16) (harg17 : arg17.IsWhole)
  (arg18 : Memref sig .tc .vmem S8x1536 .f32) (harg18 : arg18.IsWhole) (arg19 : Memref sig .tc .vmem S1024x3712 .bf16)
  (harg19 : arg19.IsWhole) (hc0 : cond0_0 i) (hc1 : cond0_1 i) (x0 : Vec Ideal S1x1024x1024 .f32) (x1 : Vec Ideal S1x1024 .f32)
  (x2 : Vec Ideal S1x3592x1024 .f32) (x3 : Vec Ideal S4x1536 .f32) (x4 : Vec Ideal S2x128 .f32) (x5 : Vec Ideal S1024x128 .f32)
  (x6 : Vec Ideal S1024x128 .f32) (x7 : Vec Ideal S1024x128 .f32)

/-- The packed weights' pieces, read back. -/
theorem packCanon_A :
    View.canon (kernelRun0_A (F := Ideal) c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7).2.2.2.2.2.2.2.2.2.1 = packed x2 :=
  canon_of _ _ (pack_A c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7) (packed x2) (packPieces_apply arg4 harg4 x2)
    (scover0_A_1 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7)

/-- The weights packed at the first grid point. -/
theorem weights_A :
    sout0_A_1 (F := Ideal) c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 = packed x2 :=
  (View.read_writes_eq_canon _ _ _ (scover0_A_1 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7)).trans
    (packCanon_A c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7)

/-- The packed columns as the first grid point loads them back. -/
theorem freshPair_apply (j : ℕ) (k : Fin 1024) (e : Fin 256) :
    freshPair (F := Ideal) c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 j (ix2 k e)
      = packed x2 (ix2 k ⟨256 * (j % 14) + e.val, by omega⟩) :=
  pair_of _ _ _ (packCanon_A c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7) j k e

/-- The gate left at the first grid point. -/
theorem gzOut_A :
    out0_A_11 (F := Ideal) c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 = plainOf x0 x1 (packed x2) 6 (by omega) :=
  (View.read_writes_eq_canon _ _ _ (cover0_A_11 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7)).trans
    (canon_of _ _ (gz_A c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7) _
    (plainPieces_apply x0 x1 (packed x2) _ _ (loadNormed_apply arg2 harg2 arg3 harg3 x0 x1)
    (freshPair_apply c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7) 6 (by omega))
    (cover0_A_11 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7))

/-- The queries left at the first grid point. -/
theorem mqOut_A :
    out0_A_13 (F := Ideal) c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 = queryOf x0 x1 (packed x2) x5 x6 x7 :=
  (View.read_writes_eq_canon _ _ _ (cover0_A_13 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7)).trans
    (canon_of _ _ (mq_A c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7) _
    (queryPieces_apply x0 x1 (packed x2) x5 x6 x7 _ _ _ _ _ (loadNormed_apply arg2 harg2 arg3 harg3 x0 x1)
    (freshPair_apply c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7)
    (loadTable_apply arg7 harg7 x5) (loadTable_apply arg8 harg8 x6) (loadTable_apply arg9 harg9 x7))
    (cover0_A_13 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7))

/-- The keys left at the first grid point. -/
theorem mkOut_A :
    out0_A_14 (F := Ideal) c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 = keyOf x0 x1 (packed x2) x5 x6 x7 :=
  (View.read_writes_eq_canon _ _ _ (cover0_A_14 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7)).trans
    (canon_of _ _ (mk_A c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7) _
    (keyPieces_apply x0 x1 (packed x2) x5 x6 x7 _ _ _ _ _ (loadNormed_apply arg2 harg2 arg3 harg3 x0 x1)
    (freshPair_apply c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7)
    (loadTable_apply arg7 harg7 x5) (loadTable_apply arg8 harg8 x6) (loadTable_apply arg9 harg9 x7))
    (cover0_A_14 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7))

/-- The values left at the first grid point. -/
theorem mvOut_A :
    out0_A_15 (F := Ideal) c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 = plainOf x0 x1 (packed x2) 12 (by omega) :=
  (View.read_writes_eq_canon _ _ _ (cover0_A_15 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7)).trans
    (canon_of _ _ (mv_A c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7) _
    (plainPieces_apply x0 x1 (packed x2) _ _ (loadNormed_apply arg2 harg2 arg3 harg3 x0 x1)
    (freshPair_apply c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7) 12 (by omega))
    (cover0_A_15 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7))

end

end Cert.Kernel3Ideal.Inproj

end
-- ==== Proof.Inproj.PiecesB.lean ====
/- The pieces the input projection's body stores at an odd grid point. -/
module

public import proofs.«01_k».proof.Proof.Inproj.Body

@[expose] public section

noncomputable section

namespace Cert.Kernel3Ideal.Inproj

open Cert.Kernel3Ideal Cert.Kernel3Ideal.Gen Idealize.ShloMosaic Idealize.ShloMosaic.TcCoe

variable {F : FTy → Type} [FloatOps F]

section
variable (c : Dev nD) (i : grid0.Coords) (arg2 : Memref sig .tc .vmem S1x1024x1024 .f32) (harg2 : arg2.IsWhole)
  (arg3 : Memref sig .tc .vmem S1x1024 .f32) (harg3 : arg3.IsWhole) (arg4 : Memref sig .tc .vmem S1x3592x1024 .f32) (harg4 : arg4.IsWhole)
  (arg5 : Memref sig .tc .vmem S4x1536 .f32) (harg5 : arg5.IsWhole) (arg6 : Memref sig .tc .vmem S2x128 .f32) (harg6 : arg6.IsWhole)
  (arg7 : Memref sig .tc .vmem S1024x128 .f32) (harg7 : arg7.IsWhole) (arg8 : Memref sig .tc .vmem S1024x128 .f32) (harg8 : arg8.IsWhole)
  (arg9 : Memref sig .tc .vmem S1024x128 .f32) (harg9 : arg9.IsWhole) (arg10 : Memref sig .tc .vmem S1x1024x512 .bf16)
  (harg10 : arg10.IsWhole) (arg11 : Memref sig .tc .vmem S1x1024x512 .bf16) (harg11 : arg11.IsWhole)
  (arg12 : Memref sig .tc .vmem S1x1024x512 .bf16) (harg12 : arg12.IsWhole) (arg13 : Memref sig .tc .vmem S1x1024x512 .bf16)
  (harg13 : arg13.IsWhole) (arg14 : Memref sig .tc .vmem S1x1024x128 .f32) (harg14 : arg14.IsWhole)
  (arg15 : Memref sig .tc .vmem S1x1024x512 .bf16) (harg15 : arg15.IsWhole) (arg16 : Memref sig .tc .vmem S1x1024x512 .bf16)
  (harg16 : arg16.IsWhole) (arg17 : Memref sig .tc .vmem S1x1024x512 .bf16) (harg17 : arg17.IsWhole)
  (arg18 : Memref sig .tc .vmem S8x1536 .f32) (harg18 : arg18.IsWhole) (arg19 : Memref sig .tc .vmem S1024x3712 .bf16)
  (harg19 : arg19.IsWhole) (hc0 : ¬cond0_0 i) (hc1 : ¬cond0_1 i) (x0 : Vec F S1x1024x1024 .f32) (x1 : Vec F S1x1024 .f32)
  (x2 : Vec F S1x3592x1024 .f32) (x3 : Vec F S4x1536 .f32) (x4 : Vec F S2x128 .f32) (x5 : Vec F S1024x128 .f32) (x6 : Vec F S1024x128 .f32)
  (x7 : Vec F S1024x128 .f32) (xs0 : Vec F S8x1536 .f32) (xs1 : Vec F S1024x3712 .bf16)

set_option maxHeartbeats 0 in
set_option maxRecDepth 100000 in
/-- The stores of the gate. -/
theorem gz_B :
    (kernelRun0_B c i arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 hc0 hc1 x0 x1 x2 x3 x4 x5 x6 x7 xs0
    xs1).2.2.2.1
      = plainPieces (loadNormed arg2 harg2 arg3 harg3 x0 x1) (loadPair arg19 harg19 xs1) 6 := by
  sl_kernel_rfl

set_option maxHeartbeats 0 in
set_option maxRecDepth 100000 in
/-- The stores of the queries. -/
theorem mq_B :
    (kernelRun0_B c i arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 hc0 hc1 x0 x1 x2 x3 x4 x5 x6 x7 xs0
    xs1).2.2.2.2.2.1
      = queryPieces (loadNormed arg2 harg2 arg3 harg3 x0 x1) (loadPair arg19 harg19 xs1) (loadTable arg7 harg7 x5) (loadTable arg8 harg8 x6)
      (loadTable arg9 harg9 x7) := by
  sl_kernel_rfl

set_option maxHeartbeats 0 in
set_option maxRecDepth 100000 in
/-- The stores of the keys. -/
theorem mk_B :
    (kernelRun0_B c i arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 hc0 hc1 x0 x1 x2 x3 x4 x5 x6 x7 xs0
    xs1).2.2.2.2.2.2.1
      = keyPieces (loadNormed arg2 harg2 arg3 harg3 x0 x1) (loadPair arg19 harg19 xs1) (loadTable arg7 harg7 x5) (loadTable arg8 harg8 x6)
      (loadTable arg9 harg9 x7) := by
  sl_kernel_rfl

set_option maxHeartbeats 0 in
set_option maxRecDepth 100000 in
/-- The stores of the values. -/
theorem mv_B :
    (kernelRun0_B c i arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 hc0 hc1 x0 x1 x2 x3 x4 x5 x6 x7 xs0
    xs1).2.2.2.2.2.2.2.1
      = plainPieces (loadNormed arg2 harg2 arg3 harg3 x0 x1) (loadPair arg19 harg19 xs1) 12 := by
  sl_kernel_rfl
end

end Cert.Kernel3Ideal.Inproj

end
-- ==== Proof.Inproj.OutsB.lean ====
/- What the input projection's body leaves in each output block at an odd grid point. -/
module

public import proofs.«01_k».proof.Proof.Inproj.Cells
public import proofs.«01_k».proof.Proof.Inproj.PiecesB

@[expose] public section

noncomputable section

namespace Cert.Kernel3Ideal.Inproj

open Cert.Kernel3Ideal Cert.Kernel3Ideal.Gen Idealize.ShloMosaic Idealize.ShloMosaic.TcCoe

section
variable (c : Dev nD) (i : grid0.Coords) (arg2 : Memref sig .tc .vmem S1x1024x1024 .f32) (harg2 : arg2.IsWhole)
  (arg3 : Memref sig .tc .vmem S1x1024 .f32) (harg3 : arg3.IsWhole) (arg4 : Memref sig .tc .vmem S1x3592x1024 .f32) (harg4 : arg4.IsWhole)
  (arg5 : Memref sig .tc .vmem S4x1536 .f32) (harg5 : arg5.IsWhole) (arg6 : Memref sig .tc .vmem S2x128 .f32) (harg6 : arg6.IsWhole)
  (arg7 : Memref sig .tc .vmem S1024x128 .f32) (harg7 : arg7.IsWhole) (arg8 : Memref sig .tc .vmem S1024x128 .f32) (harg8 : arg8.IsWhole)
  (arg9 : Memref sig .tc .vmem S1024x128 .f32) (harg9 : arg9.IsWhole) (arg10 : Memref sig .tc .vmem S1x1024x512 .bf16)
  (harg10 : arg10.IsWhole) (arg11 : Memref sig .tc .vmem S1x1024x512 .bf16) (harg11 : arg11.IsWhole)
  (arg12 : Memref sig .tc .vmem S1x1024x512 .bf16) (harg12 : arg12.IsWhole) (arg13 : Memref sig .tc .vmem S1x1024x512 .bf16)
  (harg13 : arg13.IsWhole) (arg14 : Memref sig .tc .vmem S1x1024x128 .f32) (harg14 : arg14.IsWhole)
  (arg15 : Memref sig .tc .vmem S1x1024x512 .bf16) (harg15 : arg15.IsWhole) (arg16 : Memref sig .tc .vmem S1x1024x512 .bf16)
  (harg16 : arg16.IsWhole) (arg17 : Memref sig .tc .vmem S1x1024x512 .bf16) (harg17 : arg17.IsWhole)
  (arg18 : Memref sig .tc .vmem S8x1536 .f32) (harg18 : arg18.IsWhole) (arg19 : Memref sig .tc .vmem S1024x3712 .bf16)
  (harg19 : arg19.IsWhole) (hc0 : ¬cond0_0 i) (hc1 : ¬cond0_1 i) (x0 : Vec Ideal S1x1024x1024 .f32) (x1 : Vec Ideal S1x1024 .f32)
  (x2 : Vec Ideal S1x3592x1024 .f32) (x3 : Vec Ideal S4x1536 .f32) (x4 : Vec Ideal S2x128 .f32) (x5 : Vec Ideal S1024x128 .f32)
  (x6 : Vec Ideal S1024x128 .f32) (x7 : Vec Ideal S1024x128 .f32) (xs0 : Vec Ideal S8x1536 .f32) (xs1 : Vec Ideal S1024x3712 .bf16)

/-- The gate left at an odd grid point. -/
theorem gzOut_B :
    out0_B_11 (F := Ideal) c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs0 xs1 = plainOf x0 x1 xs1 6 (by omega) :=
  (View.read_writes_eq_canon _ _ _ (cover0_B_11 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs0 xs1)).trans
    (canon_of _ _ (gz_B c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs0 xs1) _
    (plainPieces_apply x0 x1 xs1 _ _ (loadNormed_apply arg2 harg2 arg3 harg3 x0 x1)
    (loadPair_apply arg19 harg19 xs1) 6 (by omega))
    (cover0_B_11 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs0 xs1))

/-- The queries left at an odd grid point. -/
theorem mqOut_B :
    out0_B_13 (F := Ideal) c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs0 xs1 = queryOf x0 x1 xs1 x5 x6 x7 :=
  (View.read_writes_eq_canon _ _ _ (cover0_B_13 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs0 xs1)).trans
    (canon_of _ _ (mq_B c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs0 xs1) _
    (queryPieces_apply x0 x1 xs1 x5 x6 x7 _ _ _ _ _ (loadNormed_apply arg2 harg2 arg3 harg3 x0 x1)
    (loadPair_apply arg19 harg19 xs1)
    (loadTable_apply arg7 harg7 x5) (loadTable_apply arg8 harg8 x6) (loadTable_apply arg9 harg9 x7))
    (cover0_B_13 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs0 xs1))

/-- The keys left at an odd grid point. -/
theorem mkOut_B :
    out0_B_14 (F := Ideal) c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs0 xs1 = keyOf x0 x1 xs1 x5 x6 x7 :=
  (View.read_writes_eq_canon _ _ _ (cover0_B_14 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs0 xs1)).trans
    (canon_of _ _ (mk_B c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs0 xs1) _
    (keyPieces_apply x0 x1 xs1 x5 x6 x7 _ _ _ _ _ (loadNormed_apply arg2 harg2 arg3 harg3 x0 x1)
    (loadPair_apply arg19 harg19 xs1)
    (loadTable_apply arg7 harg7 x5) (loadTable_apply arg8 harg8 x6) (loadTable_apply arg9 harg9 x7))
    (cover0_B_14 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs0 xs1))

/-- The values left at an odd grid point. -/
theorem mvOut_B :
    out0_B_15 (F := Ideal) c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs0 xs1 = plainOf x0 x1 xs1 12 (by omega) :=
  (View.read_writes_eq_canon _ _ _ (cover0_B_15 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs0 xs1)).trans
    (canon_of _ _ (mv_B c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs0 xs1) _
    (plainPieces_apply x0 x1 xs1 _ _ (loadNormed_apply arg2 harg2 arg3 harg3 x0 x1)
    (loadPair_apply arg19 harg19 xs1) 12 (by omega))
    (cover0_B_15 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs0 xs1))

end

end Cert.Kernel3Ideal.Inproj

end
-- ==== Proof.Inproj.PiecesC.lean ====
/- The pieces the input projection's body stores at an even grid point after the first. -/
module

public import proofs.«01_k».proof.Proof.Inproj.Body

@[expose] public section

noncomputable section

namespace Cert.Kernel3Ideal.Inproj

open Cert.Kernel3Ideal Cert.Kernel3Ideal.Gen Idealize.ShloMosaic Idealize.ShloMosaic.TcCoe

variable {F : FTy → Type} [FloatOps F]

section
variable (c : Dev nD) (i : grid0.Coords) (arg2 : Memref sig .tc .vmem S1x1024x1024 .f32) (harg2 : arg2.IsWhole)
  (arg3 : Memref sig .tc .vmem S1x1024 .f32) (harg3 : arg3.IsWhole) (arg4 : Memref sig .tc .vmem S1x3592x1024 .f32) (harg4 : arg4.IsWhole)
  (arg5 : Memref sig .tc .vmem S4x1536 .f32) (harg5 : arg5.IsWhole) (arg6 : Memref sig .tc .vmem S2x128 .f32) (harg6 : arg6.IsWhole)
  (arg7 : Memref sig .tc .vmem S1024x128 .f32) (harg7 : arg7.IsWhole) (arg8 : Memref sig .tc .vmem S1024x128 .f32) (harg8 : arg8.IsWhole)
  (arg9 : Memref sig .tc .vmem S1024x128 .f32) (harg9 : arg9.IsWhole) (arg10 : Memref sig .tc .vmem S1x1024x512 .bf16)
  (harg10 : arg10.IsWhole) (arg11 : Memref sig .tc .vmem S1x1024x512 .bf16) (harg11 : arg11.IsWhole)
  (arg12 : Memref sig .tc .vmem S1x1024x512 .bf16) (harg12 : arg12.IsWhole) (arg13 : Memref sig .tc .vmem S1x1024x512 .bf16)
  (harg13 : arg13.IsWhole) (arg14 : Memref sig .tc .vmem S1x1024x128 .f32) (harg14 : arg14.IsWhole)
  (arg15 : Memref sig .tc .vmem S1x1024x512 .bf16) (harg15 : arg15.IsWhole) (arg16 : Memref sig .tc .vmem S1x1024x512 .bf16)
  (harg16 : arg16.IsWhole) (arg17 : Memref sig .tc .vmem S1x1024x512 .bf16) (harg17 : arg17.IsWhole)
  (arg18 : Memref sig .tc .vmem S8x1536 .f32) (harg18 : arg18.IsWhole) (arg19 : Memref sig .tc .vmem S1024x3712 .bf16)
  (harg19 : arg19.IsWhole) (hc0 : ¬cond0_0 i) (hc1 : cond0_1 i) (x0 : Vec F S1x1024x1024 .f32) (x1 : Vec F S1x1024 .f32)
  (x2 : Vec F S1x3592x1024 .f32) (x3 : Vec F S4x1536 .f32) (x4 : Vec F S2x128 .f32) (x5 : Vec F S1024x128 .f32) (x6 : Vec F S1024x128 .f32)
  (x7 : Vec F S1024x128 .f32) (xs1 : Vec F S1024x3712 .bf16)

set_option maxHeartbeats 0 in
set_option maxRecDepth 100000 in
/-- The stores of the gate. -/
theorem gz_C :
    (kernelRun0_C c i arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 hc0 hc1 x0 x1 x2 x3 x4 x5 x6 x7 xs1).2.2.2.1
      = plainPieces (loadNormed arg2 harg2 arg3 harg3 x0 x1) (loadPair arg19 harg19 xs1) 6 := by
  sl_kernel_rfl

set_option maxHeartbeats 0 in
set_option maxRecDepth 100000 in
/-- The stores of the queries. -/
theorem mq_C :
    (kernelRun0_C c i arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 hc0 hc1 x0 x1 x2 x3 x4 x5 x6 x7 xs1).2.2.2.2.2.1
      = queryPieces (loadNormed arg2 harg2 arg3 harg3 x0 x1) (loadPair arg19 harg19 xs1) (loadTable arg7 harg7 x5) (loadTable arg8 harg8 x6)
      (loadTable arg9 harg9 x7) := by
  sl_kernel_rfl

set_option maxHeartbeats 0 in
set_option maxRecDepth 100000 in
/-- The stores of the keys. -/
theorem mk_C :
    (kernelRun0_C c i arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 hc0 hc1 x0 x1 x2 x3 x4 x5 x6 x7 xs1).2.2.2.2.2.2.1
      = keyPieces (loadNormed arg2 harg2 arg3 harg3 x0 x1) (loadPair arg19 harg19 xs1) (loadTable arg7 harg7 x5) (loadTable arg8 harg8 x6)
      (loadTable arg9 harg9 x7) := by
  sl_kernel_rfl

set_option maxHeartbeats 0 in
set_option maxRecDepth 100000 in
/-- The stores of the values. -/
theorem mv_C :
    (kernelRun0_C c i arg2 harg2 arg3 harg3 arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 hc0 hc1 x0 x1 x2 x3 x4 x5 x6 x7 xs1).2.2.2.2.2.2.2.1
      = plainPieces (loadNormed arg2 harg2 arg3 harg3 x0 x1) (loadPair arg19 harg19 xs1) 12 := by
  sl_kernel_rfl
end

end Cert.Kernel3Ideal.Inproj

end
-- ==== Proof.Inproj.OutsC.lean ====
/- What the input projection's body leaves in each output block at an even grid point after the first. -/
module

public import proofs.«01_k».proof.Proof.Inproj.Cells
public import proofs.«01_k».proof.Proof.Inproj.PiecesC

@[expose] public section

noncomputable section

namespace Cert.Kernel3Ideal.Inproj

open Cert.Kernel3Ideal Cert.Kernel3Ideal.Gen Idealize.ShloMosaic Idealize.ShloMosaic.TcCoe

section
variable (c : Dev nD) (i : grid0.Coords) (arg2 : Memref sig .tc .vmem S1x1024x1024 .f32) (harg2 : arg2.IsWhole)
  (arg3 : Memref sig .tc .vmem S1x1024 .f32) (harg3 : arg3.IsWhole) (arg4 : Memref sig .tc .vmem S1x3592x1024 .f32) (harg4 : arg4.IsWhole)
  (arg5 : Memref sig .tc .vmem S4x1536 .f32) (harg5 : arg5.IsWhole) (arg6 : Memref sig .tc .vmem S2x128 .f32) (harg6 : arg6.IsWhole)
  (arg7 : Memref sig .tc .vmem S1024x128 .f32) (harg7 : arg7.IsWhole) (arg8 : Memref sig .tc .vmem S1024x128 .f32) (harg8 : arg8.IsWhole)
  (arg9 : Memref sig .tc .vmem S1024x128 .f32) (harg9 : arg9.IsWhole) (arg10 : Memref sig .tc .vmem S1x1024x512 .bf16)
  (harg10 : arg10.IsWhole) (arg11 : Memref sig .tc .vmem S1x1024x512 .bf16) (harg11 : arg11.IsWhole)
  (arg12 : Memref sig .tc .vmem S1x1024x512 .bf16) (harg12 : arg12.IsWhole) (arg13 : Memref sig .tc .vmem S1x1024x512 .bf16)
  (harg13 : arg13.IsWhole) (arg14 : Memref sig .tc .vmem S1x1024x128 .f32) (harg14 : arg14.IsWhole)
  (arg15 : Memref sig .tc .vmem S1x1024x512 .bf16) (harg15 : arg15.IsWhole) (arg16 : Memref sig .tc .vmem S1x1024x512 .bf16)
  (harg16 : arg16.IsWhole) (arg17 : Memref sig .tc .vmem S1x1024x512 .bf16) (harg17 : arg17.IsWhole)
  (arg18 : Memref sig .tc .vmem S8x1536 .f32) (harg18 : arg18.IsWhole) (arg19 : Memref sig .tc .vmem S1024x3712 .bf16)
  (harg19 : arg19.IsWhole) (hc0 : ¬cond0_0 i) (hc1 : cond0_1 i) (x0 : Vec Ideal S1x1024x1024 .f32) (x1 : Vec Ideal S1x1024 .f32)
  (x2 : Vec Ideal S1x3592x1024 .f32) (x3 : Vec Ideal S4x1536 .f32) (x4 : Vec Ideal S2x128 .f32) (x5 : Vec Ideal S1024x128 .f32)
  (x6 : Vec Ideal S1024x128 .f32) (x7 : Vec Ideal S1024x128 .f32) (xs1 : Vec Ideal S1024x3712 .bf16)

/-- The gate left at an even grid point after the first. -/
theorem gzOut_C :
    out0_C_11 (F := Ideal) c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs1 = plainOf x0 x1 xs1 6 (by omega) :=
  (View.read_writes_eq_canon _ _ _ (cover0_C_11 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs1)).trans
    (canon_of _ _ (gz_C c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs1) _
    (plainPieces_apply x0 x1 xs1 _ _ (loadNormed_apply arg2 harg2 arg3 harg3 x0 x1)
    (loadPair_apply arg19 harg19 xs1) 6 (by omega))
    (cover0_C_11 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs1))

/-- The queries left at an even grid point after the first. -/
theorem mqOut_C :
    out0_C_13 (F := Ideal) c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs1 = queryOf x0 x1 xs1 x5 x6 x7 :=
  (View.read_writes_eq_canon _ _ _ (cover0_C_13 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs1)).trans
    (canon_of _ _ (mq_C c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs1) _
    (queryPieces_apply x0 x1 xs1 x5 x6 x7 _ _ _ _ _ (loadNormed_apply arg2 harg2 arg3 harg3 x0 x1)
    (loadPair_apply arg19 harg19 xs1)
    (loadTable_apply arg7 harg7 x5) (loadTable_apply arg8 harg8 x6) (loadTable_apply arg9 harg9 x7))
    (cover0_C_13 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs1))

/-- The keys left at an even grid point after the first. -/
theorem mkOut_C :
    out0_C_14 (F := Ideal) c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs1 = keyOf x0 x1 xs1 x5 x6 x7 :=
  (View.read_writes_eq_canon _ _ _ (cover0_C_14 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs1)).trans
    (canon_of _ _ (mk_C c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs1) _
    (keyPieces_apply x0 x1 xs1 x5 x6 x7 _ _ _ _ _ (loadNormed_apply arg2 harg2 arg3 harg3 x0 x1)
    (loadPair_apply arg19 harg19 xs1)
    (loadTable_apply arg7 harg7 x5) (loadTable_apply arg8 harg8 x6) (loadTable_apply arg9 harg9 x7))
    (cover0_C_14 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs1))

/-- The values left at an even grid point after the first. -/
theorem mvOut_C :
    out0_C_15 (F := Ideal) c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs1 = plainOf x0 x1 xs1 12 (by omega) :=
  (View.read_writes_eq_canon _ _ _ (cover0_C_15 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs1)).trans
    (canon_of _ _ (mv_C c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs1) _
    (plainPieces_apply x0 x1 xs1 _ _ (loadNormed_apply arg2 harg2 arg3 harg3 x0 x1)
    (loadPair_apply arg19 harg19 xs1) 12 (by omega))
    (cover0_C_15 c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 hc0 hc1 x0 x1 x2 x3 x4 x5 x6 x7 xs1))

end

end Cert.Kernel3Ideal.Inproj

end
-- ==== Proof.Inproj.Arrays.lean ====
/- The arrays the input projection's kernel leaves, element by element, from its arguments. -/
module

public import proofs.«01_k».proof.Proof.Inproj.OutsA
public import proofs.«01_k».proof.Proof.Inproj.OutsB
public import proofs.«01_k».proof.Proof.Inproj.OutsC
public import Idealize.ShloMosaic.Lib.Pipeline.ValueKit
public import Idealize.ShloMosaic.Lib.StableHlo.ReadAt

@[expose] public section

set_option maxRecDepth 16384

noncomputable section

namespace Cert.Kernel3Ideal.Inproj

open Cert.Kernel3Ideal Cert.Kernel3Ideal.Gen Idealize.ShloMosaic Idealize.ShloMosaic.TcCoe Idealize.SL.Sem Cert.Mlp Cert.Inproj
open Idealize.ShloMosaic.Pipeline (Dat)

/-- The block of tokens the windows of tokens stage at each grid point: half a batch. -/
theorem idx : ∀ t : Fin cfg0.N, win0_0.index t = ![t.val / 2, t.val % 2, 0] ∧ win0_5.index t = ![t.val % 2, 0] ∧
    win0_6.index t = ![t.val % 2, 0] ∧ win0_7.index t = ![t.val % 2, 0] ∧ win0_11.index t = ![t.val / 2, t.val % 2, 0] ∧
    win0_13.index t = ![t.val / 2, t.val % 2, 0] ∧ win0_14.index t = ![t.val / 2, t.val % 2, 0] ∧
    win0_15.index t = ![t.val / 2, t.val % 2, 0] ∧ t.val < 32 :=
  (by decide +kernel : ∀ t : Fin grid0.N, _)

/-- The weights' windows stage them whole. -/
theorem idxWeights : ∀ t : Fin cfg0.N, win0_1.index t = ![0, 0] ∧ win0_2.index t = ![0, 0, 0] :=
  (by decide +kernel : ∀ t : Fin grid0.N, _)

/-- A grid point's number is below 32. -/
theorem point_lt (t : Fin cfg0.N) : t.val < 32 := (idx t).2.2.2.2.2.2.2.2

variable (m : (ℓ : Loc nD τ sig) → Buf (Elt Ideal) ℓ)

/-- The tokens' rows staged at a grid point. -/
theorem iblk0 (c : Dev nD) (t : Fin cfg0.N) (r : Fin 1024) (k : Fin 1024) : iblk (F := Ideal) m c 0 t (ix3 0 r k) =
    m ((c : Thread nD τ).loc main_arg0)
      (ix3 (⟨t.val / 2, by have := point_lt t; omega⟩ : Fin 16) (⟨1024 * (t.val % 2) + r.val, by omega⟩ : Fin 2048) k) := by
  blk_simp [iblk]
  unfold V
  after_reads_at
  blk_ext [idx t]

/-- The norm's weights staged at a grid point. -/
theorem iblk1 (c : Dev nD) (t : Fin cfg0.N) (k : Fin 1024) : iblk (F := Ideal) m c 1 t (ix2 0 k) =
    m ((c : Thread nD τ).loc main_arg5) (ix1 k) := by
  blk_simp [iblk]
  unfold V
  after_reads_at
  blk_ext [idxWeights t]

/-- The stored weights staged at a grid point: the argument's columns as rows. -/
theorem iblk2 (c : Dev nD) (t : Fin cfg0.N) (r : Fin 3592) (k : Fin 1024) : iblk (F := Ideal) m c 2 t (ix3 0 r k) =
    m ((c : Thread nD τ).loc main_arg1) (ix3 0 k r) := by
  blk_simp [iblk]
  unfold V
  after_reads_at
  blk_ext [idxWeights t]

/-- The first table's rows staged at a grid point: the cosines twice, then ones. -/
theorem iblk5 (c : Dev nD) (t : Fin cfg0.N) (r : Fin 1024) (d : Fin 128) : iblk (F := Ideal) m c 5 t (ix2 r d)
    = (if h : d.val < 16 then Ideal.cos (angle (1024 * (t.val % 2) + r.val) d.val)
      else if h' : d.val < 32 then Ideal.cos (angle (1024 * (t.val % 2) + r.val) (d.val - 16)) else 1 : EReal) := by
  blk_simp [iblk]
  rw [show ((View.whole main_v24).slice (win0_5.rect t)).emb (ix2 r d) = (ix2 (⟨1024 * (t.val % 2) + r.val, by omega⟩ : Fin 2048) d : S2048x128.Idx)
    from by blk_ext [idx t]]
  unfold V
  after_reads_at
  split
  · rename_i h
    after_reads_at
    rfl
  · rename_i h
    split
    · rename_i h'
      have h'' : d.val - 16 < 16 := h'
      refine Eq.trans ?_ (dif_pos (by omega)).symm
      after_reads_at
      rfl
    · rename_i h'
      have h'' : ¬ d.val - 16 < 16 := h'
      refine Eq.trans ?_ (dif_neg (by omega)).symm
      after_reads_at

/-- The second table's rows staged at a grid point: the negated sines, then zeros. -/
theorem iblk6 (c : Dev nD) (t : Fin cfg0.N) (r : Fin 1024) (d : Fin 128) : iblk (F := Ideal) m c 6 t (ix2 r d)
    = (if h : d.val < 16 then -Ideal.sin (angle (1024 * (t.val % 2) + r.val) d.val) else 0 : EReal) := by
  blk_simp [iblk]
  rw [show ((View.whole main_v26).slice (win0_6.rect t)).emb (ix2 r d) = (ix2 (⟨1024 * (t.val % 2) + r.val, by omega⟩ : Fin 2048) d : S2048x128.Idx)
    from by blk_ext [idx t]]
  unfold V
  after_reads_at
  split
  · rename_i h
    after_reads_at
    rfl
  · rename_i h
    split
    · after_reads_at
    · after_reads_at

/-- The third table's rows staged at a grid point: zeros, the sines, then zeros. -/
theorem iblk7 (c : Dev nD) (t : Fin cfg0.N) (r : Fin 1024) (d : Fin 128) : iblk (F := Ideal) m c 7 t (ix2 r d)
    = (if h : d.val < 16 then 0
      else if h' : d.val < 32 then Ideal.sin (angle (1024 * (t.val % 2) + r.val) (d.val - 16)) else 0 : EReal) := by
  blk_simp [iblk]
  rw [show ((View.whole main_v27).slice (win0_7.rect t)).emb (ix2 r d) = (ix2 (⟨1024 * (t.val % 2) + r.val, by omega⟩ : Fin 2048) d : S2048x128.Idx)
    from by blk_ext [idx t]]
  unfold V
  after_reads_at
  split
  · rename_i h
    after_reads_at
  · rename_i h
    split
    · rename_i h'
      have h'' : d.val - 16 < 16 := h'
      refine Eq.trans ?_ (dif_pos (by omega)).symm
      after_reads_at
      rfl
    · rename_i h'
      have h'' : ¬ d.val - 16 < 16 := h'
      refine Eq.trans ?_ (dif_neg (by omega)).symm
      after_reads_at

/-- The weights packed at the first grid point. -/
def weights (c : Dev nD) : Vec Ideal S1024x3712 .bf16 :=
  packed (iblk (F := Ideal) m c 2 ⟨0, by rw [show cfg0.N = 32 from N_0]; norm_num⟩)

/-- The weights packed at the first grid point. -/
theorem weights_first (c : Dev nD) (t : Fin cfg0.N) (h0 : t.val % 32 = 0) (h1 : t.val % 2 = 0) :
    (outsAt0 (F := Ideal) m c t.val t.isLt).2.2.2.2.2.2.2.2.2 = packed (iblk (F := Ideal) m c 2 t) := by
  rw [outsAt0_A m c t h0 h1]
  dsimp only
  exact weights_A _ _ _ _ _ _ _ _ _ _ _ _ _ _ _ _ _ _ _ _ _ _ _ _ _ _ _ _ _ _ _ _ _ _ _ _ _ _ _ _ _ _ _ _ _ _ _ _

/-- An odd grid point carries the packed weights on. -/
theorem weights_odd (c : Dev nD) (t : Fin cfg0.N) (h0 : ¬ t.val % 32 = 0) (h1 : ¬ t.val % 2 = 0) :
    (outsAt0 (F := Ideal) m c t.val t.isLt).2.2.2.2.2.2.2.2.2
      = (outsAt0 m c (t.val - 1) (Nat.lt_of_le_of_lt (Nat.sub_le _ _) t.isLt)).2.2.2.2.2.2.2.2.2 := by
  rw [outsAt0_B m c t h0 h1]
  dsimp only
  unfold sout0_B_1
  rfl

/-- A later even grid point carries the packed weights on. -/
theorem weights_even (c : Dev nD) (t : Fin cfg0.N) (h0 : ¬ t.val % 32 = 0) (h1 : t.val % 2 = 0) :
    (outsAt0 (F := Ideal) m c t.val t.isLt).2.2.2.2.2.2.2.2.2
      = (outsAt0 m c (t.val - 1) (Nat.lt_of_le_of_lt (Nat.sub_le _ _) t.isLt)).2.2.2.2.2.2.2.2.2 := by
  rw [outsAt0_C m c t h0 h1]
  dsimp only
  unfold sout0_C_1
  rfl

/-- At every grid point the packed weights are those of the first. -/
theorem weights_eq (c : Dev nD) (n : ℕ) : ∀ hn : n < cfg0.N, (outsAt0 (F := Ideal) m c n hn).2.2.2.2.2.2.2.2.2 = weights m c := by
  induction n with
  | zero => exact fun hn => weights_first m c ⟨0, hn⟩ rfl rfl
  | succ n ih =>
    intro hn
    have hN : n + 1 < 32 := point_lt ⟨n + 1, hn⟩
    by_cases h1 : (n + 1) % 2 = 0
    · exact (weights_even m c ⟨n + 1, hn⟩ (by show ¬ (n + 1) % 32 = 0; omega) h1).trans (ih _)
    · exact (weights_odd m c ⟨n + 1, hn⟩ (by show ¬ (n + 1) % 32 = 0; omega) h1).trans (ih _)

/-- The gate left at a grid point. -/
theorem gz_out (c : Dev nD) (t : Fin cfg0.N) : (outsAt0 (F := Ideal) m c t.val t.isLt).2.2.2.1
    = plainOf (iblk (F := Ideal) m c 0 t) (iblk (F := Ideal) m c 1 t) (weights m c) 6 (by omega) := by
  have hN := point_lt t
  by_cases h0 : t.val % 32 = 0
  · have h1 : t.val % 2 = 0 := by omega
    rw [outsAt0_A m c t h0 h1]
    dsimp only
    refine (gzOut_A _ _ _ _ _ _ _ _ _ _ _ _ _ _ _ _ _ _ _ _ _ _ _ _ _ _ _ _ _ _ _ _ _ _ _ _ _ _ _ _ _ _ _ _ _ _ _ _).trans ?_
    rw [weights, show t = ⟨0, by rw [show cfg0.N = 32 from N_0]; norm_num⟩ from Fin.ext (by show t.val = 0; omega)]
  · by_cases h1 : t.val % 2 = 0
    · rw [outsAt0_C m c t h0 h1]
      dsimp only
      refine (gzOut_C _ _ _ _ _ _ _ _ _ _ _ _ _ _ _ _ _ _ _ _ _ _ _ _ _ _ _ _ _ _ _ _ _ _ _ _ _ _ _ _ _ _ _ _ _ _ _ _ _).trans ?_
      rw [weights_eq]
    · rw [outsAt0_B m c t h0 h1]
      dsimp only
      refine (gzOut_B _ _ _ _ _ _ _ _ _ _ _ _ _ _ _ _ _ _ _ _ _ _ _ _ _ _ _ _ _ _ _ _ _ _ _ _ _ _ _ _ _ _ _ _ _ _ _ _ _ _).trans ?_
      rw [weights_eq]

/-- The queries left at a grid point. -/
theorem mq_out (c : Dev nD) (t : Fin cfg0.N) : (outsAt0 (F := Ideal) m c t.val t.isLt).2.2.2.2.2.1
    = queryOf (iblk (F := Ideal) m c 0 t) (iblk (F := Ideal) m c 1 t) (weights m c)
      (iblk (F := Ideal) m c 5 t) (iblk (F := Ideal) m c 6 t) (iblk (F := Ideal) m c 7 t) := by
  have hN := point_lt t
  by_cases h0 : t.val % 32 = 0
  · have h1 : t.val % 2 = 0 := by omega
    rw [outsAt0_A m c t h0 h1]
    dsimp only
    refine (mqOut_A _ _ _ _ _ _ _ _ _ _ _ _ _ _ _ _ _ _ _ _ _ _ _ _ _ _ _ _ _ _ _ _ _ _ _ _ _ _ _ _ _ _ _ _ _ _ _ _).trans ?_
    rw [weights, show t = ⟨0, by rw [show cfg0.N = 32 from N_0]; norm_num⟩ from Fin.ext (by show t.val = 0; omega)]
  · by_cases h1 : t.val % 2 = 0
    · rw [outsAt0_C m c t h0 h1]
      dsimp only
      refine (mqOut_C _ _ _ _ _ _ _ _ _ _ _ _ _ _ _ _ _ _ _ _ _ _ _ _ _ _ _ _ _ _ _ _ _ _ _ _ _ _ _ _ _ _ _ _ _ _ _ _ _).trans ?_
      rw [weights_eq]
    · rw [outsAt0_B m c t h0 h1]
      dsimp only
      refine (mqOut_B _ _ _ _ _ _ _ _ _ _ _ _ _ _ _ _ _ _ _ _ _ _ _ _ _ _ _ _ _ _ _ _ _ _ _ _ _ _ _ _ _ _ _ _ _ _ _ _ _ _).trans ?_
      rw [weights_eq]

/-- The keys left at a grid point. -/
theorem mk_out (c : Dev nD) (t : Fin cfg0.N) : (outsAt0 (F := Ideal) m c t.val t.isLt).2.2.2.2.2.2.1
    = keyOf (iblk (F := Ideal) m c 0 t) (iblk (F := Ideal) m c 1 t) (weights m c)
      (iblk (F := Ideal) m c 5 t) (iblk (F := Ideal) m c 6 t) (iblk (F := Ideal) m c 7 t) := by
  have hN := point_lt t
  by_cases h0 : t.val % 32 = 0
  · have h1 : t.val % 2 = 0 := by omega
    rw [outsAt0_A m c t h0 h1]
    dsimp only
    refine (mkOut_A _ _ _ _ _ _ _ _ _ _ _ _ _ _ _ _ _ _ _ _ _ _ _ _ _ _ _ _ _ _ _ _ _ _ _ _ _ _ _ _ _ _ _ _ _ _ _ _).trans ?_
    rw [weights, show t = ⟨0, by rw [show cfg0.N = 32 from N_0]; norm_num⟩ from Fin.ext (by show t.val = 0; omega)]
  · by_cases h1 : t.val % 2 = 0
    · rw [outsAt0_C m c t h0 h1]
      dsimp only
      refine (mkOut_C _ _ _ _ _ _ _ _ _ _ _ _ _ _ _ _ _ _ _ _ _ _ _ _ _ _ _ _ _ _ _ _ _ _ _ _ _ _ _ _ _ _ _ _ _ _ _ _ _).trans ?_
      rw [weights_eq]
    · rw [outsAt0_B m c t h0 h1]
      dsimp only
      refine (mkOut_B _ _ _ _ _ _ _ _ _ _ _ _ _ _ _ _ _ _ _ _ _ _ _ _ _ _ _ _ _ _ _ _ _ _ _ _ _ _ _ _ _ _ _ _ _ _ _ _ _ _).trans ?_
      rw [weights_eq]

/-- The values left at a grid point. -/
theorem mv_out (c : Dev nD) (t : Fin cfg0.N) : (outsAt0 (F := Ideal) m c t.val t.isLt).2.2.2.2.2.2.2.1
    = plainOf (iblk (F := Ideal) m c 0 t) (iblk (F := Ideal) m c 1 t) (weights m c) 12 (by omega) := by
  have hN := point_lt t
  by_cases h0 : t.val % 32 = 0
  · have h1 : t.val % 2 = 0 := by omega
    rw [outsAt0_A m c t h0 h1]
    dsimp only
    refine (mvOut_A _ _ _ _ _ _ _ _ _ _ _ _ _ _ _ _ _ _ _ _ _ _ _ _ _ _ _ _ _ _ _ _ _ _ _ _ _ _ _ _ _ _ _ _ _ _ _ _).trans ?_
    rw [weights, show t = ⟨0, by rw [show cfg0.N = 32 from N_0]; norm_num⟩ from Fin.ext (by show t.val = 0; omega)]
  · by_cases h1 : t.val % 2 = 0
    · rw [outsAt0_C m c t h0 h1]
      dsimp only
      refine (mvOut_C _ _ _ _ _ _ _ _ _ _ _ _ _ _ _ _ _ _ _ _ _ _ _ _ _ _ _ _ _ _ _ _ _ _ _ _ _ _ _ _ _ _ _ _ _ _ _ _ _).trans ?_
      rw [weights_eq]
    · rw [outsAt0_B m c t h0 h1]
      dsimp only
      refine (mvOut_B _ _ _ _ _ _ _ _ _ _ _ _ _ _ _ _ _ _ _ _ _ _ _ _ _ _ _ _ _ _ _ _ _ _ _ _ _ _ _ _ _ _ _ _ _ _ _ _ _ _).trans ?_
      rw [weights_eq]

/-- 512 columns of the projection of one token's normed row, from column `o` on. -/
def projRow (x : FVec Ideal S16x2048x1024 .f32) (w : FVec Ideal S1x1024x3592 .f32) (n : FVec Ideal S1024 .f32) (o : ℕ) (h : o + 512 ≤ 3592)
    (b : Fin 16) (t : Fin 2048) : Fin 512 → EReal :=
  projected (fun c => x (ix3 b t c)) (fun c => n (ix1 c)) (fun c e => w (ix3 0 c e)) o h

/-- An array left as projected. -/
def plainArr (x : FVec Ideal S16x2048x1024 .f32) (w : FVec Ideal S1x1024x3592 .f32) (n : FVec Ideal S1024 .f32) (o : ℕ) (h : o + 512 ≤ 3592) :
    S16x2048x512.Idx → EReal := fun i => projRow x w n o h (i 0) (i 1) (i 2)

/-- An array rotated by its tokens' positions. -/
def rotatedArr (x : FVec Ideal S16x2048x1024 .f32) (w : FVec Ideal S1x1024x3592 .f32) (n : FVec Ideal S1024 .f32) (o : ℕ) (h : o + 512 ≤ 3592) :
    S16x2048x512.Idx → EReal := fun i =>
  rotated (fun j => Ideal.cos (angle (i 1).val j.val)) (fun j => Ideal.sin (angle (i 1).val j.val)) (projRow x w n o h (i 0) (i 1)) (i 2)

/-- The projection of a staged row on packed columns is that of the token on the weights' columns. -/
theorem projOf_eq (c : Dev nD) (t : Fin cfg0.N) (j o : ℕ) (hj : j < 13) (ho : o + 512 ≤ 3592)
    (hjo : ∀ e : Fin 512, o + e.val = 256 * j + e.val + (if 256 * j + e.val < 2048 then 0 else 8)) (r : Fin 1024) :
    projOf (iblk (F := Ideal) m c 0 t) (iblk (F := Ideal) m c 1 t) (weights m c) j hj r
      = projRow (m ((c : Thread nD τ).loc main_arg0)) (m ((c : Thread nD τ).loc main_arg1)) (m ((c : Thread nD τ).loc main_arg5)) o ho
        ⟨t.val / 2, by have := point_lt t; omega⟩ ⟨1024 * (t.val % 2) + r.val, by omega⟩ := by
  have e0 : rowOf (iblk (F := Ideal) m c 0 t) (iblk (F := Ideal) m c 1 t) r
      = rmsNorm (fun k => m ((c : Thread nD τ).loc main_arg0) (ix3 (⟨t.val / 2, by have := point_lt t; omega⟩ : Fin 16)
        (⟨1024 * (t.val % 2) + r.val, by omega⟩ : Fin 2048) k)) (fun k => m ((c : Thread nD τ).loc main_arg5) (ix1 k)) := by
    unfold rowOf
    rw [show (fun k : Fin 1024 => iblk (F := Ideal) m c 0 t (ix3 0 r k)) = _ from funext (iblk0 m c t r),
      show (fun k : Fin 1024 => iblk (F := Ideal) m c 1 t (ix2 0 k)) = _ from funext (iblk1 m c t)]
  have e1 : colsOf (weights m c) j hj = fun k (e : Fin 512) => m ((c : Thread nD τ).loc main_arg1) (ix3 0 k ⟨o + e.val, by omega⟩) := by
    funext k e
    unfold colsOf weights packed
    rw [dif_pos (by show 256 * j + e.val < 3584; omega)]
    refine (iblk2 m c _ _ k).trans ?_
    refine congrArg _ ?_
    funext a; fin_cases a
    · rfl
    · rfl
    · exact Fin.ext (hjo e).symm
  unfold projOf projRow projected
  rw [e0, e1]

/-- A staged row's turned heads are the token's rotated heads. -/
theorem turnedOf_eq (c : Dev nD) (t : Fin cfg0.N) (j o : ℕ) (hj : j < 13) (ho : o + 512 ≤ 3592)
    (hjo : ∀ e : Fin 512, o + e.val = 256 * j + e.val + (if 256 * j + e.val < 2048 then 0 else 8)) (r : Fin 1024) (e : Fin 512) :
    turnedOf (iblk (F := Ideal) m c 0 t) (iblk (F := Ideal) m c 1 t) (weights m c) (iblk (F := Ideal) m c 5 t) (iblk (F := Ideal) m c 6 t)
        (iblk (F := Ideal) m c 7 t) j hj r e
      = rotatedArr (m ((c : Thread nD τ).loc main_arg0)) (m ((c : Thread nD τ).loc main_arg1)) (m ((c : Thread nD τ).loc main_arg5)) o ho
        (ix3 (⟨t.val / 2, by have := point_lt t; omega⟩ : Fin 16) (⟨1024 * (t.val % 2) + r.val, by omega⟩ : Fin 2048) e) := by
  unfold turnedOf rotatedArr rotated
  rw [projOf_eq m c t j o hj ho hjo r]
  exact turn_eq_rotate (fun j => Ideal.cos (angle (1024 * (t.val % 2) + r.val) j.val)) (fun j => Ideal.sin (angle (1024 * (t.val % 2) + r.val) j.val))
    _ _ _ _ (fun d => iblk5 m c t r d) (fun d => iblk6 m c t r d) (fun d => iblk7 m c t r d) _

/-- The array of gate after the run. -/
theorem final11 (c : Dev nD) : (dats (F := Ideal) m 0 c).arrAt 11 (cfgs 0).N
    = plainArr (m ((c : Thread nD τ).loc main_arg0)) (m ((c : Thread nD τ).loc main_arg1))
      (m ((c : Thread nD τ).loc main_arg5)) 1536 (by norm_num) := by
  refine (dats m 0 c).arrAt_eq_of_covers 11 _ (by decide +kernel) fun t _ y => ?_
  blk_simp
  rw [after0_11, gz_out]
  have e : ((cfg0.win 11).blk t).view.emb y = (ix3 (⟨t.val / 2, by have := point_lt t; omega⟩ : Fin 16)
      (⟨1024 * (t.val % 2) + (y 1).val, by have h : (y 1).val < 1024 := (y 1).isLt; omega⟩ : Fin 2048) (y 2) : S16x2048x512.Idx) := by
    blk_ext [idx t]
  rw [e]
  exact congrFun (projOf_eq m c t 6 1536 (by omega) (by norm_num) (fun e => by split <;> omega) (y 1)) (y 2)

/-- The array of queries after the run. -/
theorem final13 (c : Dev nD) : (dats (F := Ideal) m 0 c).arrAt 13 (cfgs 0).N
    = fun i : S16x2048x512.Idx => (rotatedArr (m ((c : Thread nD τ).loc main_arg0)) (m ((c : Thread nD τ).loc main_arg1))
      (m ((c : Thread nD τ).loc main_arg5)) 2056 (by norm_num) i * Ideal.ofBits .f32 0x3E0293EE#32 : EReal) := by
  refine (dats m 0 c).arrAt_eq_of_covers 13 _ (by decide +kernel) fun t _ y => ?_
  blk_simp
  rw [after0_13, mq_out]
  have e : ((cfg0.win 13).blk t).view.emb y = (ix3 (⟨t.val / 2, by have := point_lt t; omega⟩ : Fin 16)
      (⟨1024 * (t.val % 2) + (y 1).val, by have h : (y 1).val < 1024 := (y 1).isLt; omega⟩ : Fin 2048) (y 2) : S16x2048x512.Idx) := by
    blk_ext [idx t]
  rw [e]
  exact congrArg (fun z : EReal => z * Ideal.ofBits .f32 0x3E0293EE#32)
    (turnedOf_eq m c t 8 2056 (by omega) (by norm_num) (fun e => by split <;> omega) (y 1) (y 2))

/-- The array of keys after the run. -/
theorem final14 (c : Dev nD) : (dats (F := Ideal) m 0 c).arrAt 14 (cfgs 0).N
    = rotatedArr (m ((c : Thread nD τ).loc main_arg0)) (m ((c : Thread nD τ).loc main_arg1))
      (m ((c : Thread nD τ).loc main_arg5)) 2568 (by norm_num) := by
  refine (dats m 0 c).arrAt_eq_of_covers 14 _ (by decide +kernel) fun t _ y => ?_
  blk_simp
  rw [after0_14, mk_out]
  have e : ((cfg0.win 14).blk t).view.emb y = (ix3 (⟨t.val / 2, by have := point_lt t; omega⟩ : Fin 16)
      (⟨1024 * (t.val % 2) + (y 1).val, by have h : (y 1).val < 1024 := (y 1).isLt; omega⟩ : Fin 2048) (y 2) : S16x2048x512.Idx) := by
    blk_ext [idx t]
  rw [e]
  exact turnedOf_eq m c t 10 2568 (by omega) (by norm_num) (fun e => by split <;> omega) (y 1) (y 2)

/-- The array of values after the run. -/
theorem final15 (c : Dev nD) : (dats (F := Ideal) m 0 c).arrAt 15 (cfgs 0).N
    = plainArr (m ((c : Thread nD τ).loc main_arg0)) (m ((c : Thread nD τ).loc main_arg1))
      (m ((c : Thread nD τ).loc main_arg5)) 3080 (by norm_num) := by
  refine (dats m 0 c).arrAt_eq_of_covers 15 _ (by decide +kernel) fun t _ y => ?_
  blk_simp
  rw [after0_15, mv_out]
  have e : ((cfg0.win 15).blk t).view.emb y = (ix3 (⟨t.val / 2, by have := point_lt t; omega⟩ : Fin 16)
      (⟨1024 * (t.val % 2) + (y 1).val, by have h : (y 1).val < 1024 := (y 1).isLt; omega⟩ : Fin 2048) (y 2) : S16x2048x512.Idx) := by
    blk_ext [idx t]
  rw [e]
  exact congrFun (projOf_eq m c t 12 3080 (by omega) (by norm_num) (fun e => by split <;> omega) (y 1)) (y 2)

end Cert.Kernel3Ideal.Inproj

end
-- ==== Proof.Inproj.Ref.lean ====
/- The reference of the input projection, read one row at a time. -/
module

public import proofs.«01_k».proof.Proof.Gen.Reference3Ideal.Read
public import proofs.«01_k».proof.Proof.Inproj.Spec
public import Idealize.ShloMosaic.Lib.Pointwise

@[expose] public section

noncomputable section

namespace Cert.Reference3Ideal.Inproj

open Cert.Reference3Ideal Cert.Reference3Ideal.Gen Cert.Reference3Ideal.Read Idealize.ShloMosaic Idealize.ShloMosaic.TcCoe Cert.Mlp Cert.Inproj
open scoped BigOperators

section
variable (x0 : FVec Ideal S16x2048x1024 .f32) (x1 : FVec Ideal S1x1024x3592 .f32) (x5 : FVec Ideal S1024 .f32)
  (b : Fin 16) (t : Fin 2048)

/-- The sum of the squares of a row. -/
theorem squares_apply : val_main_v2 (F := Ideal) x0 (ix2 b t) = ∑ c : Fin 1024, (x0 (ix3 b t c) * x0 (ix3 b t c) : EReal) := by
  unfold val_main_v2 val_main_v1 val_main_cst
  pointwise

/-- The factor of a row. -/
theorem factor_apply : val_main_v8 (F := Ideal) x0 (ix3 b t 0)
    = Ideal.rsqrt (Ideal.div (val_main_v2 (F := Ideal) x0 (ix2 b t)) (Ideal.ofBits .f32 0x44800000#32) + Ideal.ofBits .f32 0x358637BD#32) := by
  unfold val_main_v8 val_main_v7 val_main_v6 val_main_v5 val_main_v4 val_main_v3 val_main_cst_0 val_main_cst_1
  generalize val_main_v2 (F := Ideal) x0 = s
  pointwise

/-- A normed row. -/
theorem normed_apply (e : Fin 1024) :
    val_main_v13 (F := Ideal) x0 x5 (ix3 b t e) = rmsNorm (fun c => x0 (ix3 b t c)) (fun c => x5 (ix1 c)) e := by
  unfold rmsNorm
  rw [← squares_apply, ← factor_apply]
  unfold val_main_v13 val_main_v12 val_main_v11 val_main_v10 val_main_v9
  generalize val_main_v8 (F := Ideal) x0 = s
  pointwise

/-- A normed row times the projection's matrix. -/
theorem product_apply (e : Fin 3592) : val_main_v15 (F := Ideal) x0 x1 x5 (ix3 b t e)
    = times (fun c => val_main_v13 (F := Ideal) x0 x5 (ix3 b t c)) (fun c e => x1 (ix3 0 c e)) e := by
  unfold val_main_v15 val_main_v14 times
  generalize val_main_v13 (F := Ideal) x0 x5 = y
  pointwise

/-- A normed row times the projection's matrix, at one of 512 columns. -/
theorem projected_apply (o : ℕ) (h : o + 512 ≤ 3592) (e : Fin 512) :
    val_main_v15 (F := Ideal) x0 x1 x5 (ix3 b t ⟨o + e.val, by omega⟩)
      = projected (fun c => x0 (ix3 b t c)) (fun c => x5 (ix1 c)) (fun c e => x1 (ix3 0 c e)) o h e := by
  rw [product_apply]
  simp only [normed_apply]
  rfl

/-- The delta rule's gate. -/
theorem gz_apply (e : Fin 512) : val_main_v103 (F := Ideal) x0 x1 x5 (ix3 b t e)
    = projected (fun c => x0 (ix3 b t c)) (fun c => x5 (ix1 c)) (fun c e => x1 (ix3 0 c e)) 1536 (by norm_num) e := by
  rw [← projected_apply]
  unfold val_main_v103 val_main_v19
  generalize val_main_v15 (F := Ideal) x0 x1 x5 = y
  pointwise

/-- The attention's values. -/
theorem mv_apply (e : Fin 512) : val_main_v106 (F := Ideal) x0 x1 x5 (ix3 b t e)
    = projected (fun c => x0 (ix3 b t c)) (fun c => x5 (ix1 c)) (fun c e => x1 (ix3 0 c e)) 3080 (by norm_num) e := by
  rw [← projected_apply]
  unfold val_main_v106 val_main_v24
  generalize val_main_v15 (F := Ideal) x0 x1 x5 = y
  pointwise

/-- The attention's queries, not yet rotated. -/
theorem q_apply (e : Fin 512) : val_main_v22 (F := Ideal) x0 x1 x5 (ix3 b t e)
    = projected (fun c => x0 (ix3 b t c)) (fun c => x5 (ix1 c)) (fun c e => x1 (ix3 0 c e)) 2056 (by norm_num) e := by
  rw [← projected_apply]
  unfold val_main_v22
  generalize val_main_v15 (F := Ideal) x0 x1 x5 = y
  pointwise

/-- The attention's keys, not yet rotated. -/
theorem k_apply (e : Fin 512) : val_main_v23 (F := Ideal) x0 x1 x5 (ix3 b t e)
    = projected (fun c => x0 (ix3 b t c)) (fun c => x5 (ix1 c)) (fun c e => x1 (ix3 0 c e)) 2568 (by norm_num) e := by
  rw [← projected_apply]
  unfold val_main_v23
  generalize val_main_v15 (F := Ideal) x0 x1 x5 = y
  pointwise
end

end Cert.Reference3Ideal.Inproj

end
-- ==== Proof.Inproj.RefRotate.lean ====
/- The reference's partial rotation, read one row at a time. -/
module

public import proofs.«01_k».proof.Proof.Gen.Reference3Ideal.Read
public import proofs.«01_k».proof.Proof.Inproj.Spec
public import Idealize.ShloMosaic.Lib.Pointwise

@[expose] public section

noncomputable section

namespace Cert.Reference3Ideal.Inproj

open Cert.Reference3Ideal Cert.Reference3Ideal.Gen Cert.Reference3Ideal.Read Idealize.ShloMosaic Idealize.ShloMosaic.TcCoe Cert.Mlp Cert.Inproj
open scoped BigOperators

/-- The rows' heads, one array per head. -/
def headsArr (y : FVec Ideal S16x2048x512 .f32) : FVec Ideal S16x4x2048x128 .f32 :=
  transpose S16x4x2048x128 [0, 2, 1, 3] (shapeCast _ y shapeCasts_S16x2048x512_S16x2048x4x128 : FVec Ideal S16x2048x4x128 .f32)
    transposes_S16x2048x4x128_S16x4x2048x128_0_2_1_3

/-- An element of a head. -/
theorem headsArr_apply (y : FVec Ideal S16x2048x512 .f32) (b : Fin 16) (n : Fin 4) (t : Fin 2048) (d : Fin 128) :
    headsArr y (ix4 b n t d) = y (ix3 b t ⟨128 * n.val + d.val, by omega⟩) := by
  unfold headsArr
  pointwise
  exact congrArg (fun k => y (ix3 b t k)) (Fin.ext (by show n.val * 128 + d.val = 128 * n.val + d.val; omega))

/-- The heads' rows, side by side again. -/
def rowsArr (z : FVec Ideal S16x4x2048x128 .f32) : FVec Ideal S16x2048x512 .f32 :=
  shapeCast _ (transpose S16x2048x4x128 [0, 2, 1, 3] z transposes_S16x4x2048x128_S16x2048x4x128_0_2_1_3 : FVec Ideal S16x2048x4x128 .f32)
    shapeCasts_S16x2048x4x128_S16x2048x512

/-- An element of a row. -/
theorem rowsArr_apply (z : FVec Ideal S16x4x2048x128 .f32) (b : Fin 16) (t : Fin 2048) (e : Fin 512) :
    rowsArr z (ix3 b t e) = z (ix4 b ⟨e.val / 128, by omega⟩ t ⟨e.val % 128, by omega⟩) := by
  unfold rowsArr
  pointwise

/-- A table of 16 angles per position, for every batch and head. -/
def tableArr (c : FVec Ideal S2048x16 .f32) : FVec Ideal S16x4x2048x16 .f32 :=
  broadcastInDim S16x4x2048x16 ![0, 1, 2, 3] bcast_S1x1x2048x16_S16x4x2048x16_0_1_2_3
    (broadcastInDim S1x1x2048x16 ![2, 3] bcast_S2048x16_S1x1x2048x16_2_3 c : FVec Ideal S1x1x2048x16 .f32)

/-- The first 32 features of every head. -/
def turnedArr (z : FVec Ideal S16x4x2048x128 .f32) : FVec Ideal S16x4x2048x32 .f32 :=
  extractStridedSlice S16x4x2048x32 ![0, 0, 0, 0] z slices_S16x4x2048x128_S16x4x2048x32_0_0_0_0

/-- The first 16 features of every head. -/
def firstArr (z : FVec Ideal S16x4x2048x128 .f32) : FVec Ideal S16x4x2048x16 .f32 :=
  extractStridedSlice S16x4x2048x16 ![0, 0, 0, 0] (turnedArr z) slices_S16x4x2048x32_S16x4x2048x16_0_0_0_0

/-- The next 16 features of every head. -/
def secondArr (z : FVec Ideal S16x4x2048x128 .f32) : FVec Ideal S16x4x2048x16 .f32 :=
  extractStridedSlice S16x4x2048x16 ![0, 0, 0, 16] (turnedArr z) slices_S16x4x2048x32_S16x4x2048x16_0_0_0_16

/-- The other 96 features of every head. -/
def restArr (z : FVec Ideal S16x4x2048x128 .f32) : FVec Ideal S16x4x2048x96 .f32 :=
  extractStridedSlice S16x4x2048x96 ![0, 0, 0, 32] z slices_S16x4x2048x128_S16x4x2048x96_0_0_0_32

/-- The first 16 features, turned. -/
def lowArr (z : FVec Ideal S16x4x2048x128 .f32) (c s : FVec Ideal S2048x16 .f32) : FVec Ideal S16x4x2048x16 .f32 :=
  subf (mulf (firstArr z) (tableArr c)) (mulf (secondArr z) (tableArr s))

/-- The next 16 features, turned. -/
def highArr (z : FVec Ideal S16x4x2048x128 .f32) (c s : FVec Ideal S2048x16 .f32) : FVec Ideal S16x4x2048x16 .f32 :=
  addf (mulf (secondArr z) (tableArr c)) (mulf (firstArr z) (tableArr s))

/-- Three groups of features side by side. -/
def joinArr (l h : FVec Ideal S16x4x2048x16 .f32) (r : FVec Ideal S16x4x2048x96 .f32) : FVec Ideal S16x4x2048x128 .f32 :=
  concatenate S16x4x2048x128 3 [⟨S16x4x2048x32, concatenate S16x4x2048x32 3 [⟨S16x4x2048x16, l⟩, ⟨S16x4x2048x16, h⟩]
    concatenates_S16x4x2048x16_S16x4x2048x16_S16x4x2048x32_d3⟩, ⟨S16x4x2048x96, r⟩] concatenates_S16x4x2048x32_S16x4x2048x96_S16x4x2048x128_d3

section
variable (b : Fin 16) (n : Fin 4) (t : Fin 2048)

/-- An angle's entry. -/
theorem tableArr_apply (c : FVec Ideal S2048x16 .f32) (d : Fin 16) : tableArr c (ix4 b n t d) = c (ix2 t d) := by
  unfold tableArr
  pointwise

/-- One of the first 16 features. -/
theorem firstArr_apply (z : FVec Ideal S16x4x2048x128 .f32) (d : Fin 16) :
    firstArr z (ix4 b n t d) = z (ix4 b n t ⟨d.val, by omega⟩) := by
  unfold firstArr turnedArr
  pointwise

/-- One of the next 16 features. -/
theorem secondArr_apply (z : FVec Ideal S16x4x2048x128 .f32) (d : Fin 16) :
    secondArr z (ix4 b n t d) = z (ix4 b n t ⟨16 + d.val, by omega⟩) := by
  unfold secondArr turnedArr
  pointwise

/-- One of the other features. -/
theorem restArr_apply (z : FVec Ideal S16x4x2048x128 .f32) (d : Fin 96) :
    restArr z (ix4 b n t d) = z (ix4 b n t ⟨32 + d.val, by omega⟩) := by
  unfold restArr
  pointwise

/-- One of the first 16 features, turned. -/
theorem lowArr_apply (z : FVec Ideal S16x4x2048x128 .f32) (c s : FVec Ideal S2048x16 .f32) (d : Fin 16) :
    lowArr z c s (ix4 b n t d)
      = (z (ix4 b n t ⟨d.val, by omega⟩) * c (ix2 t d) - z (ix4 b n t ⟨16 + d.val, by omega⟩) * s (ix2 t d) : EReal) := by
  show (firstArr z (ix4 b n t d) * tableArr c (ix4 b n t d) - secondArr z (ix4 b n t d) * tableArr s (ix4 b n t d) : EReal) = _
  rw [firstArr_apply, secondArr_apply, tableArr_apply, tableArr_apply]

/-- One of the next 16 features, turned. -/
theorem highArr_apply (z : FVec Ideal S16x4x2048x128 .f32) (c s : FVec Ideal S2048x16 .f32) (d : Fin 16) :
    highArr z c s (ix4 b n t d)
      = (z (ix4 b n t ⟨16 + d.val, by omega⟩) * c (ix2 t d) + z (ix4 b n t ⟨d.val, by omega⟩) * s (ix2 t d) : EReal) := by
  show (secondArr z (ix4 b n t d) * tableArr c (ix4 b n t d) + firstArr z (ix4 b n t d) * tableArr s (ix4 b n t d) : EReal) = _
  rw [firstArr_apply, secondArr_apply, tableArr_apply, tableArr_apply]

/-- A feature of a joined head. -/
theorem joinArr_apply (l h : FVec Ideal S16x4x2048x16 .f32) (r : FVec Ideal S16x4x2048x96 .f32) (d : Fin 128) :
    joinArr l h r (ix4 b n t d) = if h0 : d.val < 16 then l (ix4 b n t ⟨d.val, h0⟩)
      else if h1 : d.val < 32 then h (ix4 b n t ⟨d.val - 16, by omega⟩) else r (ix4 b n t ⟨d.val - 32, by omega⟩) := by
  unfold joinArr
  by_cases h0 : d.val < 16
  · have h1 : d.val < 32 := by omega
    rw [dif_pos h0]
    pointwise [h0, h1]
  · by_cases h1 : d.val < 32
    · rw [dif_neg h0, dif_pos h1]
      pointwise [h0, h1]
    · rw [dif_neg h0, dif_neg h1]
      pointwise [h0, h1]

/-- A rotated head. -/
theorem turned_apply (z : FVec Ideal S16x4x2048x128 .f32) (c s : FVec Ideal S2048x16 .f32) (d : Fin 128) :
    joinArr (lowArr z c s) (highArr z c s) (restArr z) (ix4 b n t d)
      = rotate (fun j => c (ix2 t j)) (fun j => s (ix2 t j)) (fun d => z (ix4 b n t d)) d := by
  rw [joinArr_apply]
  unfold rotate
  split_ifs with h0 h1
  · exact lowArr_apply b n t z c s ⟨d.val, h0⟩
  · refine (highArr_apply b n t z c s ⟨d.val - 16, by omega⟩).trans ?_
    have e : (⟨16 + (d.val - 16), by omega⟩ : Fin 128) = d := Fin.ext (by show 16 + (d.val - 16) = d.val; omega)
    exact congrArg (fun k : Fin 128 => (z (ix4 b n t k) * c (ix2 t ⟨d.val - 16, by omega⟩) + z (ix4 b n t ⟨d.val - 16, by omega⟩)
      * s (ix2 t ⟨d.val - 16, by omega⟩) : EReal)) e
  · refine (restArr_apply b n t z ⟨d.val - 32, by omega⟩).trans ?_
    exact congrArg (fun k => z (ix4 b n t k)) (Fin.ext (by show 32 + (d.val - 32) = d.val; omega))
end

/-- The rows' heads rotated, side by side again. -/
def rotatedArr (y : FVec Ideal S16x2048x512 .f32) (c s : FVec Ideal S2048x16 .f32) : FVec Ideal S16x2048x512 .f32 :=
  rowsArr (joinArr (lowArr (headsArr y) c s) (highArr (headsArr y) c s) (restArr (headsArr y)))

/-- A rotated row. -/
theorem rotatedArr_apply (y : FVec Ideal S16x2048x512 .f32) (c s : FVec Ideal S2048x16 .f32) (b : Fin 16) (t : Fin 2048) (e : Fin 512) :
    rotatedArr y c s (ix3 b t e)
      = rotated (fun j => c (ix2 t j)) (fun j => s (ix2 t j)) (fun e => y (ix3 b t e)) e := by
  unfold rotatedArr rotated
  rw [rowsArr_apply, turned_apply]
  simp only [headsArr_apply]
  rfl

end Cert.Reference3Ideal.Inproj

end
-- ==== Proof.Inproj.RefResults.lean ====
/- The reference of the input projection, its rotated results read one row at a time. -/
module

public import proofs.«01_k».proof.Proof.Inproj.Ref
public import proofs.«01_k».proof.Proof.Inproj.RefRotate

@[expose] public section

noncomputable section

namespace Cert.Reference3Ideal.Inproj

open Cert.Reference3Ideal Cert.Reference3Ideal.Gen Cert.Reference3Ideal.Read Idealize.ShloMosaic Idealize.ShloMosaic.TcCoe Cert.Mlp Cert.Inproj
open scoped BigOperators

section
variable (x0 : FVec Ideal S16x2048x1024 .f32) (x1 : FVec Ideal S1x1024x3592 .f32) (x5 : FVec Ideal S1024 .f32)
  (b : Fin 16) (t : Fin 2048) (e : Fin 512)

/-- The attention's keys. -/
theorem mk_apply : val_main_v105 (F := Ideal) x0 x1 x5 (ix3 b t e)
    = rotated (fun j => val_main_v79 (F := Ideal) (ix2 t j)) (fun j => val_main_v80 (F := Ideal) (ix2 t j))
      (projected (fun c => x0 (ix3 b t c)) (fun c => x5 (ix1 c)) (fun c e => x1 (ix3 0 c e)) 2568 (by norm_num)) e := by
  refine (rotatedArr_apply (val_main_v23 (F := Ideal) x0 x1 x5) (val_main_v79 (F := Ideal)) (val_main_v80 (F := Ideal)) b t e).trans ?_
  simp only [k_apply]

/-- The attention's queries. -/
theorem mq_apply : val_main_v104 (F := Ideal) x0 x1 x5 (ix3 b t e)
    = rotated (fun j => val_main_v39 (F := Ideal) (ix2 t j)) (fun j => val_main_v40 (F := Ideal) (ix2 t j))
      (projected (fun c => x0 (ix3 b t c)) (fun c => x5 (ix1 c)) (fun c e => x1 (ix3 0 c e)) 2056 (by norm_num)) e
      * Ideal.ofBits .f32 0x3E0293EE#32 := by
  show (rotatedArr (val_main_v22 (F := Ideal) x0 x1 x5) (val_main_v39 (F := Ideal)) (val_main_v40 (F := Ideal)) (ix3 b t e) : EReal)
    * val_main_v63 (F := Ideal) (ix3 b t e) = _
  rw [rotatedArr_apply]
  simp only [q_apply]
  rfl
end

end Cert.Reference3Ideal.Inproj

end
-- ==== Proof.Inproj.Result.lean ====
/- The reference's results and the input projection kernel's are the same arrays. -/
module

public import proofs.«01_k».proof.Proof.Inproj.Arrays
public import proofs.«01_k».proof.Proof.Inproj.RefResults

@[expose] public section

noncomputable section

namespace Cert.Inproj

open Idealize.ShloMosaic Cert.Kernel3Ideal.Inproj

/-- The angles of the reference's queries. -/
theorem query_angle (t : Fin 2048) (j : Fin 16) :
    Cert.Reference3Ideal.Read.val_main_v38 (F := Ideal) (ix2 t j) = angle t.val j.val := by
  rw [Cert.Reference3Ideal.Read.val_main_v38_apply]
  show (_ * _ : EReal) = _
  rw [Cert.Reference3Ideal.Read.val_main_v36_apply, Cert.Reference3Ideal.Read.val_main_v37_apply,
    Cert.Reference3Ideal.Read.val_main_v34_apply, Cert.Reference3Ideal.Read.val_main_v35_apply]
  rfl

/-- The angles of the reference's keys. -/
theorem key_angle (t : Fin 2048) (j : Fin 16) :
    Cert.Reference3Ideal.Read.val_main_v78 (F := Ideal) (ix2 t j) = angle t.val j.val := by
  rw [Cert.Reference3Ideal.Read.val_main_v78_apply]
  show (_ * _ : EReal) = _
  rw [Cert.Reference3Ideal.Read.val_main_v76_apply, Cert.Reference3Ideal.Read.val_main_v77_apply,
    Cert.Reference3Ideal.Read.val_main_v74_apply, Cert.Reference3Ideal.Read.val_main_v75_apply]
  rfl

variable (x : FVec Ideal Cert.Kernel3Ideal.S16x2048x1024 .f32) (w : FVec Ideal Cert.Kernel3Ideal.S1x1024x3592 .f32)
  (n : FVec Ideal Cert.Kernel3Ideal.S1024 .f32)

/-- The two arrays of gates are one. -/
theorem gz_eq : plainArr x w n 1536 (by norm_num)
    = Cert.Reference3Ideal.Read.val_main_v103 (F := Ideal) x w n := by
  funext i
  obtain ⟨b, t, e, rfl⟩ : ∃ (b : Fin 16) (t : Fin 2048) (e : Fin 512), i = ix3 b t e :=
    ⟨i 0, i 1, i 2, by funext a; fin_cases a <;> rfl⟩
  refine Eq.trans ?_ (Cert.Reference3Ideal.Inproj.gz_apply x w n b t e).symm
  rfl

/-- The two arrays of queries are one. -/
theorem mq_eq : (fun i : Cert.Kernel3Ideal.S16x2048x512.Idx => (rotatedArr x w n 2056 (by norm_num) i * Ideal.ofBits .f32 0x3E0293EE#32 : EReal))
    = Cert.Reference3Ideal.Read.val_main_v104 (F := Ideal) x w n := by
  funext i
  obtain ⟨b, t, e, rfl⟩ : ∃ (b : Fin 16) (t : Fin 2048) (e : Fin 512), i = ix3 b t e :=
    ⟨i 0, i 1, i 2, by funext a; fin_cases a <;> rfl⟩
  refine Eq.trans ?_ (Cert.Reference3Ideal.Inproj.mq_apply x w n b t e).symm
  rw [show (fun j : Fin 16 => Cert.Reference3Ideal.Read.val_main_v39 (F := Ideal) (ix2 t j)) = fun j => Ideal.cos (angle t.val j.val) from
      funext fun j => congrArg Ideal.cos (query_angle t j),
    show (fun j : Fin 16 => Cert.Reference3Ideal.Read.val_main_v40 (F := Ideal) (ix2 t j)) = fun j => Ideal.sin (angle t.val j.val) from
      funext fun j => congrArg Ideal.sin (query_angle t j)]
  rfl

/-- The two arrays of keys are one. -/
theorem mk_eq : rotatedArr x w n 2568 (by norm_num)
    = Cert.Reference3Ideal.Read.val_main_v105 (F := Ideal) x w n := by
  funext i
  obtain ⟨b, t, e, rfl⟩ : ∃ (b : Fin 16) (t : Fin 2048) (e : Fin 512), i = ix3 b t e :=
    ⟨i 0, i 1, i 2, by funext a; fin_cases a <;> rfl⟩
  refine Eq.trans ?_ (Cert.Reference3Ideal.Inproj.mk_apply x w n b t e).symm
  rw [show (fun j : Fin 16 => Cert.Reference3Ideal.Read.val_main_v79 (F := Ideal) (ix2 t j)) = fun j => Ideal.cos (angle t.val j.val) from
      funext fun j => congrArg Ideal.cos (key_angle t j),
    show (fun j : Fin 16 => Cert.Reference3Ideal.Read.val_main_v80 (F := Ideal) (ix2 t j)) = fun j => Ideal.sin (angle t.val j.val) from
      funext fun j => congrArg Ideal.sin (key_angle t j)]
  rfl

/-- The two arrays of values are one. -/
theorem mv_eq : plainArr x w n 3080 (by norm_num)
    = Cert.Reference3Ideal.Read.val_main_v106 (F := Ideal) x w n := by
  funext i
  obtain ⟨b, t, e, rfl⟩ : ∃ (b : Fin 16) (t : Fin 2048) (e : Fin 512), i = ix3 b t e :=
    ⟨i 0, i 1, i 2, by funext a; fin_cases a <;> rfl⟩
  refine Eq.trans ?_ (Cert.Reference3Ideal.Inproj.mv_apply x w n b t e).symm
  rfl

end Cert.Inproj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3Ideal.Value
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite
public import proofs.«01_k».proof.Proof.Moba.Result
public import proofs.«01_k».proof.Proof.Mlp.Result
public import proofs.«01_k».proof.Proof.Inproj.Result
public import Idealize.ShloMosaic.Lib.Claim
public import Idealize.ShloMosaic.Adequacy
public import Idealize.ShloMosaic.Init

@[expose] public section

noncomputable section

namespace Cert.Proof

open Idealize.ShloMosaic Idealize.SL.Sem

/-- The reference runs, keeps its arguments, and ends with every counter at zero, since it declares none. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The kernel's idealization and the reference's end with one array, wherever queries and keys are finite. -/
theorem algebraic : Cert.algebraic_KernelIdeal_ReferenceIdeal_pre_finite (hPre_finite := Cert.Pre_finite.Gen.facts) := by
  intro m g m' g' hpre hagree
  refine ⟨fun c => Cert.KernelIdeal.Moba.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Moba.final m c), (h c).2⟩)
      (Cert.KernelIdeal.Value.run_blocks (F := Ideal) m g)
  · refine (θ_run Cert.ReferenceIdeal.defs _ _).mono
      (fun r h c => ⟨(h c).1.trans ?_, (h c).2⟩) (Cert.ReferenceIdeal.Value.run (F := Ideal) m' g')
    obtain ⟨hq, hk⟩ := Cert.Moba.finite_read _ _ _ (hpre c)
    refine (Cert.ReferenceIdeal.Read.val_main_v130_eq (F := Ideal) (StableHlo.launchContents m' c)).trans ?_
    refine Eq.trans ?_ (Cert.Moba.results_eq _ _ _ hq hk).symm
    obtain ⟨e0, e1, e2⟩ := hagree c
    rw [StableHlo.launchContents_devRef, StableHlo.launchContents_devRef, StableHlo.launchContents_devRef, e0, e1, e2]

/-- The feed-forward's reference runs, keeps its arguments, and ends with every counter at zero, since it declares none. -/
theorem reference2_frame (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r =>
      (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
        ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
        ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
        ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
        ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
        ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
        ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0) :=
  (θ_run Cert.Reference2Ideal.defs _ _).mono
    (fun r h => ⟨fun c => (h c).2, Idealize.ShloMosaic.sem_eq_zero_of_no_sems (by decide) r.2⟩)
    (Cert.Reference2Ideal.Value.run (F := Ideal) m g)

/-- The feed-forward kernel's idealization and its reference's end with one array. -/
theorem algebraic2 : Cert.algebraic_Kernel2Ideal_Reference2Ideal := by
  intro m g m' g' _ hagree
  refine ⟨fun c => Cert.Kernel2Ideal.Mlp.result
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6))
      (m ((c.tc : Thread Cert.Kernel2Ideal.nD Cert.Kernel2Ideal.τ).loc Cert.Kernel2Ideal.main_arg7))
      (m ((c.tc : Thread Cert.Kernel2Ideal.nD Cert.Kernel2Ideal.τ).loc Cert.Kernel2Ideal.main_arg8))
      (m ((c.tc : Thread Cert.Kernel2Ideal.nD Cert.Kernel2Ideal.τ).loc Cert.Kernel2Ideal.main_arg9))
      (m ((c.tc : Thread Cert.Kernel2Ideal.nD Cert.Kernel2Ideal.τ).loc Cert.Kernel2Ideal.main_arg10))
      (m ((c.tc : Thread Cert.Kernel2Ideal.nD Cert.Kernel2Ideal.τ).loc Cert.Kernel2Ideal.main_arg11)), ?_, ?_⟩
  · exact (θ_run Cert.Kernel2Ideal.defs _ _).mono
      (fun r h c => ⟨(h c).1.trans (Cert.Kernel2Ideal.Mlp.final m c), (h c).2⟩)
      (Cert.Kernel2Ideal.Value.run_blocks (F := Ideal) m g)
  · refine (θ_run Cert.Reference2Ideal.defs _ _).mono
      (fun r h c => ⟨(h c).1.trans ?_, (h c).2⟩) (Cert.Reference2Ideal.Value.run (F := Ideal) m' g')
    refine (Cert.Reference2Ideal.Read.val_main_v56_eq (F := Ideal) m' c).trans ?_
    refine Eq.trans ?_ (Cert.Mlp.results_eq _ _ _ _ _ _ _ _ _ _ _ _).symm
    obtain ⟨e0, e1, e2, e3, e4, e5, e6, e7, e8, e9, e10, e11⟩ := hagree c
    rw [e0, e1, e2, e3, e4, e5, e6, e7, e8, e9, e10, e11]

/-- The input projection's reference runs, keeps its arguments, and ends with every counter at zero, since it declares none. -/
theorem reference3_frame (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r =>
      (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0) :=
  (θ_run Cert.Reference3Ideal.defs _ _).mono
    (fun r h => ⟨fun c => (h c).2.2.2.2, Idealize.ShloMosaic.sem_eq_zero_of_no_sems (by decide) r.2⟩)
    (Cert.Reference3Ideal.Value.run (F := Ideal) m g)

/-- The input projection kernel's idealization and its reference's end with the same four arrays. -/
theorem algebraic3 : Cert.algebraic_Kernel3Ideal_Reference3Ideal := by
  intro m g m' g' _ hagree
  refine ⟨fun c => Cert.Kernel3Ideal.Inproj.plainArr (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg5)) 1536 (by norm_num),
    fun c => (fun i : Cert.Kernel3Ideal.S16x2048x512.Idx => (Cert.Kernel3Ideal.Inproj.rotatedArr (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg5)) 2056 (by norm_num) i
      * Ideal.ofBits .f32 0x3E0293EE#32 : EReal)),
    fun c => Cert.Kernel3Ideal.Inproj.rotatedArr (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg5)) 2568 (by norm_num),
    fun c => Cert.Kernel3Ideal.Inproj.plainArr (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg5)) 3080 (by norm_num), ?_, ?_⟩
  · refine (θ_run Cert.Kernel3Ideal.defs _ _).mono (fun r h c => ?_) (Cert.Kernel3Ideal.Value.run_blocks (F := Ideal) m g)
    obtain ⟨-, -, -, h3, -, h5, h6, h7, hargs⟩ := h c
    exact ⟨h3.trans (Cert.Kernel3Ideal.Inproj.final11 m c), h5.trans (Cert.Kernel3Ideal.Inproj.final13 m c),
      h6.trans (Cert.Kernel3Ideal.Inproj.final14 m c), h7.trans (Cert.Kernel3Ideal.Inproj.final15 m c), hargs⟩
  · refine (θ_run Cert.Reference3Ideal.defs _ _).mono (fun r h c => ?_) (Cert.Reference3Ideal.Value.run (F := Ideal) m' g')
    obtain ⟨h0, h1, h2, h3, hargs⟩ := h c
    obtain ⟨e0, e1, -, -, -, e5⟩ := hagree c
    refine ⟨h0.trans ((Cert.Reference3Ideal.Read.val_main_v103_eq (F := Ideal) _ _ _).trans ?_),
      h1.trans ((Cert.Reference3Ideal.Read.val_main_v104_eq (F := Ideal) m' c).trans ?_),
      h2.trans ((Cert.Reference3Ideal.Read.val_main_v105_eq (F := Ideal) m' c).trans ?_),
      h3.trans ((Cert.Reference3Ideal.Read.val_main_v106_eq (F := Ideal) _ _ _).trans ?_), hargs⟩
    · rw [e0, e1, e5]; exact (Cert.Inproj.gz_eq _ _ _).symm
    · rw [e0, e1, e5]; exact (Cert.Inproj.mq_eq _ _ _).symm
    · rw [e0, e1, e5]; exact (Cert.Inproj.mk_eq _ _ _).symm
    · rw [e0, e1, e5]; exact (Cert.Inproj.mv_eq _ _ _).symm

/-- The certificate: the frames, the idealizations, and the equalities of the results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ,
  fun m ρ _ => Cert.Kernel2.Gen.frame m ρ, fun m ρ _ => Cert.Kernel2Ideal.Gen.frame m ρ, fun m ρ _ => reference2_frame m ρ,
  fun m ρ _ => Cert.Kernel3.Gen.frame m ρ, fun m ρ _ => Cert.Kernel3Ideal.Gen.frame m ρ, fun m ρ _ => reference3_frame m ρ,
  trivial, algebraic, trivial, algebraic2, trivial, algebraic3⟩

end Cert.Proof

end
